-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 1024, 32, 128]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 1024, 32, 128]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x4096 : Shape := ⟨2, ![1024, 4096]⟩
abbrev S1x1024x8x128 : Shape := ⟨4, ![1, 1024, 8, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  bcast_S_S1024x4096 : S_.BroadcastsInDim S1024x4096 (![] : Fin 0 → Fin S1024x4096.rank)
  bcast_S_S1x1024x8x128 : S_.BroadcastsInDim S1x1024x8x128 (![] : Fin 0 → Fin S1x1024x8x128.rank)

variable [Facts]

def fn {F : FTy → Type} [FloatOps F] (main_arg0 : FVec F S1x1024x1024 .f32) (main_arg1 : FVec F S1024x4096 .f32) (main_arg2 : FVec F S1x1024x8x128 .f32) (main_arg3 : FVec F S1x1024x8x128 .f32) (main_arg4 : FVec F S4096x1024 .f32) : IVec S1x1024x1024 1 × IVec S1024x4096 1 × IVec S1x1024x8x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S1x1024x8x128 .f32 := Host.absf main_arg2
  let main_cst_1 : FVec F S_ .f32 := constant S_ .f32 0x7F800000#32
  let main_v7 : FVec F S1x1024x8x128 .f32 := broadcastInDim S1x1024x8x128 ![] bcast_S_S1x1024x8x128 main_cst_1
  let main_v8 : IVec S1x1024x8x128 1 := cmpf .olt main_v6 main_v7
  (main_v2, main_v5, main_v8)
-- ==== Pre_finite_ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  bcast_S_S1024x4096 : S_.BroadcastsInDim S1024x4096 (![] : Fin 0 → Fin S1024x4096.rank)
  bcast_S_S1x1024x32x128 : S_.BroadcastsInDim S1x1024x32x128 (![] : Fin 0 → Fin S1x1024x32x128.rank)

variable [Facts]

def fn {F : FTy → Type} [FloatOps F] (main_arg0 : FVec F S1x1024x1024 .f32) (main_arg1 : FVec F S1024x4096 .f32) (main_arg2 : FVec F S1x1024x32x128 .f32) (main_arg3 : FVec F S1x1024x32x128 .f32) (main_arg4 : FVec F S4096x1024 .f32) : IVec S1x1024x1024 1 × IVec S1024x4096 1 × IVec S1x1024x32x128 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S1x1024x32x128 .f32 := Host.absf main_arg2
  let main_cst_1 : FVec F S_ .f32 := constant S_ .f32 0x7F800000#32
  let main_v7 : FVec F S1x1024x32x128 .f32 := broadcastInDim S1x1024x32x128 ![] bcast_S_S1x1024x32x128 main_cst_1
  let main_v8 : IVec S1x1024x32x128 1 := cmpf .olt main_v6 main_v7
  (main_v2, main_v5, main_v8)
-- ==== Kernel.lean ====
abbrev S1x1024x1024 : Shape := ⟨3, ![1, 1024, 1024]⟩
abbrev S1024x4096 : Shape := ⟨2, ![1024, 4096]⟩
abbrev S1x1024x8x128 : Shape := ⟨4, ![1, 1024, 8, 128]⟩
abbrev S4096x1024 : Shape := ⟨2, ![4096, 1024]⟩
abbrev S1024x1024 : Shape := ⟨2, ![1024, 1024]⟩
abbrev S8x1024x128 : Shape := ⟨3, ![8, 1024, 128]⟩
abbrev S256x1024 : Shape := ⟨2, ![256, 1024]⟩
abbrev S3x256x1024 : Shape := ⟨3, ![3, 256, 1024]⟩
abbrev S5 : Shape := ⟨1, ![5]⟩
abbrev S3 : Shape := ⟨1, ![3]⟩
abbrev S1 : Shape := ⟨1, ![1]⟩
abbrev S_ : Shape := ⟨0, ![]⟩
abbrev S1x1024x128 : Shape := ⟨3, ![1, 1024, 128]⟩
abbrev S1024x128 : Shape := ⟨2, ![1024, 128]⟩
abbrev S1x1024x1x128 : Shape := ⟨4, ![1, 1024, 1, 128]⟩
abbrev S32x128 : Shape := ⟨2, ![32, 128]⟩
abbrev S32x1024 : Shape := ⟨2, ![32, 1024]⟩
abbrev S32 : Shape := ⟨1, ![32]⟩
abbrev S32x1 : Shape := ⟨2, ![32, 1]⟩
abbrev S224x512 : Shape := ⟨2, ![224, 512]⟩
abbrev S224x128 : Shape := ⟨2, ![224, 128]⟩
abbrev S1x512x128 : Shape := ⟨3, ![1, 512, 128]⟩
abbrev S512x128 : Shape := ⟨2, ![512, 128]⟩
abbrev S224 : Shape := ⟨1, ![224]⟩
abbrev S224x1 : Shape := ⟨2, ![224, 1]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S1x256x1024 : Shape := ⟨3, ![1, 256, 1024]⟩

abbrev nBuf : Space → Nat
  | .hbm => 6
  | .vmem => 18
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1x1024x8x128, .f32⟩
  | .hbm, ⟨3, _⟩ => ⟨S1x1024x8x128, .f32⟩
  | .hbm, ⟨4, _⟩ => ⟨S4096x1024, .f32⟩
  | .hbm, ⟨5, _⟩ => ⟨S1x1024x1024, .bf16⟩
  | .local _ .vmem, ⟨0, _⟩ => ⟨S1x1024x1024, .bf16⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024x128, .f32⟩
  | .local _ .vmem, ⟨5, _⟩ => ⟨S8x1024x128, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S8x1024x128, .bf16⟩
  | .local _ .vmem, ⟨10, _⟩ => ⟨S8x1024x128, .bf16⟩
  | .local _ .vmem, ⟨11, _⟩ => ⟨S1024x1024, .bf16⟩
  | .local _ .vmem, ⟨12, _⟩ => ⟨S256x1024, .bf16⟩
  | .local _ .vmem, ⟨13, _⟩ => ⟨S256x1024, .f32⟩
  | .local _ .vmem, ⟨14, _⟩ => ⟨S3x256x1024, .bf16⟩
  | .local _ .vmem, ⟨15, _⟩ => ⟨S3x256x1024, .bf16⟩
  | .local _ .vmem, ⟨16, _⟩ => ⟨S256x1024, .bf16⟩
  | .local _ .vmem, ⟨17, _⟩ => ⟨S3x256x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_scratch13 : Ref sig .tc := ⟨.vmem, 14, rfl⟩
abbrev cc0_scratch14 : Ref sig .tc := ⟨.vmem, 15, rfl⟩
abbrev cc0_scratch15 : Ref sig .tc := ⟨.vmem, 16, rfl⟩
abbrev cc0_scratch16 : Ref sig .tc := ⟨.vmem, 17, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v3 : BitVec 32 := Scalar.muli v2 c1024_i32
  ![0, v3.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_0 : BitVec 32 := 1024#32
  let v4 : BitVec 32 := Scalar.muli v2 c1024_i32_0
  let c0_i32_6 : BitVec 32 := 0#32
  ![v4.toNat, 0]
def k0_dev1 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_131 : BitVec 32 := 1#32
  let v112 : BitVec 32 := Scalar.addi v2 c1_i32_131
  let c0_i32_132 : BitVec 32 := 0#32
  let v113 : BitVec 32 := Scalar.addi v112 c0_i32_132
  let c4_i32_133 : BitVec 32 := 4#32
  let v114 : BitVec 32 := Scalar.remsi v113 c4_i32_133
  let c1_i32_135 : BitVec 32 := 1#32
  let v115 : BitVec 32 := Scalar.muli v114 c1_i32_135
  let v116 : BitVec 32 := Scalar.addi c0_i32_136 v115
  v116.toNat
def k0_dev2 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_137 : BitVec 32 := 1#32
  let v117 : BitVec 32 := Scalar.addi v2 c1_i32_137
  let c1_i32_138 : BitVec 32 := 1#32
  let v118 : BitVec 32 := Scalar.addi v117 c1_i32_138
  let c4_i32_139 : BitVec 32 := 4#32
  let v119 : BitVec 32 := Scalar.remsi v118 c4_i32_139
  let c1_i32_141 : BitVec 32 := 1#32
  let v120 : BitVec 32 := Scalar.muli v119 c1_i32_141
  let v121 : BitVec 32 := Scalar.addi c0_i32_142 v120
  v121.toNat
def k0_dev3 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_143 : BitVec 32 := 1#32
  let v122 : BitVec 32 := Scalar.addi v2 c1_i32_143
  let c2_i32_144 : BitVec 32 := 2#32
  let v123 : BitVec 32 := Scalar.addi v122 c2_i32_144
  let c4_i32_145 : BitVec 32 := 4#32
  let v124 : BitVec 32 := Scalar.remsi v123 c4_i32_145
  let c1_i32_147 : BitVec 32 := 1#32
  let v125 : BitVec 32 := Scalar.muli v124 c1_i32_147
  let v126 : BitVec 32 := Scalar.addi c0_i32_148 v125
  v126.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c256_i32 : BitVec 32 := 256#32
  let v356 : BitVec 32 := Scalar.muli v355 c256_i32
  let c0_i32_398 : BitVec 32 := 0#32
  let v360 : BitVec 1 := Scalar.cmpi .ne v356 c0_i32_398
  let v361 : BitVec 32 := Scalar.extui v360
  let c0_i32_399 : BitVec 32 := 0#32
  let v362 : BitVec 1 := Scalar.cmpi .ne v361 c0_i32_399
  v362

def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c256_i32 : BitVec 32 := 256#32
  let v356 : BitVec 32 := Scalar.muli v355 c256_i32
  let c0_i32_669 : BitVec 32 := 0#32
  let v640 : BitVec 32 := Scalar.addi v356 c0_i32_669
  let v641 : Index := Scalar.indexCast v640
  let c0_670 : Index := 0#32
  ![v641.toNat, 0]
def k0_off4 (d0 : Dev nD) : Fin 3 → Nat :=
  let c0_671 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c256_i32 : BitVec 32 := 256#32
  let v356 : BitVec 32 := Scalar.muli v355 c256_i32
  let c128_i32 : BitVec 32 := 128#32
  let v617 : BitVec 32 := Scalar.subi v356 c128_i32
  let c512_i32 : BitVec 32 := 512#32
  let v618 : BitVec 32 := Scalar.minsi v617 c512_i32
  let v643 : Index := Scalar.indexCast v618
  let c0_672 : Index := 0#32
  ![0, v643.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c256_i32 : BitVec 32 := 256#32
  let v356 : BitVec 32 := Scalar.muli v355 c256_i32
  let c0_i32_692 : BitVec 32 := 0#32
  let v679 : BitVec 32 := Scalar.addi v356 c0_i32_692
  let v680 : Index := Scalar.indexCast v679
  let c128 : Index := 128#32
  ![v680.toNat, 128]
def k0_off6 (d0 : Dev nD) : Fin 3 → Nat :=
  let c1_693 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c256_i32 : BitVec 32 := 256#32
  let v356 : BitVec 32 := Scalar.muli v355 c256_i32
  let c128_i32 : BitVec 32 := 128#32
  let v617 : BitVec 32 := Scalar.subi v356 c128_i32
  let c512_i32 : BitVec 32 := 512#32
  let v618 : BitVec 32 := Scalar.minsi v617 c512_i32
  let v682 : Index := Scalar.indexCast v618
  let c0_694 : Index := 0#32
  ![1, v682.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c256_i32 : BitVec 32 := 256#32
  let v356 : BitVec 32 := Scalar.muli v355 c256_i32
  let c0_i32_714 : BitVec 32 := 0#32
  let v718 : BitVec 32 := Scalar.addi v356 c0_i32_714
  let v719 : Index := Scalar.indexCast v718
  let c256 : Index := 256#32
  ![v719.toNat, 256]
def k0_off8 (d0 : Dev nD) : Fin 3 → Nat :=
  let c2_715 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c256_i32 : BitVec 32 := 256#32
  let v356 : BitVec 32 := Scalar.muli v355 c256_i32
  let c128_i32 : BitVec 32 := 128#32
  let v617 : BitVec 32 := Scalar.subi v356 c128_i32
  let c512_i32 : BitVec 32 := 512#32
  let v618 : BitVec 32 := Scalar.minsi v617 c512_i32
  let v721 : Index := Scalar.indexCast v618
  let c0_716 : Index := 0#32
  ![2, v721.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c256_i32 : BitVec 32 := 256#32
  let v356 : BitVec 32 := Scalar.muli v355 c256_i32
  let c0_i32_736 : BitVec 32 := 0#32
  let v757 : BitVec 32 := Scalar.addi v356 c0_i32_736
  let v758 : Index := Scalar.indexCast v757
  let c384 : Index := 384#32
  ![v758.toNat, 384]
def k0_off10 (d0 : Dev nD) : Fin 3 → Nat :=
  let c3_737 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c256_i32 : BitVec 32 := 256#32
  let v356 : BitVec 32 := Scalar.muli v355 c256_i32
  let c128_i32 : BitVec 32 := 128#32
  let v617 : BitVec 32 := Scalar.subi v356 c128_i32
  let c512_i32 : BitVec 32 := 512#32
  let v618 : BitVec 32 := Scalar.minsi v617 c512_i32
  let v760 : Index := Scalar.indexCast v618
  let c0_738 : Index := 0#32
  ![3, v760.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c256_i32 : BitVec 32 := 256#32
  let v356 : BitVec 32 := Scalar.muli v355 c256_i32
  let c0_i32_758 : BitVec 32 := 0#32
  let v796 : BitVec 32 := Scalar.addi v356 c0_i32_758
  let v797 : Index := Scalar.indexCast v796
  let c512 : Index := 512#32
  ![v797.toNat, 512]
def k0_off12 (d0 : Dev nD) : Fin 3 → Nat :=
  let c4_759 : Index := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c256_i32 : BitVec 32 := 256#32
  let v356 : BitVec 32 := Scalar.muli v355 c256_i32
  let c128_i32 : BitVec 32 := 128#32
  let v617 : BitVec 32 := Scalar.subi v356 c128_i32
  let c512_i32 : BitVec 32 := 512#32
  let v618 : BitVec 32 := Scalar.minsi v617 c512_i32
  let v799 : Index := Scalar.indexCast v618
  let c0_760 : Index := 0#32
  ![4, v799.toNat, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c256_i32 : BitVec 32 := 256#32
  let v356 : BitVec 32 := Scalar.muli v355 c256_i32
  let c0_i32_780 : BitVec 32 := 0#32
  let v835 : BitVec 32 := Scalar.addi v356 c0_i32_780
  let v836 : Index := Scalar.indexCast v835
  let c640 : Index := 640#32
  ![v836.toNat, 640]
def k0_off14 (d0 : Dev nD) : Fin 3 → Nat :=
  let c5_781 : Index := 5#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c256_i32 : BitVec 32 := 256#32
  let v356 : BitVec 32 := Scalar.muli v355 c256_i32
  let c128_i32 : BitVec 32 := 128#32
  let v617 : BitVec 32 := Scalar.subi v356 c128_i32
  let c512_i32 : BitVec 32 := 512#32
  let v618 : BitVec 32 := Scalar.minsi v617 c512_i32
  let v838 : Index := Scalar.indexCast v618
  let c0_782 : Index := 0#32
  ![5, v838.toNat, 0]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c256_i32 : BitVec 32 := 256#32
  let v356 : BitVec 32 := Scalar.muli v355 c256_i32
  let c0_i32_802 : BitVec 32 := 0#32
  let v874 : BitVec 32 := Scalar.addi v356 c0_i32_802
  let v875 : Index := Scalar.indexCast v874
  let c768 : Index := 768#32
  ![v875.toNat, 768]
def k0_off16 (d0 : Dev nD) : Fin 3 → Nat :=
  let c6_803 : Index := 6#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c256_i32 : BitVec 32 := 256#32
  let v356 : BitVec 32 := Scalar.muli v355 c256_i32
  let c128_i32 : BitVec 32 := 128#32
  let v617 : BitVec 32 := Scalar.subi v356 c128_i32
  let c512_i32 : BitVec 32 := 512#32
  let v618 : BitVec 32 := Scalar.minsi v617 c512_i32
  let v877 : Index := Scalar.indexCast v618
  let c0_804 : Index := 0#32
  ![6, v877.toNat, 0]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c256_i32 : BitVec 32 := 256#32
  let v356 : BitVec 32 := Scalar.muli v355 c256_i32
  let c0_i32_824 : BitVec 32 := 0#32
  let v913 : BitVec 32 := Scalar.addi v356 c0_i32_824
  let v914 : Index := Scalar.indexCast v913
  let c896 : Index := 896#32
  ![v914.toNat, 896]
def k0_off18 (d0 : Dev nD) : Fin 3 → Nat :=
  let c7_825 : Index := 7#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c256_i32 : BitVec 32 := 256#32
  let v356 : BitVec 32 := Scalar.muli v355 c256_i32
  let c128_i32 : BitVec 32 := 128#32
  let v617 : BitVec 32 := Scalar.subi v356 c128_i32
  let c512_i32 : BitVec 32 := 512#32
  let v618 : BitVec 32 := Scalar.minsi v617 c512_i32
  let v916 : Index := Scalar.indexCast v618
  let c0_826 : Index := 0#32
  ![7, v916.toNat, 0]
def k0_dev4 (d0 : Dev nD) : Nat :=
  let c0_i32_413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_393 : BitVec 32 := 1#32
  let v353 : BitVec 32 := Scalar.addi v2 c1_i32_393
  let c0_i32_394 : BitVec 32 := 0#32
  let v354 : BitVec 32 := Scalar.addi v353 c0_i32_394
  let c4_i32_395 : BitVec 32 := 4#32
  let v355 : BitVec 32 := Scalar.remsi v354 c4_i32_395
  let c1_i32_412 : BitVec 32 := 1#32
  let v370 : BitVec 32 := Scalar.muli v355 c1_i32_412
  let v371 : BitVec 32 := Scalar.addi c0_i32_413 v370
  v371.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c256_i32_421 : BitVec 32 := 256#32
  let v383 : BitVec 32 := Scalar.muli v382 c256_i32_421
  let c0_i32_424 : BitVec 32 := 0#32
  let v387 : BitVec 1 := Scalar.cmpi .ne v383 c0_i32_424
  let v388 : BitVec 32 := Scalar.extui v387
  let c0_i32_425 : BitVec 32 := 0#32
  let v389 : BitVec 1 := Scalar.cmpi .ne v388 c0_i32_425
  v389

def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c256_i32_421 : BitVec 32 := 256#32
  let v383 : BitVec 32 := Scalar.muli v382 c256_i32_421
  let c0_i32_669 : BitVec 32 := 0#32
  let v640 : BitVec 32 := Scalar.addi v383 c0_i32_669
  let v641 : Index := Scalar.indexCast v640
  let c0_670 : Index := 0#32
  ![v641.toNat, 0]
def k0_off20 (d0 : Dev nD) : Fin 3 → Nat :=
  let c0_671 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c256_i32_421 : BitVec 32 := 256#32
  let v383 : BitVec 32 := Scalar.muli v382 c256_i32_421
  let c128_i32 : BitVec 32 := 128#32
  let v617 : BitVec 32 := Scalar.subi v383 c128_i32
  let c512_i32 : BitVec 32 := 512#32
  let v618 : BitVec 32 := Scalar.minsi v617 c512_i32
  let v643 : Index := Scalar.indexCast v618
  let c0_672 : Index := 0#32
  ![0, v643.toNat, 0]
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c256_i32_421 : BitVec 32 := 256#32
  let v383 : BitVec 32 := Scalar.muli v382 c256_i32_421
  let c0_i32_692 : BitVec 32 := 0#32
  let v679 : BitVec 32 := Scalar.addi v383 c0_i32_692
  let v680 : Index := Scalar.indexCast v679
  let c128 : Index := 128#32
  ![v680.toNat, 128]
def k0_off22 (d0 : Dev nD) : Fin 3 → Nat :=
  let c1_693 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c256_i32_421 : BitVec 32 := 256#32
  let v383 : BitVec 32 := Scalar.muli v382 c256_i32_421
  let c128_i32 : BitVec 32 := 128#32
  let v617 : BitVec 32 := Scalar.subi v383 c128_i32
  let c512_i32 : BitVec 32 := 512#32
  let v618 : BitVec 32 := Scalar.minsi v617 c512_i32
  let v682 : Index := Scalar.indexCast v618
  let c0_694 : Index := 0#32
  ![1, v682.toNat, 0]
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c256_i32_421 : BitVec 32 := 256#32
  let v383 : BitVec 32 := Scalar.muli v382 c256_i32_421
  let c0_i32_714 : BitVec 32 := 0#32
  let v718 : BitVec 32 := Scalar.addi v383 c0_i32_714
  let v719 : Index := Scalar.indexCast v718
  let c256 : Index := 256#32
  ![v719.toNat, 256]
def k0_off24 (d0 : Dev nD) : Fin 3 → Nat :=
  let c2_715 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c256_i32_421 : BitVec 32 := 256#32
  let v383 : BitVec 32 := Scalar.muli v382 c256_i32_421
  let c128_i32 : BitVec 32 := 128#32
  let v617 : BitVec 32 := Scalar.subi v383 c128_i32
  let c512_i32 : BitVec 32 := 512#32
  let v618 : BitVec 32 := Scalar.minsi v617 c512_i32
  let v721 : Index := Scalar.indexCast v618
  let c0_716 : Index := 0#32
  ![2, v721.toNat, 0]
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c256_i32_421 : BitVec 32 := 256#32
  let v383 : BitVec 32 := Scalar.muli v382 c256_i32_421
  let c0_i32_736 : BitVec 32 := 0#32
  let v757 : BitVec 32 := Scalar.addi v383 c0_i32_736
  let v758 : Index := Scalar.indexCast v757
  let c384 : Index := 384#32
  ![v758.toNat, 384]
def k0_off26 (d0 : Dev nD) : Fin 3 → Nat :=
  let c3_737 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c256_i32_421 : BitVec 32 := 256#32
  let v383 : BitVec 32 := Scalar.muli v382 c256_i32_421
  let c128_i32 : BitVec 32 := 128#32
  let v617 : BitVec 32 := Scalar.subi v383 c128_i32
  let c512_i32 : BitVec 32 := 512#32
  let v618 : BitVec 32 := Scalar.minsi v617 c512_i32
  let v760 : Index := Scalar.indexCast v618
  let c0_738 : Index := 0#32
  ![3, v760.toNat, 0]
def k0_off27 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c256_i32_421 : BitVec 32 := 256#32
  let v383 : BitVec 32 := Scalar.muli v382 c256_i32_421
  let c0_i32_758 : BitVec 32 := 0#32
  let v796 : BitVec 32 := Scalar.addi v383 c0_i32_758
  let v797 : Index := Scalar.indexCast v796
  let c512 : Index := 512#32
  ![v797.toNat, 512]
def k0_off28 (d0 : Dev nD) : Fin 3 → Nat :=
  let c4_759 : Index := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c256_i32_421 : BitVec 32 := 256#32
  let v383 : BitVec 32 := Scalar.muli v382 c256_i32_421
  let c128_i32 : BitVec 32 := 128#32
  let v617 : BitVec 32 := Scalar.subi v383 c128_i32
  let c512_i32 : BitVec 32 := 512#32
  let v618 : BitVec 32 := Scalar.minsi v617 c512_i32
  let v799 : Index := Scalar.indexCast v618
  let c0_760 : Index := 0#32
  ![4, v799.toNat, 0]
def k0_off29 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c256_i32_421 : BitVec 32 := 256#32
  let v383 : BitVec 32 := Scalar.muli v382 c256_i32_421
  let c0_i32_780 : BitVec 32 := 0#32
  let v835 : BitVec 32 := Scalar.addi v383 c0_i32_780
  let v836 : Index := Scalar.indexCast v835
  let c640 : Index := 640#32
  ![v836.toNat, 640]
def k0_off30 (d0 : Dev nD) : Fin 3 → Nat :=
  let c5_781 : Index := 5#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c256_i32_421 : BitVec 32 := 256#32
  let v383 : BitVec 32 := Scalar.muli v382 c256_i32_421
  let c128_i32 : BitVec 32 := 128#32
  let v617 : BitVec 32 := Scalar.subi v383 c128_i32
  let c512_i32 : BitVec 32 := 512#32
  let v618 : BitVec 32 := Scalar.minsi v617 c512_i32
  let v838 : Index := Scalar.indexCast v618
  let c0_782 : Index := 0#32
  ![5, v838.toNat, 0]
def k0_off31 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c256_i32_421 : BitVec 32 := 256#32
  let v383 : BitVec 32 := Scalar.muli v382 c256_i32_421
  let c0_i32_802 : BitVec 32 := 0#32
  let v874 : BitVec 32 := Scalar.addi v383 c0_i32_802
  let v875 : Index := Scalar.indexCast v874
  let c768 : Index := 768#32
  ![v875.toNat, 768]
def k0_off32 (d0 : Dev nD) : Fin 3 → Nat :=
  let c6_803 : Index := 6#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c256_i32_421 : BitVec 32 := 256#32
  let v383 : BitVec 32 := Scalar.muli v382 c256_i32_421
  let c128_i32 : BitVec 32 := 128#32
  let v617 : BitVec 32 := Scalar.subi v383 c128_i32
  let c512_i32 : BitVec 32 := 512#32
  let v618 : BitVec 32 := Scalar.minsi v617 c512_i32
  let v877 : Index := Scalar.indexCast v618
  let c0_804 : Index := 0#32
  ![6, v877.toNat, 0]
def k0_off33 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c256_i32_421 : BitVec 32 := 256#32
  let v383 : BitVec 32 := Scalar.muli v382 c256_i32_421
  let c0_i32_824 : BitVec 32 := 0#32
  let v913 : BitVec 32 := Scalar.addi v383 c0_i32_824
  let v914 : Index := Scalar.indexCast v913
  let c896 : Index := 896#32
  ![v914.toNat, 896]
def k0_off34 (d0 : Dev nD) : Fin 3 → Nat :=
  let c7_825 : Index := 7#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c256_i32_421 : BitVec 32 := 256#32
  let v383 : BitVec 32 := Scalar.muli v382 c256_i32_421
  let c128_i32 : BitVec 32 := 128#32
  let v617 : BitVec 32 := Scalar.subi v383 c128_i32
  let c512_i32 : BitVec 32 := 512#32
  let v618 : BitVec 32 := Scalar.minsi v617 c512_i32
  let v916 : Index := Scalar.indexCast v618
  let c0_826 : Index := 0#32
  ![7, v916.toNat, 0]
def k0_dev5 (d0 : Dev nD) : Nat :=
  let c0_i32_439 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_418 : BitVec 32 := 1#32
  let v380 : BitVec 32 := Scalar.addi v2 c1_i32_418
  let c1_i32_419 : BitVec 32 := 1#32
  let v381 : BitVec 32 := Scalar.addi v380 c1_i32_419
  let c4_i32_420 : BitVec 32 := 4#32
  let v382 : BitVec 32 := Scalar.remsi v381 c4_i32_420
  let c1_i32_438 : BitVec 32 := 1#32
  let v397 : BitVec 32 := Scalar.muli v382 c1_i32_438
  let v398 : BitVec 32 := Scalar.addi c0_i32_439 v397
  v398.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c256_i32_447 : BitVec 32 := 256#32
  let v410 : BitVec 32 := Scalar.muli v409 c256_i32_447
  let c0_i32_450 : BitVec 32 := 0#32
  let v414 : BitVec 1 := Scalar.cmpi .ne v410 c0_i32_450
  let v415 : BitVec 32 := Scalar.extui v414
  let c0_i32_451 : BitVec 32 := 0#32
  let v416 : BitVec 1 := Scalar.cmpi .ne v415 c0_i32_451
  v416

def k0_off35 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c256_i32_447 : BitVec 32 := 256#32
  let v410 : BitVec 32 := Scalar.muli v409 c256_i32_447
  let c0_i32_669 : BitVec 32 := 0#32
  let v640 : BitVec 32 := Scalar.addi v410 c0_i32_669
  let v641 : Index := Scalar.indexCast v640
  let c0_670 : Index := 0#32
  ![v641.toNat, 0]
def k0_off36 (d0 : Dev nD) : Fin 3 → Nat :=
  let c0_671 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c256_i32_447 : BitVec 32 := 256#32
  let v410 : BitVec 32 := Scalar.muli v409 c256_i32_447
  let c128_i32 : BitVec 32 := 128#32
  let v617 : BitVec 32 := Scalar.subi v410 c128_i32
  let c512_i32 : BitVec 32 := 512#32
  let v618 : BitVec 32 := Scalar.minsi v617 c512_i32
  let v643 : Index := Scalar.indexCast v618
  let c0_672 : Index := 0#32
  ![0, v643.toNat, 0]
def k0_off37 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c256_i32_447 : BitVec 32 := 256#32
  let v410 : BitVec 32 := Scalar.muli v409 c256_i32_447
  let c0_i32_692 : BitVec 32 := 0#32
  let v679 : BitVec 32 := Scalar.addi v410 c0_i32_692
  let v680 : Index := Scalar.indexCast v679
  let c128 : Index := 128#32
  ![v680.toNat, 128]
def k0_off38 (d0 : Dev nD) : Fin 3 → Nat :=
  let c1_693 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c256_i32_447 : BitVec 32 := 256#32
  let v410 : BitVec 32 := Scalar.muli v409 c256_i32_447
  let c128_i32 : BitVec 32 := 128#32
  let v617 : BitVec 32 := Scalar.subi v410 c128_i32
  let c512_i32 : BitVec 32 := 512#32
  let v618 : BitVec 32 := Scalar.minsi v617 c512_i32
  let v682 : Index := Scalar.indexCast v618
  let c0_694 : Index := 0#32
  ![1, v682.toNat, 0]
def k0_off39 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c256_i32_447 : BitVec 32 := 256#32
  let v410 : BitVec 32 := Scalar.muli v409 c256_i32_447
  let c0_i32_714 : BitVec 32 := 0#32
  let v718 : BitVec 32 := Scalar.addi v410 c0_i32_714
  let v719 : Index := Scalar.indexCast v718
  let c256 : Index := 256#32
  ![v719.toNat, 256]
def k0_off40 (d0 : Dev nD) : Fin 3 → Nat :=
  let c2_715 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c256_i32_447 : BitVec 32 := 256#32
  let v410 : BitVec 32 := Scalar.muli v409 c256_i32_447
  let c128_i32 : BitVec 32 := 128#32
  let v617 : BitVec 32 := Scalar.subi v410 c128_i32
  let c512_i32 : BitVec 32 := 512#32
  let v618 : BitVec 32 := Scalar.minsi v617 c512_i32
  let v721 : Index := Scalar.indexCast v618
  let c0_716 : Index := 0#32
  ![2, v721.toNat, 0]
def k0_off41 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c256_i32_447 : BitVec 32 := 256#32
  let v410 : BitVec 32 := Scalar.muli v409 c256_i32_447
  let c0_i32_736 : BitVec 32 := 0#32
  let v757 : BitVec 32 := Scalar.addi v410 c0_i32_736
  let v758 : Index := Scalar.indexCast v757
  let c384 : Index := 384#32
  ![v758.toNat, 384]
def k0_off42 (d0 : Dev nD) : Fin 3 → Nat :=
  let c3_737 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c256_i32_447 : BitVec 32 := 256#32
  let v410 : BitVec 32 := Scalar.muli v409 c256_i32_447
  let c128_i32 : BitVec 32 := 128#32
  let v617 : BitVec 32 := Scalar.subi v410 c128_i32
  let c512_i32 : BitVec 32 := 512#32
  let v618 : BitVec 32 := Scalar.minsi v617 c512_i32
  let v760 : Index := Scalar.indexCast v618
  let c0_738 : Index := 0#32
  ![3, v760.toNat, 0]
def k0_off43 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c256_i32_447 : BitVec 32 := 256#32
  let v410 : BitVec 32 := Scalar.muli v409 c256_i32_447
  let c0_i32_758 : BitVec 32 := 0#32
  let v796 : BitVec 32 := Scalar.addi v410 c0_i32_758
  let v797 : Index := Scalar.indexCast v796
  let c512 : Index := 512#32
  ![v797.toNat, 512]
def k0_off44 (d0 : Dev nD) : Fin 3 → Nat :=
  let c4_759 : Index := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c256_i32_447 : BitVec 32 := 256#32
  let v410 : BitVec 32 := Scalar.muli v409 c256_i32_447
  let c128_i32 : BitVec 32 := 128#32
  let v617 : BitVec 32 := Scalar.subi v410 c128_i32
  let c512_i32 : BitVec 32 := 512#32
  let v618 : BitVec 32 := Scalar.minsi v617 c512_i32
  let v799 : Index := Scalar.indexCast v618
  let c0_760 : Index := 0#32
  ![4, v799.toNat, 0]
def k0_off45 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c256_i32_447 : BitVec 32 := 256#32
  let v410 : BitVec 32 := Scalar.muli v409 c256_i32_447
  let c0_i32_780 : BitVec 32 := 0#32
  let v835 : BitVec 32 := Scalar.addi v410 c0_i32_780
  let v836 : Index := Scalar.indexCast v835
  let c640 : Index := 640#32
  ![v836.toNat, 640]
def k0_off46 (d0 : Dev nD) : Fin 3 → Nat :=
  let c5_781 : Index := 5#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c256_i32_447 : BitVec 32 := 256#32
  let v410 : BitVec 32 := Scalar.muli v409 c256_i32_447
  let c128_i32 : BitVec 32 := 128#32
  let v617 : BitVec 32 := Scalar.subi v410 c128_i32
  let c512_i32 : BitVec 32 := 512#32
  let v618 : BitVec 32 := Scalar.minsi v617 c512_i32
  let v838 : Index := Scalar.indexCast v618
  let c0_782 : Index := 0#32
  ![5, v838.toNat, 0]
def k0_off47 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c256_i32_447 : BitVec 32 := 256#32
  let v410 : BitVec 32 := Scalar.muli v409 c256_i32_447
  let c0_i32_802 : BitVec 32 := 0#32
  let v874 : BitVec 32 := Scalar.addi v410 c0_i32_802
  let v875 : Index := Scalar.indexCast v874
  let c768 : Index := 768#32
  ![v875.toNat, 768]
def k0_off48 (d0 : Dev nD) : Fin 3 → Nat :=
  let c6_803 : Index := 6#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c256_i32_447 : BitVec 32 := 256#32
  let v410 : BitVec 32 := Scalar.muli v409 c256_i32_447
  let c128_i32 : BitVec 32 := 128#32
  let v617 : BitVec 32 := Scalar.subi v410 c128_i32
  let c512_i32 : BitVec 32 := 512#32
  let v618 : BitVec 32 := Scalar.minsi v617 c512_i32
  let v877 : Index := Scalar.indexCast v618
  let c0_804 : Index := 0#32
  ![6, v877.toNat, 0]
def k0_off49 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c256_i32_447 : BitVec 32 := 256#32
  let v410 : BitVec 32 := Scalar.muli v409 c256_i32_447
  let c0_i32_824 : BitVec 32 := 0#32
  let v913 : BitVec 32 := Scalar.addi v410 c0_i32_824
  let v914 : Index := Scalar.indexCast v913
  let c896 : Index := 896#32
  ![v914.toNat, 896]
def k0_off50 (d0 : Dev nD) : Fin 3 → Nat :=
  let c7_825 : Index := 7#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c256_i32_447 : BitVec 32 := 256#32
  let v410 : BitVec 32 := Scalar.muli v409 c256_i32_447
  let c128_i32 : BitVec 32 := 128#32
  let v617 : BitVec 32 := Scalar.subi v410 c128_i32
  let c512_i32 : BitVec 32 := 512#32
  let v618 : BitVec 32 := Scalar.minsi v617 c512_i32
  let v916 : Index := Scalar.indexCast v618
  let c0_826 : Index := 0#32
  ![7, v916.toNat, 0]
def k0_dev6 (d0 : Dev nD) : Nat :=
  let c0_i32_465 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_444 : BitVec 32 := 1#32
  let v407 : BitVec 32 := Scalar.addi v2 c1_i32_444
  let c2_i32_445 : BitVec 32 := 2#32
  let v408 : BitVec 32 := Scalar.addi v407 c2_i32_445
  let c4_i32_446 : BitVec 32 := 4#32
  let v409 : BitVec 32 := Scalar.remsi v408 c4_i32_446
  let c1_i32_464 : BitVec 32 := 1#32
  let v424 : BitVec 32 := Scalar.muli v409 c1_i32_464
  let v425 : BitVec 32 := Scalar.addi c0_i32_465 v424
  v425.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_470 : BitVec 32 := 256#32
  let v434 : BitVec 32 := Scalar.muli v2 c256_i32_470
  let c0_i32_473 : BitVec 32 := 0#32
  let v438 : BitVec 1 := Scalar.cmpi .ne v434 c0_i32_473
  let v439 : BitVec 32 := Scalar.extui v438
  let c0_i32_474 : BitVec 32 := 0#32
  let v440 : BitVec 1 := Scalar.cmpi .ne v439 c0_i32_474
  v440

def k0_off51 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_470 : BitVec 32 := 256#32
  let v434 : BitVec 32 := Scalar.muli v2 c256_i32_470
  let c0_i32_669 : BitVec 32 := 0#32
  let v640 : BitVec 32 := Scalar.addi v434 c0_i32_669
  let v641 : Index := Scalar.indexCast v640
  let c0_670 : Index := 0#32
  ![v641.toNat, 0]
def k0_off52 (d0 : Dev nD) : Fin 3 → Nat :=
  let c0_671 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_470 : BitVec 32 := 256#32
  let v434 : BitVec 32 := Scalar.muli v2 c256_i32_470
  let c128_i32 : BitVec 32 := 128#32
  let v617 : BitVec 32 := Scalar.subi v434 c128_i32
  let c512_i32 : BitVec 32 := 512#32
  let v618 : BitVec 32 := Scalar.minsi v617 c512_i32
  let v643 : Index := Scalar.indexCast v618
  let c0_672 : Index := 0#32
  ![0, v643.toNat, 0]
def k0_off53 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_470 : BitVec 32 := 256#32
  let v434 : BitVec 32 := Scalar.muli v2 c256_i32_470
  let c0_i32_692 : BitVec 32 := 0#32
  let v679 : BitVec 32 := Scalar.addi v434 c0_i32_692
  let v680 : Index := Scalar.indexCast v679
  let c128 : Index := 128#32
  ![v680.toNat, 128]
def k0_off54 (d0 : Dev nD) : Fin 3 → Nat :=
  let c1_693 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_470 : BitVec 32 := 256#32
  let v434 : BitVec 32 := Scalar.muli v2 c256_i32_470
  let c128_i32 : BitVec 32 := 128#32
  let v617 : BitVec 32 := Scalar.subi v434 c128_i32
  let c512_i32 : BitVec 32 := 512#32
  let v618 : BitVec 32 := Scalar.minsi v617 c512_i32
  let v682 : Index := Scalar.indexCast v618
  let c0_694 : Index := 0#32
  ![1, v682.toNat, 0]
def k0_off55 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_470 : BitVec 32 := 256#32
  let v434 : BitVec 32 := Scalar.muli v2 c256_i32_470
  let c0_i32_714 : BitVec 32 := 0#32
  let v718 : BitVec 32 := Scalar.addi v434 c0_i32_714
  let v719 : Index := Scalar.indexCast v718
  let c256 : Index := 256#32
  ![v719.toNat, 256]
def k0_off56 (d0 : Dev nD) : Fin 3 → Nat :=
  let c2_715 : Index := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_470 : BitVec 32 := 256#32
  let v434 : BitVec 32 := Scalar.muli v2 c256_i32_470
  let c128_i32 : BitVec 32 := 128#32
  let v617 : BitVec 32 := Scalar.subi v434 c128_i32
  let c512_i32 : BitVec 32 := 512#32
  let v618 : BitVec 32 := Scalar.minsi v617 c512_i32
  let v721 : Index := Scalar.indexCast v618
  let c0_716 : Index := 0#32
  ![2, v721.toNat, 0]
def k0_off57 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_470 : BitVec 32 := 256#32
  let v434 : BitVec 32 := Scalar.muli v2 c256_i32_470
  let c0_i32_736 : BitVec 32 := 0#32
  let v757 : BitVec 32 := Scalar.addi v434 c0_i32_736
  let v758 : Index := Scalar.indexCast v757
  let c384 : Index := 384#32
  ![v758.toNat, 384]
def k0_off58 (d0 : Dev nD) : Fin 3 → Nat :=
  let c3_737 : Index := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_470 : BitVec 32 := 256#32
  let v434 : BitVec 32 := Scalar.muli v2 c256_i32_470
  let c128_i32 : BitVec 32 := 128#32
  let v617 : BitVec 32 := Scalar.subi v434 c128_i32
  let c512_i32 : BitVec 32 := 512#32
  let v618 : BitVec 32 := Scalar.minsi v617 c512_i32
  let v760 : Index := Scalar.indexCast v618
  let c0_738 : Index := 0#32
  ![3, v760.toNat, 0]
def k0_off59 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_470 : BitVec 32 := 256#32
  let v434 : BitVec 32 := Scalar.muli v2 c256_i32_470
  let c0_i32_758 : BitVec 32 := 0#32
  let v796 : BitVec 32 := Scalar.addi v434 c0_i32_758
  let v797 : Index := Scalar.indexCast v796
  let c512 : Index := 512#32
  ![v797.toNat, 512]
def k0_off60 (d0 : Dev nD) : Fin 3 → Nat :=
  let c4_759 : Index := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_470 : BitVec 32 := 256#32
  let v434 : BitVec 32 := Scalar.muli v2 c256_i32_470
  let c128_i32 : BitVec 32 := 128#32
  let v617 : BitVec 32 := Scalar.subi v434 c128_i32
  let c512_i32 : BitVec 32 := 512#32
  let v618 : BitVec 32 := Scalar.minsi v617 c512_i32
  let v799 : Index := Scalar.indexCast v618
  let c0_760 : Index := 0#32
  ![4, v799.toNat, 0]
def k0_off61 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_470 : BitVec 32 := 256#32
  let v434 : BitVec 32 := Scalar.muli v2 c256_i32_470
  let c0_i32_780 : BitVec 32 := 0#32
  let v835 : BitVec 32 := Scalar.addi v434 c0_i32_780
  let v836 : Index := Scalar.indexCast v835
  let c640 : Index := 640#32
  ![v836.toNat, 640]
def k0_off62 (d0 : Dev nD) : Fin 3 → Nat :=
  let c5_781 : Index := 5#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_470 : BitVec 32 := 256#32
  let v434 : BitVec 32 := Scalar.muli v2 c256_i32_470
  let c128_i32 : BitVec 32 := 128#32
  let v617 : BitVec 32 := Scalar.subi v434 c128_i32
  let c512_i32 : BitVec 32 := 512#32
  let v618 : BitVec 32 := Scalar.minsi v617 c512_i32
  let v838 : Index := Scalar.indexCast v618
  let c0_782 : Index := 0#32
  ![5, v838.toNat, 0]
def k0_off63 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_470 : BitVec 32 := 256#32
  let v434 : BitVec 32 := Scalar.muli v2 c256_i32_470
  let c0_i32_802 : BitVec 32 := 0#32
  let v874 : BitVec 32 := Scalar.addi v434 c0_i32_802
  let v875 : Index := Scalar.indexCast v874
  let c768 : Index := 768#32
  ![v875.toNat, 768]
def k0_off64 (d0 : Dev nD) : Fin 3 → Nat :=
  let c6_803 : Index := 6#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_470 : BitVec 32 := 256#32
  let v434 : BitVec 32 := Scalar.muli v2 c256_i32_470
  let c128_i32 : BitVec 32 := 128#32
  let v617 : BitVec 32 := Scalar.subi v434 c128_i32
  let c512_i32 : BitVec 32 := 512#32
  let v618 : BitVec 32 := Scalar.minsi v617 c512_i32
  let v877 : Index := Scalar.indexCast v618
  let c0_804 : Index := 0#32
  ![6, v877.toNat, 0]
def k0_off65 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_470 : BitVec 32 := 256#32
  let v434 : BitVec 32 := Scalar.muli v2 c256_i32_470
  let c0_i32_824 : BitVec 32 := 0#32
  let v913 : BitVec 32 := Scalar.addi v434 c0_i32_824
  let v914 : Index := Scalar.indexCast v913
  let c896 : Index := 896#32
  ![v914.toNat, 896]
def k0_off66 (d0 : Dev nD) : Fin 3 → Nat :=
  let c7_825 : Index := 7#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_470 : BitVec 32 := 256#32
  let v434 : BitVec 32 := Scalar.muli v2 c256_i32_470
  let c128_i32 : BitVec 32 := 128#32
  let v617 : BitVec 32 := Scalar.subi v434 c128_i32
  let c512_i32 : BitVec 32 := 512#32
  let v618 : BitVec 32 := Scalar.minsi v617 c512_i32
  let v916 : Index := Scalar.indexCast v618
  let c0_826 : Index := 0#32
  ![7, v916.toNat, 0]
def k0_off67 (d0 : Dev nD) : Fin 3 → Nat :=
  let c0_540 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_539 : BitVec 32 := 256#32
  let v501 : BitVec 32 := Scalar.muli v2 c256_i32_539
  let v502 : Index := Scalar.indexCast v501
  let c0_541 : Index := 0#32
  ![0, v502.toNat, 0]
def k0_dev7 (d0 : Dev nD) : Nat :=
  let c0_i32_549 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_542 : BitVec 32 := 1#32
  let v506 : BitVec 32 := Scalar.addi v2 c1_i32_542
  let c1_i32_543 : BitVec 32 := 1#32
  let v507 : BitVec 32 := Scalar.addi v506 c1_i32_543
  let c4_i32_544 : BitVec 32 := 4#32
  let v508 : BitVec 32 := Scalar.remsi v507 c4_i32_544
  let c1_i32_548 : BitVec 32 := 1#32
  let v509 : BitVec 32 := Scalar.muli v508 c1_i32_548
  let v510 : BitVec 32 := Scalar.addi c0_i32_549 v509
  v510.toNat
def k0_dev8 (d0 : Dev nD) : Nat :=
  let c0_i32_559 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_552 : BitVec 32 := 1#32
  let v517 : BitVec 32 := Scalar.addi v2 c1_i32_552
  let c0_i32_553 : BitVec 32 := 0#32
  let v518 : BitVec 32 := Scalar.addi v517 c0_i32_553
  let c4_i32_554 : BitVec 32 := 4#32
  let v519 : BitVec 32 := Scalar.remsi v518 c4_i32_554
  let c1_i32_558 : BitVec 32 := 1#32
  let v520 : BitVec 32 := Scalar.muli v519 c1_i32_558
  let v521 : BitVec 32 := Scalar.addi c0_i32_559 v520
  v521.toNat
def k0_dev9 (d0 : Dev nD) : Nat :=
  let c0_i32_569 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_562 : BitVec 32 := 1#32
  let v528 : BitVec 32 := Scalar.addi v2 c1_i32_562
  let c2_i32_563 : BitVec 32 := 2#32
  let v529 : BitVec 32 := Scalar.addi v528 c2_i32_563
  let c4_i32_564 : BitVec 32 := 4#32
  let v530 : BitVec 32 := Scalar.remsi v529 c4_i32_564
  let c1_i32_568 : BitVec 32 := 1#32
  let v531 : BitVec 32 := Scalar.muli v530 c1_i32_568
  let v532 : BitVec 32 := Scalar.addi c0_i32_569 v531
  v532.toNat
def k0_off68 (d0 : Dev nD) (c2_i32_580 : BitVec 32) : Fin 3 → Nat :=
  let c0_586 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_579 : BitVec 32 := 1#32
  let v545 : BitVec 32 := Scalar.addi v2 c1_i32_579
  let v546 : BitVec 32 := Scalar.addi v545 c2_i32_580
  let c4_i32_581 : BitVec 32 := 4#32
  let v547 : BitVec 32 := Scalar.remsi v546 c4_i32_581
  let c256_i32_585 : BitVec 32 := 256#32
  let v550 : BitVec 32 := Scalar.muli v547 c256_i32_585
  let v551 : Index := Scalar.indexCast v550
  let c0_587 : Index := 0#32
  ![0, v551.toNat, 0]
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S1x1024x4096 : Shape := ⟨3, ![1, 1024, 4096]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x32x1024x1024 : Shape := ⟨4, ![1, 32, 1024, 1024]⟩
abbrev S1x1x1024x1024 : Shape := ⟨4, ![1, 1, 1024, 1024]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 68
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x4096, .f32⟩
  | .hbm, ⟨2, _⟩ => ⟨S1x1024x32x128, .f32⟩
  | .hbm, ⟨3, _⟩ => ⟨S1x1024x32x128, .f32⟩
  | .hbm, ⟨4, _⟩ => ⟨S4096x1024, .f32⟩
  | .hbm, ⟨5, _⟩ => ⟨S1x1024x4096, .f32⟩
  | .hbm, ⟨6, _⟩ => ⟨S1x1024x32x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S_, .i32⟩
  | .hbm, ⟨19, _⟩ => ⟨S1x1024, .i32⟩
  | .hbm, ⟨20, _⟩ => ⟨S1x1024, .i1⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x1024, .i1⟩
  | .hbm, ⟨25, _⟩ => ⟨S1024x1024, .i1⟩
  | .hbm, ⟨26, _⟩ => ⟨S1024x1024, .i1⟩
  | .hbm, ⟨27, _⟩ => ⟨S1024x1024, .i1⟩
  | .hbm, ⟨28, _⟩ => ⟨S1x32x1024x1024, .f32⟩
  | .hbm, ⟨29, _⟩ => ⟨S_, .f32⟩
  | .hbm, ⟨30, _⟩ => ⟨S1x32x1024x1024, .f32⟩
  | .hbm, ⟨31, _⟩ => ⟨S1x32x1024x1024, .f32⟩
  | .hbm, ⟨32, _⟩ => ⟨S1x1x1024x1024, .i1⟩
  | .hbm, ⟨33, _⟩ => ⟨S_, .f32⟩
  | .hbm, ⟨34, _⟩ => ⟨S_, .f32⟩
  | .hbm, ⟨35, _⟩ => ⟨S1x32x1024x1024, .i1⟩
  | .hbm, ⟨36, _⟩ => ⟨S1x32x1024x1024, .f32⟩
  | .hbm, ⟨37, _⟩ => ⟨S1x32x1024x1024, .f32⟩
  | .hbm, ⟨38, _⟩ => ⟨S_, .f32⟩
  | .hbm, ⟨39, _⟩ => ⟨S1x32x1024, .f32⟩
  | .hbm, ⟨40, _⟩ => ⟨S1x32x1024x1, .f32⟩
  | .hbm, ⟨41, _⟩ => ⟨S1x32x1024x1024, .f32⟩
  | .hbm, ⟨42, _⟩ => ⟨S1x32x1024x1024, .f32⟩
  | .hbm, ⟨43, _⟩ => ⟨S1x32x1024x1024, .f32⟩
  | .hbm, ⟨44, _⟩ => ⟨S_, .i1⟩
  | .hbm, ⟨45, _⟩ => ⟨S1024, .i1⟩
  | .hbm, ⟨46, _⟩ => ⟨S1x1x1024x1, .i1⟩
  | .hbm, ⟨47, _⟩ => ⟨S_, .f32⟩
  | .hbm, ⟨48, _⟩ => ⟨S1x32x1024, .f32⟩
  | .hbm, ⟨49, _⟩ => ⟨S1x32x1024x1, .f32⟩
  | .hbm, ⟨50, _⟩ => ⟨S_, .f32⟩
  | .hbm, ⟨51, _⟩ => ⟨S_, .f32⟩
  | .hbm, ⟨52, _⟩ => ⟨S1x32x1024x1, .i1⟩
  | .hbm, ⟨53, _⟩ => ⟨S1x32x1024x1, .f32⟩
  | .hbm, ⟨54, _⟩ => ⟨S1x32x1024x1, .f32⟩
  | .hbm, ⟨55, _⟩ => ⟨S1x32x1024x1024, .f32⟩
  | .hbm, ⟨56, _⟩ => ⟨S1x32x1024x1024, .f32⟩
  | .hbm, ⟨57, _⟩ => ⟨S1x1x1024x1, .i1⟩
  | .hbm, ⟨58, _⟩ => ⟨S_, .f32⟩
  | .hbm, ⟨59, _⟩ => ⟨S_, .f32⟩
  | .hbm, ⟨60, _⟩ => ⟨S1x32x1024x1024, .i1⟩
  | .hbm, ⟨61, _⟩ => ⟨S1x32x1024x1024, .f32⟩
  | .hbm, ⟨62, _⟩ => ⟨S1x32x1024x1024, .f32⟩
  | .hbm, ⟨63, _⟩ => ⟨S1x32x128x1024, .f32⟩
  | .hbm, ⟨64, _⟩ => ⟨S1x1024x32x128, .f32⟩
  | .hbm, ⟨65, _⟩ => ⟨S1x1024x4096, .f32⟩
  | .hbm, ⟨66, _⟩ => ⟨S1x1024x1024, .f32⟩
  | .hbm, ⟨67, _⟩ => ⟨S1x1024x1024, .bf16⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== Proof.Blocks.lean ====
/- The kernel's body in short form: its loops over the eight heads of a device written once with the head as a
   variable, and its attention over one chunk of 256 query rows written once with the chunk's first row as a word.
   Nothing is proved here beyond the side conditions of the accesses. -/
module

public import proofs.«01_k».proof.Proof.Gen.KernelIdeal.Points

@[expose] public section

noncomputable section

namespace Cert.KernelProof

open Cert.KernelIdeal
open Idealize.ShloMosaic Idealize.ShloMosaic.TcCoe
open Idealize.SL Idealize.SL.Sem
open Facts₀ Facts

variable {F : FTy → Type} [FloatOps F] [Named F]

/-- Programs of a TensorCore inside the kernel. -/
abbrev TcProg (F : FTy → Type) [FloatOps F] (α : Type) := Prog (TpuEff nD τ sig (Elt F) Λ₀ .tc) α

/-! ## Buffers -/

abbrev bX : Memref sig .tc .hbm S1x1024x1024 .f32 := Memref.whole main_arg0
abbrev bWq : Memref sig .tc .hbm S1024x4096 .f32 := Memref.whole main_arg1
abbrev bKx : Memref sig .tc .hbm S1x1024x8x128 .f32 := Memref.whole main_arg2
abbrev bVx : Memref sig .tc .hbm S1x1024x8x128 .f32 := Memref.whole main_arg3
abbrev bWo : Memref sig .tc .hbm S4096x1024 .f32 := Memref.whole main_arg4
abbrev bOut : Memref sig .tc .vmem S1x1024x1024 .bf16 := Memref.whole cc0_stg0_0
abbrev bXf : Memref sig .tc .vmem S1024x1024 .f32 := Memref.whole cc0_scratch0
abbrev bWqf : Memref sig .tc .vmem S1024x1024 .f32 := Memref.whole cc0_scratch1
abbrev bWof : Memref sig .tc .vmem S1024x1024 .f32 := Memref.whole cc0_scratch2
abbrev bKf : Memref sig .tc .vmem S8x1024x128 .f32 := Memref.whole cc0_scratch3
abbrev bVf : Memref sig .tc .vmem S8x1024x128 .f32 := Memref.whole cc0_scratch4
abbrev bXb : Memref sig .tc .vmem S1024x1024 .bf16 := Memref.whole cc0_scratch5
abbrev bWqb : Memref sig .tc .vmem S1024x1024 .bf16 := Memref.whole cc0_scratch6
abbrev bWob : Memref sig .tc .vmem S1024x1024 .bf16 := Memref.whole cc0_scratch7
abbrev bKb : Memref sig .tc .vmem S8x1024x128 .bf16 := Memref.whole cc0_scratch8
abbrev bVb : Memref sig .tc .vmem S8x1024x128 .bf16 := Memref.whole cc0_scratch9
abbrev bQ : Memref sig .tc .vmem S1024x1024 .bf16 := Memref.whole cc0_scratch10
abbrev bCtx : Memref sig .tc .vmem S256x1024 .bf16 := Memref.whole cc0_scratch11
abbrev bAcc : Memref sig .tc .vmem S256x1024 .f32 := Memref.whole cc0_scratch12
abbrev bSA : Memref sig .tc .vmem S3x256x1024 .bf16 := Memref.whole cc0_scratch13
abbrev bRA : Memref sig .tc .vmem S3x256x1024 .bf16 := Memref.whole cc0_scratch14
abbrev bSB : Memref sig .tc .vmem S256x1024 .bf16 := Memref.whole cc0_scratch15
abbrev bRB : Memref sig .tc .vmem S3x256x1024 .bf16 := Memref.whole cc0_scratch16

/-! ## Eight heads in a row -/

/-- The eight heads of a device, one after the other. -/
def heads (body : Fin 8 → TcProg F PUnit) : TcProg F PUnit := do
  body 0; body 1; body 2; body 3; body 4; body 5; body 6; body 7

/-! ## Rectangles of a head -/

theorem inb_q32 (h : Fin 8) : ∀ a, (![0, 128 * h.val] : Fin 2 → Nat) a + S32x128.size a ≤ S1024x1024.size a := by
  revert h; decide
theorem inb_q224 (h : Fin 8) : ∀ a, (![32, 128 * h.val] : Fin 2 → Nat) a + S224x128.size a ≤ S1024x1024.size a := by
  revert h; decide
theorem inb_c32 (h : Fin 8) : ∀ a, (![0, 128 * h.val] : Fin 2 → Nat) a + S32x128.size a ≤ S256x1024.size a := by
  revert h; decide
theorem inb_c224 (h : Fin 8) : ∀ a, (![32, 128 * h.val] : Fin 2 → Nat) a + S224x128.size a ≤ S256x1024.size a := by
  revert h; decide
theorem inb_c256 (h : Fin 8) : ∀ a, (![0, 128 * h.val] : Fin 2 → Nat) a + S256x128.size a ≤ S256x1024.size a := by
  revert h; decide
theorem inb_k1024 (h : Fin 8) : ∀ a, (![h.val, 0, 0] : Fin 3 → Nat) a + S1x1024x128.size a ≤ S8x1024x128.size a := by
  revert h; decide
theorem inb_k512 (h : Fin 8) : ∀ a, (![h.val, 0, 0] : Fin 3 → Nat) a + S1x512x128.size a ≤ S8x1024x128.size a := by
  revert h; decide
theorem inb_k128 (h : Fin 8) : ∀ a, (![h.val, 0, 0] : Fin 3 → Nat) a + S1x128x128.size a ≤ S8x1024x128.size a := by
  revert h; decide
theorem inb_kx (h : Fin 8) : ∀ a, (![0, 0, h.val, 0] : Fin 4 → Nat) a + S1x1024x1x128.size a ≤ S1x1024x8x128.size a := by
  revert h; decide

abbrev rQ32 (h : Fin 8) : Rect S1024x1024 := Rect.unit (s := S1024x1024) ![0, 128 * h.val] S32x128.size (inb_q32 h)
abbrev rQ224 (h : Fin 8) : Rect S1024x1024 := Rect.unit (s := S1024x1024) ![32, 128 * h.val] S224x128.size (inb_q224 h)
abbrev rC32 (h : Fin 8) : Rect S256x1024 := Rect.unit (s := S256x1024) ![0, 128 * h.val] S32x128.size (inb_c32 h)
abbrev rC224 (h : Fin 8) : Rect S256x1024 := Rect.unit (s := S256x1024) ![32, 128 * h.val] S224x128.size (inb_c224 h)
abbrev rC256 (h : Fin 8) : Rect S256x1024 := Rect.unit (s := S256x1024) ![0, 128 * h.val] S256x128.size (inb_c256 h)
abbrev rK1024 (h : Fin 8) : Rect S8x1024x128 := Rect.unit (s := S8x1024x128) ![h.val, 0, 0] S1x1024x128.size (inb_k1024 h)
abbrev rK512 (h : Fin 8) : Rect S8x1024x128 := Rect.unit (s := S8x1024x128) ![h.val, 0, 0] S1x512x128.size (inb_k512 h)
abbrev rK128 (h : Fin 8) : Rect S8x1024x128 := Rect.unit (s := S8x1024x128) ![h.val, 0, 0] S1x128x128.size (inb_k128 h)

theorem packed_c32 (h : Fin 8) : (rC32 h).PackedRows (EltTy.packing .bf16) := by revert h; decide
theorem packed_c224 (h : Fin 8) : (rC224 h).PackedRows (EltTy.packing .bf16) := by revert h; decide
theorem packed_c256 (h : Fin 8) : (rC256 h).PackedRows (EltTy.packing .bf16) := by revert h; decide
theorem packed_k1024 (h : Fin 8) : (rK1024 h).PackedRows (EltTy.packing .bf16) := by revert h; decide

/-! ## The first chunk: its first 32 rows attend to all keys, the others to a window of 512 -/

/-- One over a column of sums. -/
def recip {s : Shape} (d : FVec F s .f32) : FVec F s .f32 := divf (broadcast s (Scalar.ofBits .f32 0x3F800000#32)) d

/-- The unnormalised weights of the rows that attend to every key. -/
def globalExp (q : Vec F S32x128 .bf16) (k : Vec F S1x1024x128 .bf16) : FVec F S32x1024 .f32 :=
  exp (matmul dot_S32x128_S1024x128_S32x1024_1_1_0_0_n_n none q (shapeCast S1024x128 k shapeCasts_S1x1024x128_S1024x128)
    (constant S32x1024 .f32 0x00000000#32))

/-- What the rows that attend to every key get from one head. -/
def globalVal (q : Vec F S32x128 .bf16) (k v : Vec F S1x1024x128 .bf16) : FVec F S32x128 .bf16 :=
  shapeCast S32x128 (truncf .bf16 (mulf
    (matmul dot_S32x1024_S1024x128_S32x128_1_0_0_1_n_n none (truncf .bf16 (globalExp q k) bitsLt_bf16_f32)
      (shapeCast S1024x128 v shapeCasts_S1x1024x128_S1024x128) (constant S32x128 .f32 0x00000000#32))
    (broadcastTo S32x128 (recip (shapeCast S32x1
      (multiReduction .add [1] S32 (globalExp q k) 0x00000000#32 reduces_S32x1024_S32 (.inl rfl) rfl)
      shapeCasts_S32_S32x1)) broadcasts_S32x1_S32x128)) bitsLt_bf16_f32) shapeCasts_S32x128_S32x128

/-- One head of the rows that attend to every key. -/
def globalHead (h : Fin 8) : TcProg F PUnit := do
  let q : Vec F S32x128 .bf16 ← Prog.lift (.load bQ (rQ32 h).toLoadRect (View.loadsAt_vmem h_S32x128))
  let k : Vec F S1x1024x128 .bf16 ← Prog.lift (.load bKb (rK1024 h).toLoadRect (View.loadsAt_vmem h_S1x1024x128))
  let v : Vec F S1x1024x128 .bf16 ← Prog.lift (.load bVb (rK1024 h).toLoadRect (View.loadsAt_vmem h_S1x1024x128))
  let _c : Vec F S32x128 .bf16 ← Prog.lift (.load bCtx (rC32 h).toLoadRect (View.loadsAt_vmem h_S32x128))
  Prog.lift (.store bCtx (rC32 h) (globalVal q k v) Finset.univ
    (View.stores_vmem h_S32x128 ((Memref.isWhole_whole _).storeExact_slice rfl _ (packed_c32 h)) (fun _ => rfl)) (.inl rfl))

/-- The mask of rows 32 to 255 against the first 512 keys. -/
def winMask : IVec S224x512 1 :=
  have q : IVec S224x512 32 := addi (addi (iota .tc S224x512 32 [0] iota_S224x512_d0_w32) (broadcast S224x512 0#32))
    (broadcast S224x512 32#32)
  have k : IVec S224x512 32 := addi (iota .tc S224x512 32 [1] iota_S224x512_d1_w32) (broadcast S224x512 0#32)
  ori (cmpi .sle (absi (subi q k)) (broadcast S224x512 128#32)) (cmpi .slt k (broadcast S224x512 32#32))

/-- The unnormalised weights of rows 32 to 255. -/
def winExp (q : Vec F S224x128 .bf16) (k : Vec F S1x512x128 .bf16) : FVec F S224x512 .f32 :=
  exp (select winMask
    (matmul dot_S224x128_S512x128_S224x512_1_1_0_0_n_n none q (shapeCast S512x128 k shapeCasts_S1x512x128_S512x128)
      (constant S224x512 .f32 0x00000000#32))
    (broadcast S224x512 (Named.named κ "mask" 0xCE6E6B28#32)))

/-- What rows 32 to 255 get from one head. -/
def winVal (q : Vec F S224x128 .bf16) (k v : Vec F S1x512x128 .bf16) : FVec F S224x128 .bf16 :=
  shapeCast S224x128 (truncf .bf16 (mulf
    (matmul dot_S224x512_S512x128_S224x128_1_0_0_1_n_n none (truncf .bf16 (winExp q k) bitsLt_bf16_f32)
      (shapeCast S512x128 v shapeCasts_S1x512x128_S512x128) (constant S224x128 .f32 0x00000000#32))
    (broadcastTo S224x128 (recip (shapeCast S224x1
      (multiReduction .add [1] S224 (winExp q k) 0x00000000#32 reduces_S224x512_S224 (.inl rfl) rfl)
      shapeCasts_S224_S224x1)) broadcasts_S224x1_S224x128)) bitsLt_bf16_f32) shapeCasts_S224x128_S224x128

/-- One head of rows 32 to 255. -/
def winHead (h : Fin 8) : TcProg F PUnit := do
  let q : Vec F S224x128 .bf16 ← Prog.lift (.load bQ (rQ224 h).toLoadRect (View.loadsAt_vmem h_S224x128))
  let k : Vec F S1x512x128 .bf16 ← Prog.lift (.load bKb (rK512 h).toLoadRect (View.loadsAt_vmem h_S1x512x128))
  let v : Vec F S1x512x128 .bf16 ← Prog.lift (.load bVb (rK512 h).toLoadRect (View.loadsAt_vmem h_S1x512x128))
  let _c : Vec F S224x128 .bf16 ← Prog.lift (.load bCtx (rC224 h).toLoadRect (View.loadsAt_vmem h_S224x128))
  Prog.lift (.store bCtx (rC224 h) (winVal q k v) Finset.univ
    (View.stores_vmem h_S224x128 ((Memref.isWhole_whole _).storeExact_slice rfl _ (packed_c224 h)) (fun _ => rfl)) (.inl rfl))

/-! ## The other chunks: a window of 512 keys and the first 128 keys -/

/-- The words a chunk starts at. -/
def ChunkWord (w : BitVec 32) : Prop := w = 0#32 ∨ w = 256#32 ∨ w = 512#32 ∨ w = 768#32

/-- The chunk is the first. -/
def isFirst (w : BitVec 32) : BitVec 1 := Scalar.cmpi .ne (Scalar.extui (Scalar.cmpi .eq w 0#32) : BitVec 32) 0#32
/-- The chunk is not the first. -/
def isLater (w : BitVec 32) : BitVec 1 := Scalar.cmpi .ne (Scalar.extui (Scalar.cmpi .ne w 0#32) : BitVec 32) 0#32

/-- The first key of a later chunk's window. -/
def base (w : BitVec 32) : BitVec 32 := Scalar.minsi (Scalar.subi w 128#32) 512#32

/-- Where a later chunk's queries of a head start. -/
def offQ (w : BitVec 32) (h : Fin 8) : Fin 2 → Nat := ![(Scalar.indexCast (Scalar.addi w 0#32) : Index).toNat, 128 * h.val]
/-- Where a later chunk's keys of a head start. -/
def offK (w : BitVec 32) (h : Fin 8) : Fin 3 → Nat := ![h.val, (Scalar.indexCast (base w) : Index).toNat, 0]

theorem inb_offQ {w : BitVec 32} (hw : ChunkWord w) (hl : isLater w = 1#1) (h : Fin 8) :
    ∀ a, offQ w h a + S256x128.size a ≤ S1024x1024.size a := by
  rcases hw with rfl | rfl | rfl | rfl
  · exact absurd hl (by decide)
  all_goals revert h; decide

theorem inb_offK {w : BitVec 32} (hw : ChunkWord w) (hl : isLater w = 1#1) (h : Fin 8) :
    ∀ a, offK w h a + S1x512x128.size a ≤ S8x1024x128.size a := by
  rcases hw with rfl | rfl | rfl | rfl
  · exact absurd hl (by decide)
  all_goals revert h; decide

/-- The mask of a later chunk against its window. -/
def bandMask (w : BitVec 32) : IVec S256x512 1 :=
  have q : IVec S256x512 32 := addi (addi (iota .tc S256x512 32 [0] iota_S256x512_d0_w32) (broadcast S256x512 w))
    (broadcast S256x512 0#32)
  have k : IVec S256x512 32 := addi (iota .tc S256x512 32 [1] iota_S256x512_d1_w32) (broadcast S256x512 (base w))
  ori (cmpi .sle (absi (subi q k)) (broadcast S256x512 128#32)) (cmpi .slt k (broadcast S256x512 32#32))

/-- The mask of a later chunk against the first 128 keys. -/
def headMask (w : BitVec 32) : IVec S256x128 1 :=
  andi (cmpi .slt (iota .tc S256x128 32 [1] iota_S256x128_d1_w32) (broadcast S256x128 32#32))
    (broadcast S256x128 (Scalar.cmpi .ne (base w) 0#32))

/-- The unnormalised weights of a later chunk on its window. -/
def bandExp (w : BitVec 32) (q : Vec F S256x128 .bf16) (k : Vec F S1x512x128 .bf16) : FVec F S256x512 .f32 :=
  exp (select (bandMask w)
    (matmul dot_S256x128_S512x128_S256x512_1_1_0_0_n_n none q (shapeCast S512x128 k shapeCasts_S1x512x128_S512x128)
      (constant S256x512 .f32 0x00000000#32))
    (broadcast S256x512 (Named.named κ "mask" 0xCE6E6B28#32)))

/-- The unnormalised weights of a later chunk on the first 128 keys. -/
def headExp (w : BitVec 32) (q : Vec F S256x128 .bf16) (k : Vec F S1x128x128 .bf16) : FVec F S256x128 .f32 :=
  exp (select (headMask w)
    (matmul dot_S256x128_S128x128_S256x128_1_1_0_0_n_n none q (shapeCast S128x128 k shapeCasts_S1x128x128_S128x128)
      (constant S256x128 .f32 0x00000000#32))
    (broadcast S256x128 (Named.named κ "mask" 0xCE6E6B28#32)))

/-- What a later chunk gets from one head. -/
def laterVal (w : BitVec 32) (q : Vec F S256x128 .bf16) (k : Vec F S1x512x128 .bf16) (kg : Vec F S1x128x128 .bf16)
    (v : Vec F S1x512x128 .bf16) (vg : Vec F S1x128x128 .bf16) : FVec F S256x128 .bf16 :=
  shapeCast S256x128 (truncf .bf16 (mulf
    (addf
      (matmul dot_S256x512_S512x128_S256x128_1_0_0_1_n_n none (truncf .bf16 (bandExp w q k) bitsLt_bf16_f32)
        (shapeCast S512x128 v shapeCasts_S1x512x128_S512x128) (constant S256x128 .f32 0x00000000#32))
      (matmul dot_S256x128_S128x128_S256x128_1_0_0_1_n_n none (truncf .bf16 (headExp w q kg) bitsLt_bf16_f32)
        (shapeCast S128x128 vg shapeCasts_S1x128x128_S128x128) (constant S256x128 .f32 0x00000000#32)))
    (broadcastTo S256x128 (recip (addf
      (shapeCast S256x1 (multiReduction .add [1] S256 (bandExp w q k) 0x00000000#32 reduces_S256x512_S256 (.inl rfl) rfl)
        shapeCasts_S256_S256x1)
      (shapeCast S256x1 (multiReduction .add [1] S256 (headExp w q kg) 0x00000000#32 reduces_S256x128_S256 (.inl rfl) rfl)
        shapeCasts_S256_S256x1))) broadcasts_S256x1_S256x128)) bitsLt_bf16_f32) shapeCasts_S256x128_S256x128

/-- One head of a later chunk. -/
def laterHead (w : BitVec 32) (hw : ChunkWord w) (hl : isLater w = 1#1) (h : Fin 8) : TcProg F PUnit := do
  let q : Vec F S256x128 .bf16 ← Prog.lift (.load bQ (Rect.unit (s := S1024x1024) (offQ w h) S256x128.size
    (inb_offQ hw hl h)).toLoadRect (View.loadsAt_vmem h_S256x128))
  let k : Vec F S1x512x128 .bf16 ← Prog.lift (.load bKb (Rect.unit (s := S8x1024x128) (offK w h) S1x512x128.size
    (inb_offK hw hl h)).toLoadRect (View.loadsAt_vmem h_S1x512x128))
  let kg : Vec F S1x128x128 .bf16 ← Prog.lift (.load bKb (rK128 h).toLoadRect (View.loadsAt_vmem h_S1x128x128))
  let v : Vec F S1x512x128 .bf16 ← Prog.lift (.load bVb (Rect.unit (s := S8x1024x128) (offK w h) S1x512x128.size
    (inb_offK hw hl h)).toLoadRect (View.loadsAt_vmem h_S1x512x128))
  let vg : Vec F S1x128x128 .bf16 ← Prog.lift (.load bVb (rK128 h).toLoadRect (View.loadsAt_vmem h_S1x128x128))
  let _c : Vec F S256x128 .bf16 ← Prog.lift (.load bCtx (rC256 h).toLoadRect (View.loadsAt_vmem h_S256x128))
  Prog.lift (.store bCtx (rC256 h) (laterVal w q k kg v vg) Finset.univ
    (View.stores_vmem h_S256x128 ((Memref.isWhole_whole _).storeExact_slice rfl _ (packed_c256 h)) (fun _ => rfl)) (.inl rfl))

/-- The attention of the first chunk, if this is the first, and then `k`. -/
def firstThen {α : Type} (w : BitVec 32) (k : TcProg F α) : TcProg F α :=
  if _hf : isFirst w = 1#1 then ((heads globalHead).bind fun _ => heads winHead).bind fun _ => k else k

/-- The attention of a later chunk, if this is one, and then `k`. -/
def laterThen {α : Type} (w : BitVec 32) (hw : ChunkWord w) (k : TcProg F α) : TcProg F α :=
  if hl : isLater w = 1#1 then (heads (laterHead w hw hl)).bind fun _ => k else k

/-- What follows `firstThen` is its continuation's. -/
theorem firstThen_bind {α β : Type} (w : BitVec 32) (k : TcProg F α) (f : α → TcProg F β) :
    (firstThen w k).bind f = firstThen w (k.bind f) := by
  unfold firstThen; split
  · exact Prog.bind_assoc _ _ _
  · rfl

/-- What follows `laterThen` is its continuation's. -/
theorem laterThen_bind {α β : Type} (w : BitVec 32) (hw : ChunkWord w) (k : TcProg F α) (f : α → TcProg F β) :
    (laterThen w hw k).bind f = laterThen w hw (k.bind f) := by
  unfold laterThen; split
  · exact Prog.bind_assoc _ _ _
  · rfl

/-- The rows of one chunk times the device's rows of the output weights. -/
def partVal (c : Vec F S256x1024 .bf16) (w : Vec F S1024x1024 .bf16) : FVec F S256x1024 .f32 :=
  matmul dot_S256x1024_S1024x1024_S256x1024_1_0_0_1_n_n none c w (constant S256x1024 .f32 0x00000000#32)

abbrev rWhole256 : Rect S256x1024 := Rect.unit (s := S256x1024) ![0, 0] S256x1024.size inb_S256x1024_S256x1024_0_0
abbrev rWhole1024 : Rect S1024x1024 := Rect.unit (s := S1024x1024) ![0, 0] S1024x1024.size inb_S1024x1024_S1024x1024_0_0

end Cert.KernelProof
-- ==== Proof.Short.lean ====
/- The kernel's body in short form, and that it is the printed body. -/
module

public import proofs.«01_k».proof.Proof.Blocks

@[expose] public section

noncomputable section

namespace Cert.KernelProof

open Cert.KernelIdeal
open Idealize.ShloMosaic Idealize.ShloMosaic.TcCoe
open Idealize.SL Idealize.SL.Sem
open Facts₀ Facts

variable {F : FTy → Type} [FloatOps F] [Named F]

/-! ## Semaphores and slots -/

theorem inb_s5 (i : Fin 5) : ∀ a, (![i.val] : Fin 1 → Nat) a + S1.size a ≤ S5.size a := by revert i; decide
theorem inb_s3 (i : Fin 3) : ∀ a, (![i.val] : Fin 1 → Nat) a + S1.size a ≤ S3.size a := by revert i; decide
theorem inb_slot (i : Fin 3) : ∀ a, (![i.val, 0, 0] : Fin 3 → Nat) a + S1x256x1024.size a ≤ S3x256x1024.size a := by
  revert i; decide

/-- The semaphores of the copies from the arguments. -/
abbrev copySem (i : Fin 5) : DmaSems sig S_ :=
  (cc0_scratch17.slice (Rect.unit (s := S5) ![i.val] S1.size (inb_s5 i))).squeeze S_ squeezes_S1_S_
/-- The semaphores of the first exchange, at the sender and at the receiver. -/
abbrev sendASem (i : Fin 3) : DmaSems sig S_ :=
  (cc0_scratch18.slice (Rect.unit (s := S3) ![i.val] S1.size (inb_s3 i))).squeeze S_ squeezes_S1_S_
abbrev recvASem (i : Fin 3) : DmaSems sig S_ :=
  (cc0_scratch19.slice (Rect.unit (s := S3) ![i.val] S1.size (inb_s3 i))).squeeze S_ squeezes_S1_S_
/-- The semaphores of the second exchange. -/
abbrev sendBSem (i : Fin 3) : DmaSems sig S_ :=
  (cc0_scratch20.slice (Rect.unit (s := S3) ![i.val] S1.size (inb_s3 i))).squeeze S_ squeezes_S1_S_
abbrev recvBSem (i : Fin 3) : DmaSems sig S_ :=
  (cc0_scratch21.slice (Rect.unit (s := S3) ![i.val] S1.size (inb_s3 i))).squeeze S_ squeezes_S1_S_

/-- One of the three slots of an exchange's buffer. -/
abbrev rSlot (i : Fin 3) : Rect S3x256x1024 :=
  Rect.unit (s := S3x256x1024) ![i.val, 0, 0] S1x256x1024.size (inb_slot i)
theorem packed_slot (i : Fin 3) : (rSlot i).PackedRows (EltTy.packing .bf16) := by revert i; decide
theorem words_slot (i : Fin 3) : (rSlot i).WholeWords (EltTy.packing .bf16) := by revert i; decide

/-- A slot as the transfers see it. -/
abbrev slot (m : Memref sig .tc .vmem S3x256x1024 .bf16) (i : Fin 3) : Memref sig .tc .vmem S256x1024 .bf16 :=
  (m.slice (rSlot i) (fun _ => rfl)).squeeze S256x1024 squeezes_S1x256x1024_S256x1024

/-- A head's keys or values in an argument, and in their copy. -/
abbrev headX (m : Memref sig .tc .hbm S1x1024x8x128 .f32) (h : Fin 8) : Memref sig .tc .hbm S1024x128 .f32 :=
  (m.slice (Rect.unit (s := S1x1024x8x128) ![0, 0, h.val, 0] S1x1024x1x128.size (inb_kx h)) (fun _ => rfl)).squeeze
    S1024x128 squeezes_S1x1024x1x128_S1024x128
abbrev headF (m : Memref sig .tc .vmem S8x1024x128 .f32) (h : Fin 8) : Memref sig .tc .vmem S1024x128 .f32 :=
  (m.slice (rK1024 h) (fun _ => rfl)).squeeze S1024x128 squeezes_S1x1024x128_S1024x128

/-- The whole of `x`, the columns of `Wq` and the rows of `Wo` that a device copies. -/
abbrev srcX : Memref sig .tc .hbm S1024x1024 .f32 :=
  (bX.slice (Rect.unit (s := S1x1024x1024) ![0, 0, 0] S1x1024x1024.size inb_S1x1024x1024_S1x1024x1024_0_0_0)
    (fun _ => rfl)).squeeze S1024x1024 squeezes_S1x1024x1024_S1024x1024
abbrev srcWq (d : Dev nD) : Memref sig .tc .hbm S1024x1024 .f32 :=
  bWq.slice (Rect.unit (s := S1024x4096) (k0_off1 d) S1024x1024.size (k0_off1_inb d)) (fun _ => rfl)
abbrev srcWo (d : Dev nD) : Memref sig .tc .hbm S1024x1024 .f32 :=
  bWo.slice (Rect.unit (s := S4096x1024) (k0_off2 d) S1024x1024.size (k0_off2_inb d)) (fun _ => rfl)

/-! ## The pieces of the body -/

/-- The copies of one head's keys and values. -/
def copyHead (h : Fin 8) : TcProg F PUnit := do
  Prog.lift (.enqueueDma (headX bKx h) (.here (headF bKf h)) (.dma (copySem 3).sem)
    ((View.wordExact_bits rfl).reshape _ _) ((View.wordExact_bits rfl).reshape _ _) ⟨Or.inl rfl, trivial⟩)
  Prog.lift (.enqueueDma (headX bVx h) (.here (headF bVf h)) (.dma (copySem 4).sem)
    ((View.wordExact_bits rfl).reshape _ _) ((View.wordExact_bits rfl).reshape _ _) ⟨Or.inl rfl, trivial⟩)

/-- All copies from the arguments. -/
def copies (d : Dev nD) : TcProg F PUnit := do
  Prog.lift (.enqueueDma srcX (.here bXf) (.dma (copySem 0).sem) ((View.wordExact_bits rfl).reshape _ _)
    (Memref.isWhole_whole _).wordExact ⟨Or.inl rfl, trivial⟩)
  Prog.lift (.enqueueDma (srcWq d) (.here bWqf) (.dma (copySem 1).sem) (View.wordExact_bits rfl)
    (Memref.isWhole_whole _).wordExact ⟨Or.inl rfl, trivial⟩)
  Prog.lift (.enqueueDma (srcWo d) (.here bWof) (.dma (copySem 2).sem) (View.wordExact_bits rfl)
    (Memref.isWhole_whole _).wordExact ⟨Or.inl rfl, trivial⟩)
  heads copyHead

/-- The barrier. -/
abbrev barSem : Sems sig S_ := SemArray.scalar (sig.barrier 0 rfl)

/-- The barrier among the four devices. -/
def meet (d : Dev nD) : TcProg F PUnit := do
  semSignalWord (⟨k0_dev1 d, k0_dev1_lt d⟩ : Dev nD) barSem.sem 1#32
  semSignalWord (⟨k0_dev2 d, k0_dev2_lt d⟩ : Dev nD) barSem.sem 1#32
  semSignalWord (⟨k0_dev3 d, k0_dev3_lt d⟩ : Dev nD) barSem.sem 1#32
  semWaitWord barSem.sem 3#32

/-- Narrow a square matrix into another buffer. -/
def narrow (src : Memref sig .tc .vmem S1024x1024 .f32) (dst : Memref sig .tc .vmem S1024x1024 .bf16)
    (hd : dst.IsWhole) : TcProg F PUnit := do
  let x : Vec F S1024x1024 .f32 ← Prog.lift (.load src rWhole1024.toLoadRect (View.loadsAt_vmem h_S1024x1024))
  let _y : Vec F S1024x1024 .bf16 ← Prog.lift (.load dst rWhole1024.toLoadRect (View.loadsAt_vmem h_S1024x1024))
  Prog.lift (.store dst rWhole1024 (shapeCast S1024x1024 (truncf .bf16 x bitsLt_bf16_f32) shapeCasts_S1024x1024_S1024x1024)
    Finset.univ (View.stores_vmem h_S1024x1024 (hd.storeExact_slice rfl _ packedbf16_S1024x1024_S1024x1024_0_0)
      (fun _ => rfl)) (.inl rfl))

/-- The scaled queries of the device's heads. -/
def queryVal (x wq : Vec F S1024x1024 .bf16) : FVec F S1024x1024 .bf16 :=
  shapeCast S1024x1024 (truncf .bf16 (mulf
    (matmul dot_S1024x1024_S1024x1024_S1024x1024_1_0_0_1_n_n none x wq (constant S1024x1024 .f32 0x00000000#32))
    (broadcast S1024x1024 (Scalar.ofBits .f32 0x3DB504F3#32))) bitsLt_bf16_f32) shapeCasts_S1024x1024_S1024x1024

/-- The queries, into their buffer. -/
def queries : TcProg F PUnit := do
  let x : Vec F S1024x1024 .bf16 ← Prog.lift (.load bXb rWhole1024.toLoadRect (View.loadsAt_vmem h_S1024x1024))
  let w : Vec F S1024x1024 .bf16 ← Prog.lift (.load bWqb rWhole1024.toLoadRect (View.loadsAt_vmem h_S1024x1024))
  let _y : Vec F S1024x1024 .bf16 ← Prog.lift (.load bQ rWhole1024.toLoadRect (View.loadsAt_vmem h_S1024x1024))
  Prog.lift (.store bQ rWhole1024 (queryVal x w) Finset.univ (View.stores_vmem h_S1024x1024
    ((Memref.isWhole_whole _).storeExact_slice rfl _ packedbf16_S1024x1024_S1024x1024_0_0) (fun _ => rfl)) (.inl rfl))

/-- The wait for one head's keys and values. -/
def awaitHead (h : Fin 8) : TcProg F PUnit := do
  Prog.lift (.waitDma2 (copySem 3).sem (headX bKx h) (headF bKf h) ((View.wordExact_bits rfl).reshape _ _)
    ((View.wordExact_bits rfl).reshape _ _))
  Prog.lift (.waitDma2 (copySem 4).sem (headX bVx h) (headF bVf h) ((View.wordExact_bits rfl).reshape _ _)
    ((View.wordExact_bits rfl).reshape _ _))

/-- A head's keys or values, narrowed. -/
def narrowVal (x : Vec F S1x1024x128 .f32) : FVec F S1x1024x128 .bf16 :=
  shapeCast S1x1024x128 (truncf .bf16 (shapeCast S1024x128 x shapeCasts_S1x1024x128_S1024x128) bitsLt_bf16_f32)
    shapeCasts_S1024x128_S1x1024x128

/-- Narrow one head's keys and values. -/
def narrowHead (h : Fin 8) : TcProg F PUnit := do
  let k : Vec F S1x1024x128 .f32 ← Prog.lift (.load bKf (rK1024 h).toLoadRect (View.loadsAt_vmem h_S1x1024x128))
  let _a : Vec F S1x1024x128 .bf16 ← Prog.lift (.load bKb (rK1024 h).toLoadRect (View.loadsAt_vmem h_S1x1024x128))
  Prog.lift (.store bKb (rK1024 h) (narrowVal k) Finset.univ (View.stores_vmem h_S1x1024x128
    ((Memref.isWhole_whole _).storeExact_slice rfl _ (packed_k1024 h)) (fun _ => rfl)) (.inl rfl))
  let v : Vec F S1x1024x128 .f32 ← Prog.lift (.load bVf (rK1024 h).toLoadRect (View.loadsAt_vmem h_S1x1024x128))
  let _b : Vec F S1x1024x128 .bf16 ← Prog.lift (.load bVb (rK1024 h).toLoadRect (View.loadsAt_vmem h_S1x1024x128))
  Prog.lift (.store bVb (rK1024 h) (narrowVal v) Finset.univ (View.stores_vmem h_S1x1024x128
    ((Memref.isWhole_whole _).storeExact_slice rfl _ (packed_k1024 h)) (fun _ => rfl)) (.inl rfl))

/-- Everything before the first chunk. -/
def setup (d : Dev nD) : TcProg F PUnit := do
  copies d
  meet d
  Prog.lift (.waitDma2 (copySem 0).sem srcX bXf ((View.wordExact_bits rfl).reshape _ _)
    (Memref.isWhole_whole _).wordExact)
  Prog.lift (.waitDma2 (copySem 1).sem (srcWq d) bWqf (View.wordExact_bits rfl) (Memref.isWhole_whole _).wordExact)
  narrow bXf bXb (Memref.isWhole_whole _)
  narrow bWqf bWqb (Memref.isWhole_whole _)
  queries
  heads awaitHead
  heads narrowHead
  Prog.lift (.waitDma2 (copySem 2).sem (srcWo d) bWof (View.wordExact_bits rfl) (Memref.isWhole_whole _).wordExact)
  narrow bWof bWob (Memref.isWhole_whole _)

/-- A device's partial product for another's chunk, as it is sent. -/
def slotVal (c : Vec F S256x1024 .bf16) (w : Vec F S1024x1024 .bf16) : FVec F S1x256x1024 .bf16 :=
  shapeCast S1x256x1024 (truncf .bf16 (partVal c w) bitsLt_bf16_f32) shapeCasts_S256x1024_S1x256x1024

/-- Compute the partial product for the device `j + 1` places on and send it there. -/
def sendPart (j r : Fin 3) (e : Dev nD) : TcProg F PUnit := do
  let c : Vec F S256x1024 .bf16 ← Prog.lift (.load bCtx rWhole256.toLoadRect (View.loadsAt_vmem h_S256x1024))
  let w : Vec F S1024x1024 .bf16 ← Prog.lift (.load bWob rWhole1024.toLoadRect (View.loadsAt_vmem h_S1024x1024))
  let _y : Vec F S1x256x1024 .bf16 ← Prog.lift (.load bSA (rSlot j).toLoadRect (View.loadsAt_vmem h_S1x256x1024))
  Prog.lift (.store bSA (rSlot j) (slotVal c w) Finset.univ (View.stores_vmem h_S1x256x1024
    ((Memref.isWhole_whole _).storeExact_slice rfl _ (packed_slot j)) (fun _ => rfl)) (.inl rfl))
  Prog.lift (.enqueueDma (slot bSA j) (.remote (Dev.tc e) (slot bRA r) (.dma (sendASem j).sem)) (.dma (recvASem r).sem)
    (((Memref.isWhole_whole _).wordExact_slice rfl _ (words_slot j)).reshape _ _)
    (((Memref.isWhole_whole _).wordExact_slice rfl _ (words_slot r)).reshape _ _) ⟨⟨rfl, Or.inl rfl⟩, trivial⟩)

/-- The partial product for the device's own chunk, kept. -/
def ownPart : TcProg F PUnit := do
  let c : Vec F S256x1024 .bf16 ← Prog.lift (.load bCtx rWhole256.toLoadRect (View.loadsAt_vmem h_S256x1024))
  let w : Vec F S1024x1024 .bf16 ← Prog.lift (.load bWob rWhole1024.toLoadRect (View.loadsAt_vmem h_S1024x1024))
  let _y : Vec F S256x1024 .f32 ← Prog.lift (.load bAcc rWhole256.toLoadRect (View.loadsAt_vmem h_S256x1024))
  Prog.lift (.store bAcc rWhole256 (shapeCast S256x1024 (partVal c w) shapeCasts_S256x1024_S256x1024) Finset.univ
    (View.stores_vmem_bits_univ h_S256x1024 rfl) (.inl rfl))

/-- A running sum and one more partial product. -/
def accVal (a : Vec F S256x1024 .f32) (p : Vec F S1x256x1024 .bf16) : FVec F S256x1024 .f32 :=
  shapeCast S256x1024 (addf a (extf .f32 (shapeCast S256x1024 p shapeCasts_S1x256x1024_S256x1024) bitsLt_bf16_f32))
    shapeCasts_S256x1024_S256x1024

/-- Wait for one partial product and add it. -/
def addPart (r : Fin 3) : TcProg F PUnit := do
  Prog.lift (.waitDma2 (recvASem r).sem (slot bSA 0) (slot bRA r)
    (((Memref.isWhole_whole _).wordExact_slice rfl _ (words_slot 0)).reshape _ _)
    (((Memref.isWhole_whole _).wordExact_slice rfl _ (words_slot r)).reshape _ _))
  let a : Vec F S256x1024 .f32 ← Prog.lift (.load bAcc rWhole256.toLoadRect (View.loadsAt_vmem h_S256x1024))
  let p : Vec F S1x256x1024 .bf16 ← Prog.lift (.load bRA (rSlot r).toLoadRect (View.loadsAt_vmem h_S1x256x1024))
  let _y : Vec F S256x1024 .f32 ← Prog.lift (.load bAcc rWhole256.toLoadRect (View.loadsAt_vmem h_S256x1024))
  Prog.lift (.store bAcc rWhole256 (accVal a p) Finset.univ (View.stores_vmem_bits_univ h_S256x1024 rfl) (.inl rfl))

/-- The finished chunk, narrowed into the buffer it is sent from. -/
def finishOwn : TcProg F PUnit := do
  let a : Vec F S256x1024 .f32 ← Prog.lift (.load bAcc rWhole256.toLoadRect (View.loadsAt_vmem h_S256x1024))
  let _y : Vec F S256x1024 .bf16 ← Prog.lift (.load bSB rWhole256.toLoadRect (View.loadsAt_vmem h_S256x1024))
  Prog.lift (.store bSB rWhole256 (shapeCast S256x1024 (truncf .bf16 a bitsLt_bf16_f32) shapeCasts_S256x1024_S256x1024)
    Finset.univ (View.stores_vmem h_S256x1024
      ((Memref.isWhole_whole _).storeExact_slice rfl _ packedbf16_S256x1024_S256x1024_0_0) (fun _ => rfl)) (.inl rfl))

/-- The device's own chunk, into the result. -/
def placeOwn (d : Dev nD) : TcProg F PUnit := do
  let a : Vec F S256x1024 .bf16 ← Prog.lift (.load bSB rWhole256.toLoadRect (View.loadsAt_vmem h_S256x1024))
  let _y : Vec F S1x256x1024 .bf16 ← Prog.lift (.load bOut (Rect.unit (s := S1x1024x1024) (k0_off67 d)
    S1x256x1024.size (k0_off67_inb d)).toLoadRect (View.loadsAt_vmem h_S1x256x1024))
  Prog.lift (.store bOut (Rect.unit (s := S1x1024x1024) (k0_off67 d) S1x256x1024.size (k0_off67_inb d))
    (shapeCast S1x256x1024 a shapeCasts_S256x1024_S1x256x1024) Finset.univ (View.stores_vmem h_S1x256x1024
      ((Memref.isWhole_whole _).storeExact_slice rfl _ (k0_off67_packedbf16 d)) (fun _ => rfl)) (.inl rfl))

/-- Send the finished chunk to the device `j + 1` places on. -/
def sendOwn (j r : Fin 3) (e : Dev nD) : TcProg F PUnit :=
  Prog.lift (.enqueueDma bSB (.remote (Dev.tc e) (slot bRB r) (.dma (sendBSem j).sem)) (.dma (recvBSem r).sem)
    (Memref.isWhole_whole _).wordExact
    (((Memref.isWhole_whole _).wordExact_slice rfl _ (words_slot r)).reshape _ _) ⟨⟨rfl, Or.inl rfl⟩, trivial⟩)

/-- Wait for another device's finished chunk and put it into the result. -/
def placeOther (d : Dev nD) (r : Fin 3) : TcProg F PUnit := do
  Prog.lift (.waitDma2 (recvBSem r).sem bSB (slot bRB r) (Memref.isWhole_whole _).wordExact
    (((Memref.isWhole_whole _).wordExact_slice rfl _ (words_slot r)).reshape _ _))
  let a : Vec F S1x256x1024 .bf16 ← Prog.lift (.load bRB (rSlot r).toLoadRect (View.loadsAt_vmem h_S1x256x1024))
  let _y : Vec F S1x256x1024 .bf16 ← Prog.lift (.load bOut (Rect.unit (s := S1x1024x1024)
    (k0_off68 d (BitVec.ofNat 32 r.val)) S1x256x1024.size (k0_off68_inb d r)).toLoadRect (View.loadsAt_vmem h_S1x256x1024))
  Prog.lift (.store bOut (Rect.unit (s := S1x1024x1024) (k0_off68 d (BitVec.ofNat 32 r.val)) S1x256x1024.size
    (k0_off68_inb d r)) (shapeCast S1x256x1024 (shapeCast S256x1024 a shapeCasts_S1x256x1024_S256x1024)
      shapeCasts_S256x1024_S1x256x1024) Finset.univ (View.stores_vmem h_S1x256x1024
      ((Memref.isWhole_whole _).storeExact_slice rfl _ (k0_off68_packedbf16 d r)) (fun _ => rfl)) (.inl rfl))

/-- Wait until a partial product has left. -/
def drainPart (j r : Fin 3) : TcProg F PUnit :=
  Prog.lift (.waitDma2 (sendASem j).sem (slot bRA r) (slot bSA j)
    (((Memref.isWhole_whole _).wordExact_slice rfl _ (words_slot r)).reshape _ _)
    (((Memref.isWhole_whole _).wordExact_slice rfl _ (words_slot j)).reshape _ _))

/-- Wait until the finished chunk has left to one of the devices. -/
def drainOwn (j r : Fin 3) : TcProg F PUnit :=
  Prog.lift (.waitDma2 (sendBSem j).sem (slot bRB r) bSB
    (((Memref.isWhole_whole _).wordExact_slice rfl _ (words_slot r)).reshape _ _) (Memref.isWhole_whole _).wordExact)

/-- Everything after the last chunk. -/
def finish (d : Dev nD) : TcProg F PUnit := do
  ownPart
  addPart 2; addPart 1; addPart 0
  finishOwn
  placeOwn d
  sendOwn 1 1 ⟨k0_dev7 d, k0_dev7_lt d⟩
  sendOwn 0 2 ⟨k0_dev8 d, k0_dev8_lt d⟩
  sendOwn 2 0 ⟨k0_dev9 d, k0_dev9_lt d⟩
  placeOther d 2; placeOther d 1; placeOther d 0
  drainPart 0 2; drainPart 1 1; drainPart 2 0
  drainOwn 1 1; drainOwn 0 2; drainOwn 2 0

/-! ## The words of the chunks -/

/-- The device's place. -/
def place (d : Dev nD) : BitVec 32 := Scalar.remsi (Scalar.divsi (Dev.word d) 1#32) 4#32
/-- The place `k + 1` further on. -/
def onward (d : Dev nD) (k : BitVec 32) : BitVec 32 := Scalar.remsi (Scalar.addi (Scalar.addi (place d) 1#32) k) 4#32
/-- The first row of the chunk of the device `k + 1` places on. -/
def wordTo (d : Dev nD) (k : BitVec 32) : BitVec 32 := Scalar.muli (onward d k) 256#32
/-- The first row of the device's own chunk. -/
def wordOwn (d : Dev nD) : BitVec 32 := Scalar.muli (place d) 256#32

theorem chunkWord_to0 (d : Dev nD) : ChunkWord (wordTo d 0#32) := by revert d; unfold ChunkWord; decide
theorem chunkWord_to1 (d : Dev nD) : ChunkWord (wordTo d 1#32) := by revert d; unfold ChunkWord; decide
theorem chunkWord_to2 (d : Dev nD) : ChunkWord (wordTo d 2#32) := by revert d; unfold ChunkWord; decide
theorem chunkWord_own (d : Dev nD) : ChunkWord (wordOwn d) := by revert d; unfold ChunkWord; decide

/-- The attention of one chunk, then the rest. -/
abbrev chunkThen {α : Type} (w : BitVec 32) (hw : ChunkWord w) (k : TcProg F α) : TcProg F α :=
  firstThen w (laterThen w hw k)

/-- The kernel's body on a device. -/
def shortBody (d : Dev nD) : TcProg F PUnit := do
  setup d
  chunkThen (wordTo d 0#32) (chunkWord_to0 d) do
    sendPart 0 2 ⟨k0_dev4 d, k0_dev4_lt d⟩
    chunkThen (wordTo d 1#32) (chunkWord_to1 d) do
      sendPart 1 1 ⟨k0_dev5 d, k0_dev5_lt d⟩
      chunkThen (wordTo d 2#32) (chunkWord_to2 d) do
        sendPart 2 0 ⟨k0_dev6 d, k0_dev6_lt d⟩
        chunkThen (wordOwn d) (chunkWord_own d) do
          finish d

end Cert.KernelProof
-- ==== Proof.Unfold.lean ====
/- The printed body of the kernel is the short one. The printed body is cut into pieces at fixed lengths; the cuts that fall
   beside the attention's conditionals are met one by one, and everything between them in one comparison. -/
module

public import proofs.«01_k».proof.Proof.Short
public import Idealize.ShloMosaic.Lib.Tactic

@[expose] public section

noncomputable section

namespace Cert.KernelProof

open Cert.KernelIdeal
open Idealize.ShloMosaic Idealize.ShloMosaic.TcCoe
open Idealize.SL Idealize.SL.Sem
open Facts₀ Facts

variable {F : FTy → Type} [FloatOps F] [Named F]

/-- The printed body on the buffers the pipeline passes. -/
abbrev printedBody : TcProg F PUnit := cc0_body
    bX (Memref.isWhole_whole _) bWq (Memref.isWhole_whole _) bKx (Memref.isWhole_whole _) bVx (Memref.isWhole_whole
    _) bWo (Memref.isWhole_whole _) bOut (Memref.isWhole_whole _) bXf (Memref.isWhole_whole _) bWqf
    (Memref.isWhole_whole _) bWof (Memref.isWhole_whole _) bKf (Memref.isWhole_whole _) bVf (Memref.isWhole_whole _)
    bXb (Memref.isWhole_whole _) bWqb (Memref.isWhole_whole _) bWob (Memref.isWhole_whole _) bKb
    (Memref.isWhole_whole _) bVb (Memref.isWhole_whole _) bQ (Memref.isWhole_whole _) bCtx (Memref.isWhole_whole _)
    bAcc (Memref.isWhole_whole _) bSA (Memref.isWhole_whole _) bRA (Memref.isWhole_whole _) bSB
    (Memref.isWhole_whole _) bRB (Memref.isWhole_whole _) cc0_scratch17 cc0_scratch18 cc0_scratch19 cc0_scratch20
    cc0_scratch21

/-- The printed pieces around the conditionals. -/
abbrev piece87 (d : Dev nD) (a b c e f : BitVec 32) : TcProg F (Σ' (_ : BitVec 32) (_ : BitVec 32), BitVec 32) := k0_part87
    bX (Memref.isWhole_whole _) bWq (Memref.isWhole_whole _) bKx (Memref.isWhole_whole _) bVx (Memref.isWhole_whole
    _) bWo (Memref.isWhole_whole _) bOut (Memref.isWhole_whole _) bXf (Memref.isWhole_whole _) bWqf
    (Memref.isWhole_whole _) bWof (Memref.isWhole_whole _) bKf (Memref.isWhole_whole _) bVf (Memref.isWhole_whole _)
    bXb (Memref.isWhole_whole _) bWqb (Memref.isWhole_whole _) bWob (Memref.isWhole_whole _) bKb
    (Memref.isWhole_whole _) bVb (Memref.isWhole_whole _) bQ (Memref.isWhole_whole _) bCtx (Memref.isWhole_whole _)
    bAcc (Memref.isWhole_whole _) bSA (Memref.isWhole_whole _) bRA (Memref.isWhole_whole _) bSB
    (Memref.isWhole_whole _) bRB (Memref.isWhole_whole _) cc0_scratch17 cc0_scratch18 cc0_scratch19 cc0_scratch20
    cc0_scratch21 d a b c e f
abbrev piece88 (d : Dev nD) (a b c e : BitVec 32) :
    TcProg F (Σ' (_ : BitVec 32) (_ : BitVec 32) (_ : BitVec 32), BitVec 32) := k0_part88
    bX (Memref.isWhole_whole _) bWq (Memref.isWhole_whole _) bKx (Memref.isWhole_whole _) bVx (Memref.isWhole_whole
    _) bWo (Memref.isWhole_whole _) bOut (Memref.isWhole_whole _) bXf (Memref.isWhole_whole _) bWqf
    (Memref.isWhole_whole _) bWof (Memref.isWhole_whole _) bKf (Memref.isWhole_whole _) bVf (Memref.isWhole_whole _)
    bXb (Memref.isWhole_whole _) bWqb (Memref.isWhole_whole _) bWob (Memref.isWhole_whole _) bKb
    (Memref.isWhole_whole _) bVb (Memref.isWhole_whole _) bQ (Memref.isWhole_whole _) bCtx (Memref.isWhole_whole _)
    bAcc (Memref.isWhole_whole _) bSA (Memref.isWhole_whole _) bRA (Memref.isWhole_whole _) bSB
    (Memref.isWhole_whole _) bRB (Memref.isWhole_whole _) cc0_scratch17 cc0_scratch18 cc0_scratch19 cc0_scratch20
    cc0_scratch21 d a b c e
abbrev piece89 (d : Dev nD) (a b c e f : BitVec 32) :
    TcProg F (Σ' (_ : Vec F S256x1024 .bf16) (_ : Vec F S1024x1024 .bf16), FVec F S256x1024 .f32) := k0_part89
    bX (Memref.isWhole_whole _) bWq (Memref.isWhole_whole _) bKx (Memref.isWhole_whole _) bVx (Memref.isWhole_whole
    _) bWo (Memref.isWhole_whole _) bOut (Memref.isWhole_whole _) bXf (Memref.isWhole_whole _) bWqf
    (Memref.isWhole_whole _) bWof (Memref.isWhole_whole _) bKf (Memref.isWhole_whole _) bVf (Memref.isWhole_whole _)
    bXb (Memref.isWhole_whole _) bWqb (Memref.isWhole_whole _) bWob (Memref.isWhole_whole _) bKb
    (Memref.isWhole_whole _) bVb (Memref.isWhole_whole _) bQ (Memref.isWhole_whole _) bCtx (Memref.isWhole_whole _)
    bAcc (Memref.isWhole_whole _) bSA (Memref.isWhole_whole _) bRA (Memref.isWhole_whole _) bSB
    (Memref.isWhole_whole _) bRB (Memref.isWhole_whole _) cc0_scratch17 cc0_scratch18 cc0_scratch19 cc0_scratch20
    cc0_scratch21 d a b c e f

/-- From the first conditional of the first chunk to that of the second. -/
theorem piece87_eq (d : Dev nD) :
    piece87 (F := F) d (place d) (onward d 0#32) (wordTo d 0#32)
      (Scalar.extui (Scalar.cmpi .eq (wordTo d 0#32) 0#32)) 0#32 =
    firstThen (wordTo d 0#32) (laterThen (wordTo d 0#32) (chunkWord_to0 d) ((sendPart 0 2 ⟨k0_dev4 d, k0_dev4_lt d⟩).bind
      fun _ => firstThen (wordTo d 1#32) (.ret ⟨onward d 1#32, wordTo d 1#32, 0#32⟩))) := by
  sl_kernel_rfl

/-- From the second conditional of the second chunk to the first of the third. -/
theorem piece88_eq (d : Dev nD) :
    piece88 (F := F) d (place d) (onward d 1#32) (wordTo d 1#32) 0#32 =
    laterThen (wordTo d 1#32) (chunkWord_to1 d) ((sendPart 1 1 ⟨k0_dev5 d, k0_dev5_lt d⟩).bind
      fun _ => firstThen (wordTo d 2#32) (.ret ⟨onward d 2#32, wordTo d 2#32,
        Scalar.extui (Scalar.cmpi .ne (wordTo d 2#32) 0#32), 0#32⟩)) := by
  sl_kernel_rfl

/-- From the second conditional of the third chunk to the end of the last chunk. -/
theorem piece89_eq (d : Dev nD) (a b : BitVec 32) :
    piece89 (F := F) d (place d) (onward d 2#32) (wordTo d 2#32) a b =
    laterThen (wordTo d 2#32) (chunkWord_to2 d) ((sendPart 2 0 ⟨k0_dev6 d, k0_dev6_lt d⟩).bind
      fun _ => firstThen (wordOwn d) (laterThen (wordOwn d) (chunkWord_own d) (do
        let c : Vec F S256x1024 .bf16 ← Prog.lift (.load bCtx rWhole256.toLoadRect (View.loadsAt_vmem h_S256x1024))
        let w : Vec F S1024x1024 .bf16 ← Prog.lift (.load bWob rWhole1024.toLoadRect (View.loadsAt_vmem h_S1024x1024))
        .ret ⟨c, w, constant S256x1024 .f32 0x00000000#32⟩))) := by
  sl_kernel_rfl

/-- What follows the printed pieces. -/
def afterPieces (d : Dev nD) (x : Σ' (_ : Vec F S256x1024 .bf16) (_ : Vec F S1024x1024 .bf16), FVec F S256x1024 .f32) :
    TcProg F PUnit := do
  let _y : Vec F S256x1024 .f32 ← Prog.lift (.load bAcc rWhole256.toLoadRect (View.loadsAt_vmem h_S256x1024))
  Prog.lift (.store bAcc rWhole256 (shapeCast S256x1024
    (matmul dot_S256x1024_S1024x1024_S256x1024_1_0_0_1_n_n none x.1 x.2.1 x.2.2) shapeCasts_S256x1024_S256x1024) Finset.univ
    (View.stores_vmem_bits_univ h_S256x1024 rfl) (.inl rfl))
  addPart 2; addPart 1; addPart 0
  finishOwn
  placeOwn d
  sendOwn 1 1 ⟨k0_dev7 d, k0_dev7_lt d⟩
  sendOwn 0 2 ⟨k0_dev8 d, k0_dev8_lt d⟩
  sendOwn 2 0 ⟨k0_dev9 d, k0_dev9_lt d⟩
  placeOther d 2; placeOther d 1; placeOther d 0
  drainPart 0 2; drainPart 1 1; drainPart 2 0
  drainOwn 1 1; drainOwn 0 2; drainOwn 2 0

/-- The printed body with its pieces around the conditionals kept. -/
theorem printed_eq : printedBody (F := F) = (Prog.lift .deviceId).bind fun d => (setup d).bind fun _ =>
    (piece87 (F := F) d (place d) (onward d 0#32) (wordTo d 0#32)
      (Scalar.extui (Scalar.cmpi .eq (wordTo d 0#32) 0#32)) 0#32).bind fun x =>
    (piece88 (F := F) d (place d) x.1 x.2.1 x.2.2).bind fun y =>
    (piece89 (F := F) d (place d) y.1 y.2.1 y.2.2.1 y.2.2.2).bind fun z => afterPieces d z := by
  sl_kernel_rfl

theorem bind_bind {α β γ : Type} (p : TcProg F α) (f : α → TcProg F β) (g : β → TcProg F γ) :
    (p.bind f).bind g = p.bind fun x => (f x).bind g := Prog.bind_assoc p f g

theorem ret_bind {α β : Type} (x : α) (f : α → TcProg F β) : (Prog.ret x : TcProg F α).bind f = f x := rfl

/-- The last chunk and what follows. -/
theorem piece89_bind (d : Dev nD) (a b : BitVec 32) :
    (piece89 (F := F) d (place d) (onward d 2#32) (wordTo d 2#32) a b).bind (fun z => afterPieces d z) =
    laterThen (wordTo d 2#32) (chunkWord_to2 d) ((sendPart 2 0 ⟨k0_dev6 d, k0_dev6_lt d⟩).bind
      fun _ => chunkThen (wordOwn d) (chunkWord_own d) (finish d)) := by
  rw [piece89_eq, laterThen_bind, bind_bind]
  simp only [firstThen_bind, laterThen_bind]
  sl_kernel_rfl

/-- From the second conditional of the second chunk on. -/
theorem piece88_bind (d : Dev nD) :
    (piece88 (F := F) d (place d) (onward d 1#32) (wordTo d 1#32) 0#32).bind (fun y =>
      (piece89 (F := F) d (place d) y.1 y.2.1 y.2.2.1 y.2.2.2).bind fun z => afterPieces d z) =
    laterThen (wordTo d 1#32) (chunkWord_to1 d) ((sendPart 1 1 ⟨k0_dev5 d, k0_dev5_lt d⟩).bind
      fun _ => chunkThen (wordTo d 2#32) (chunkWord_to2 d) ((sendPart 2 0 ⟨k0_dev6 d, k0_dev6_lt d⟩).bind
      fun _ => chunkThen (wordOwn d) (chunkWord_own d) (finish d))) := by
  rw [piece88_eq, laterThen_bind, bind_bind]
  simp only [firstThen_bind, ret_bind, piece89_bind]

/-- From the first conditional on. -/
theorem piece87_bind (d : Dev nD) :
    ((piece87 (F := F) d (place d) (onward d 0#32) (wordTo d 0#32)
      (Scalar.extui (Scalar.cmpi .eq (wordTo d 0#32) 0#32)) 0#32).bind fun x =>
    (piece88 (F := F) d (place d) x.1 x.2.1 x.2.2).bind fun y =>
    (piece89 (F := F) d (place d) y.1 y.2.1 y.2.2.1 y.2.2.2).bind fun z => afterPieces d z) =
    chunkThen (wordTo d 0#32) (chunkWord_to0 d) ((sendPart 0 2 ⟨k0_dev4 d, k0_dev4_lt d⟩).bind
      fun _ => chunkThen (wordTo d 1#32) (chunkWord_to1 d) ((sendPart 1 1 ⟨k0_dev5 d, k0_dev5_lt d⟩).bind
      fun _ => chunkThen (wordTo d 2#32) (chunkWord_to2 d) ((sendPart 2 0 ⟨k0_dev6 d, k0_dev6_lt d⟩).bind
      fun _ => chunkThen (wordOwn d) (chunkWord_own d) (finish d)))) := by
  rw [piece87_eq, firstThen_bind, laterThen_bind, bind_bind]
  simp only [firstThen_bind, ret_bind, piece88_bind]

/-- The printed body is the short one. -/
theorem body_eq : printedBody (F := F) = (Prog.lift .deviceId).bind shortBody := by
  rw [printed_eq]
  simp only [piece87_bind]
  sl_kernel_rfl

end Cert.KernelProof
-- ==== Proof.Steps.lean ====
/- Rules for running the pieces of the body: the resource algebra, loads and stores of whole buffers, and loops over
   the eight heads. -/
module

public import proofs.«01_k».proof.Proof.Unfold
public import proofs.«01_k».proof.Proof.Gen.KernelIdeal.Frame
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Batch
public import Idealize.ShloMosaic.Lib.Memref
public import Idealize.ShloMosaic.Lib.ValueLayout
public import Idealize.ShloMosaic.Lib.ValueIdx

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

/-! ## The resource algebra -/

/-- The rounds of the exchange: three duties at most in one round of a cell. -/
abbrev UB : Type := URounds (GSem nD τ sig) (Fin 3)
/-- The launch's rounds, the exchange's rounds, and counters for the local copies. -/
abbrev UU : Type := UR sig nD τ × UB × Counters

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb (U := UU)

omit [FloatOps F] [Named F] in
instance ER_landsIn : (ER : Emb UB 𝕄).LandsIn (upEmb : UEmb _ 𝕄) := by unfold ER; infer_instance

abbrev 𝒱₀ : Variants := Variants.none

/-- Running a program of a device's TensorCore inside the kernel. -/
abbrev run (c : Dev nD) {α : Type} (p : TcProg F α) (Q : α → sProp 𝕄) : sProp 𝕄 :=
  wp frame (wpE (defs₀ (F := F)) 𝒱₀ (c : Thread nD τ) none) Set.univ p Q

/-- A device's buffer, owned whole. -/
abbrev holds (c : Dev nD) (b : Ref sig .tc) (f : b.ty.Contents (Elt F)) : sProp 𝕄 :=
  ((c : Thread nD τ).loc b) ↦{fullShare} f

/-! ## Eight heads -/

/-- A program in two parts. -/
theorem run_bind (c : Dev nD) {α β : Type} (p : TcProg F α) (k : α → TcProg F β) (Q : β → sProp 𝕄) :
    run c (p.bind k) Q = run c p fun a => run c (k a) Q := wp_bind _ _ _ p k Q

/-- A piece run before the rest. -/
theorem run_then (c : Dev nD) {α β : Type} {p : TcProg F α} {k : α → TcProg F β} {Q : β → sProp 𝕄} {P : sProp 𝕄}
    {R : α → sProp 𝕄} (h : P ⊢ run c p R) :
    P ⊢ iprop((∀ a, R a -∗ run c (k a) Q) -∗ run c (p.bind k) Q) := by
  rw [run_bind]
  exact h.trans (wp_wand _ _ _)

/-- A piece run last. -/
theorem run_last (c : Dev nD) {α : Type} {p : TcProg F α} {Q : α → sProp 𝕄} {P : sProp 𝕄}
    {R : α → sProp 𝕄} (h : P ⊢ run c p R) : P ⊢ iprop((∀ a, R a -∗ Q a) -∗ run c p Q) :=
  h.trans (wp_wand _ _ _)

/-- A property kept by each head and moved one head on holds after the eight. -/
theorem run_heads (c : Dev nD) {body : Fin 8 → TcProg F PUnit} (I : ℕ → sProp 𝕄)
    (hs : ∀ h : Fin 8, I h.val ⊢ run c (body h) fun _ => I (h.val + 1)) :
    I 0 ⊢ run c (heads body) fun _ => I 8 := by
  unfold heads run
  simp only [wp_bind]
  refine (hs 0).trans (wp_mono _ _ _ fun _ => (hs 1).trans (wp_mono _ _ _ fun _ => (hs 2).trans (wp_mono _ _ _ fun _ =>
    (hs 3).trans (wp_mono _ _ _ fun _ => (hs 4).trans (wp_mono _ _ _ fun _ => (hs 5).trans (wp_mono _ _ _ fun _ =>
    (hs 6).trans (wp_mono _ _ _ fun _ => hs 7)))))))

/-! ## Contents after a store -/

/-- A buffer right on some elements and stored right on a rectangle is right on both. -/
theorem write_grow {b : Ref sig .tc} {off size : Fin b.ty.shape.rank → ℕ}
    {inb : ∀ a, off a + size a ≤ b.ty.shape.size a} {C G : b.ty.Contents (Elt F)}
    {w : (Rect.unit off size inb).shape.Idx → Elt F b.ty.elt} {P : b.ty.shape.Idx → Prop}
    (hC : ∀ i, P i → C i = G i) (hw : ∀ x, w x = G ((Rect.unit off size inb).emb x)) (i : b.ty.shape.Idx)
    (hi : P i ∨ ∀ a, off a ≤ (i a).val ∧ (i a).val < off a + size a) :
    ((Memref.whole b).access (Rect.unit off size inb) : View sig _ _ _ _).write (Elt F) C w Finset.univ i = G i := by
  by_cases hm : i ∈ (Rect.unit off size inb).set
  · rw [← Rect.map_emb_univ, Finset.mem_map] at hm
    obtain ⟨x, -, rfl⟩ := hm
    rw [← hw x]
    exact View.write_emb_of_mem (v := ((Memref.whole b).access (Rect.unit off size inb) : View sig _ _ _ _)) C w
      (Finset.mem_univ x)
  · have hP : P i := hi.resolve_right fun h => hm (Rect.mem_set_unit.mpr h)
    rw [← hC i hP]
    refine View.write_of_not_mem (v := ((Memref.whole b).access (Rect.unit off size inb) : View sig _ _ _ _)) C w _ ?_
    intro h
    rw [View.setOn_univ, View.set_slice, Finset.mem_map] at h
    obtain ⟨y, hy, rfl⟩ := h
    exact hm hy

end Cert.KernelProof
-- ==== Proof.Attend.lean ====
/- The attention of one chunk of 256 query rows: what it leaves in the context buffer, for any queries, keys and
   values. -/
module

public import proofs.«01_k».proof.Proof.Steps

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

/-! ## The contexts, by element -/

/-- The head of a column. -/
def headOf (i : S256x1024.Idx) : Fin 8 := ⟨(i 1).val / 128, by have := idx2_lt1 i; omega⟩
/-- A column's place within its head. -/
def colOf (i : S256x1024.Idx) : Fin 128 := ⟨(i 1).val % 128, by omega⟩

/-- A rectangle of contents. -/
abbrev part {s : Shape} {α : Type} (f : s.Idx → α) (r : Rect s) : r.shape.Idx → α := fun x => f (r.emb x)

/-- The context of the first chunk. -/
def firstCtx (Q : Vec F S1024x1024 .bf16) (K V : Vec F S8x1024x128 .bf16) : Vec F S256x1024 .bf16 := fun i =>
  if h : (i 0).val < 32 then
    globalVal (part Q (rQ32 (headOf i))) (part K (rK1024 (headOf i))) (part V (rK1024 (headOf i)))
      (ix2 (⟨(i 0).val, h⟩ : Fin 32) (colOf i))
  else
    winVal (part Q (rQ224 (headOf i))) (part K (rK512 (headOf i))) (part V (rK512 (headOf i)))
      (ix2 (⟨(i 0).val - 32, by have := idx2_lt0 i; omega⟩ : Fin 224) (colOf i))

abbrev rQw (w : BitVec 32) (hw : ChunkWord w) (hl : isLater w = 1#1) (h : Fin 8) : Rect S1024x1024 :=
  Rect.unit (s := S1024x1024) (offQ w h) S256x128.size (inb_offQ hw hl h)
abbrev rKw (w : BitVec 32) (hw : ChunkWord w) (hl : isLater w = 1#1) (h : Fin 8) : Rect S8x1024x128 :=
  Rect.unit (s := S8x1024x128) (offK w h) S1x512x128.size (inb_offK hw hl h)

/-- The context of a later chunk. -/
def laterCtx (w : BitVec 32) (hw : ChunkWord w) (hl : isLater w = 1#1) (Q : Vec F S1024x1024 .bf16)
    (K V : Vec F S8x1024x128 .bf16) : Vec F S256x1024 .bf16 := fun i =>
  laterVal w (part Q (rQw w hw hl (headOf i))) (part K (rKw w hw hl (headOf i))) (part K (rK128 (headOf i)))
    (part V (rKw w hw hl (headOf i))) (part V (rK128 (headOf i))) (ix2 (i 0) (colOf i))

/-- The context of a chunk. -/
def chunkCtx (w : BitVec 32) (hw : ChunkWord w) (Q : Vec F S1024x1024 .bf16) (K V : Vec F S8x1024x128 .bf16) :
    Vec F S256x1024 .bf16 :=
  if hl : isLater w = 1#1 then laterCtx w hw hl Q K V else firstCtx Q K V

theorem isFirst_iff {w : BitVec 32} (hw : ChunkWord w) : isFirst w = 1#1 ↔ ¬ isLater w = 1#1 := by
  rcases hw with rfl | rfl | rfl | rfl <;> decide

/-! ## Running the heads -/

variable (c : Dev nD) (Q : Vec F S1024x1024 .bf16) (K V : Vec F S8x1024x128 .bf16)

/-- What the attention reads. -/
abbrev inputs : sProp 𝕄 :=
  iprop(holds c cc0_scratch10 Q ∗ holds c cc0_scratch8 K ∗ holds c cc0_scratch9 V)

/-- The context buffer is right on the elements `P`. -/
def ctxOn (G : Vec F S256x1024 .bf16) (P : S256x1024.Idx → Prop) : sProp 𝕄 :=
  iprop(∃ C : Vec F S256x1024 .bf16, ⌜∀ i, P i → C i = G i⌝ ∗ holds c cc0_scratch11 C)

theorem headOf_emb {off : Fin 2 → ℕ} {size : Fin 2 → ℕ} {inb} (h : Fin 8) (h1 : off 1 = 128 * h.val) (h2 : size 1 = 128)
    (x : (Rect.unit (s := S256x1024) off size inb).shape.Idx) : headOf ((Rect.unit (s := S256x1024) off size inb).emb x) = h := by
  have hx : (x 1).val < size 1 := (x 1).isLt
  apply Fin.ext
  simp only [headOf, Rect.emb_apply, Rect.off_unit, Rect.stride_unit]
  omega

theorem colOf_emb {off : Fin 2 → ℕ} {size : Fin 2 → ℕ} {inb} (h : Fin 8) (h1 : off 1 = 128 * h.val) (h2 : size 1 = 128)
    (x : (Rect.unit (s := S256x1024) off size inb).shape.Idx) :
    (colOf ((Rect.unit (s := S256x1024) off size inb).emb x)).val = (x 1).val := by
  have hx : (x 1).val < size 1 := (x 1).isLt
  simp only [colOf, Rect.emb_apply, Rect.off_unit, Rect.stride_unit]
  omega

theorem laterVal_emb (w : BitVec 32) (hw : ChunkWord w) (hl : isLater w = 1#1) (h : Fin 8) (x : (rC256 h).shape.Idx) :
    laterVal w (part Q (rQw w hw hl h)) (part K (rKw w hw hl h)) (part K (rK128 h)) (part V (rKw w hw hl h))
      (part V (rK128 h)) x = laterCtx w hw hl Q K V ((rC256 h).emb x) := by
  unfold laterCtx
  rw [headOf_emb h rfl rfl x]
  congr 1
  funext a
  match a with
  | ⟨0, _⟩ => apply Fin.ext; simp [Rect.emb_apply]
  | ⟨1, _⟩ => exact Fin.ext (colOf_emb h rfl rfl x).symm

theorem run_laterHead (w : BitVec 32) (hw : ChunkWord w) (hl : isLater w = 1#1) (h : Fin 8) :
    iprop(inputs c Q K V ∗ ctxOn c (laterCtx w hw hl Q K V) fun i => (i 1).val < 128 * h.val)
      ⊢ run c (laterHead w hw hl h) fun _ =>
        iprop(inputs c Q K V ∗ ctxOn c (laterCtx w hw hl Q K V) fun i => (i 1).val < 128 * (h.val + 1)) := by
  unfold laterHead run ctxOn
  simp only [Prog.lift, Prog.bind_op, Prog.bind_ret]
  iintro ⟨⟨HQ, HK, HV⟩, ⟨%C, %hC, HC⟩⟩
  iapply (wp_load 𝒱₀ (c : Thread nD τ) none Set.univ (m := bQ) (Finset.subset_univ _)) $$ HQ; iintro HQ
  iapply (wp_load 𝒱₀ (c : Thread nD τ) none Set.univ (m := bKb) (Finset.subset_univ _)) $$ HK; iintro HK
  iapply (wp_load 𝒱₀ (c : Thread nD τ) none Set.univ (m := bKb) (Finset.subset_univ _)) $$ HK; iintro HK
  iapply (wp_load 𝒱₀ (c : Thread nD τ) none Set.univ (m := bVb) (Finset.subset_univ _)) $$ HV; iintro HV
  iapply (wp_load 𝒱₀ (c : Thread nD τ) none Set.univ (m := bVb) (Finset.subset_univ _)) $$ HV; iintro HV
  iapply (wp_load 𝒱₀ (c : Thread nD τ) none Set.univ (m := bCtx) (Finset.subset_univ _)) $$ HC; iintro HC
  iapply (wp_store 𝒱₀ (c : Thread nD τ) none Set.univ (m := bCtx) (r := rC256 h) (Mk := Finset.univ)
    (Finset.subset_univ _)) $$ HC; iintro HC
  rw [wp_ret]; imodintro
  isplitl [HQ HK HV]
  · isplitl [HQ]; · iexact HQ
    isplitl [HK] <;> iassumption
  iexists _
  isplitr
  rotate_left
  · iexact HC
  ipureintro
  intro i hi
  refine write_grow (b := cc0_scratch11) hC (laterVal_emb Q K V w hw hl h) i ?_
  by_cases hlt : (i 1).val < 128 * h.val
  · exact .inl hlt
  · refine .inr fun a => ?_
    have h0 := idx2_lt0 i
    match a with
    | ⟨0, _⟩ => exact ⟨Nat.zero_le _, by show (i 0).val < 0 + 256; omega⟩
    | ⟨1, _⟩ => exact ⟨by show 128 * h.val ≤ (i 1).val; omega, by show (i 1).val < 128 * h.val + 128; omega⟩

theorem globalVal_emb (h : Fin 8) (x : (rC32 h).shape.Idx) :
    globalVal (part Q (rQ32 h)) (part K (rK1024 h)) (part V (rK1024 h)) x = firstCtx Q K V ((rC32 h).emb x) := by
  have hx : (x 0).val < 32 := (x 0).isLt
  have h0 : (((rC32 h).emb x) 0).val = (x 0).val := by simp [Rect.emb_apply]
  unfold firstCtx
  rw [dif_pos (by rw [h0]; exact hx), headOf_emb h rfl rfl x]
  congr 1
  funext a
  match a with
  | ⟨0, _⟩ => exact Fin.ext h0.symm
  | ⟨1, _⟩ => exact Fin.ext (colOf_emb h rfl rfl x).symm

theorem winVal_emb (h : Fin 8) (x : (rC224 h).shape.Idx) :
    winVal (part Q (rQ224 h)) (part K (rK512 h)) (part V (rK512 h)) x = firstCtx Q K V ((rC224 h).emb x) := by
  have h0 : (((rC224 h).emb x) 0).val = 32 + (x 0).val := by simp [Rect.emb_apply]
  unfold firstCtx
  rw [dif_neg (by rw [h0]; omega), headOf_emb h rfl rfl x]
  congr 1
  funext a
  match a with
  | ⟨0, _⟩ => exact Fin.ext (by show (x 0).val = (((rC224 h).emb x) 0).val - 32; rw [h0]; omega)
  | ⟨1, _⟩ => exact Fin.ext (colOf_emb h rfl rfl x).symm

theorem run_globalHead (h : Fin 8) :
    iprop(inputs c Q K V ∗ ctxOn c (firstCtx Q K V) fun i => (i 0).val < 32 ∧ (i 1).val < 128 * h.val)
      ⊢ run c (globalHead h) fun _ =>
        iprop(inputs c Q K V ∗ ctxOn c (firstCtx Q K V) fun i => (i 0).val < 32 ∧ (i 1).val < 128 * (h.val + 1)) := by
  unfold globalHead run ctxOn
  simp only [Prog.lift, Prog.bind_op, Prog.bind_ret]
  iintro ⟨⟨HQ, HK, HV⟩, ⟨%C, %hC, HC⟩⟩
  iapply (wp_load 𝒱₀ (c : Thread nD τ) none Set.univ (m := bQ) (Finset.subset_univ _)) $$ HQ; iintro HQ
  iapply (wp_load 𝒱₀ (c : Thread nD τ) none Set.univ (m := bKb) (Finset.subset_univ _)) $$ HK; iintro HK
  iapply (wp_load 𝒱₀ (c : Thread nD τ) none Set.univ (m := bVb) (Finset.subset_univ _)) $$ HV; iintro HV
  iapply (wp_load 𝒱₀ (c : Thread nD τ) none Set.univ (m := bCtx) (Finset.subset_univ _)) $$ HC; iintro HC
  iapply (wp_store 𝒱₀ (c : Thread nD τ) none Set.univ (m := bCtx) (r := rC32 h) (Mk := Finset.univ)
    (Finset.subset_univ _)) $$ HC; iintro HC
  rw [wp_ret]; imodintro
  isplitl [HQ HK HV]
  · isplitl [HQ]; · iexact HQ
    isplitl [HK] <;> iassumption
  iexists _
  isplitr
  rotate_left
  · iexact HC
  ipureintro
  intro i hi
  refine write_grow (b := cc0_scratch11) hC (globalVal_emb Q K V h) i ?_
  by_cases hlt : (i 1).val < 128 * h.val
  · exact .inl ⟨hi.1, hlt⟩
  · refine .inr fun a => ?_
    match a with
    | ⟨0, _⟩ => exact ⟨Nat.zero_le _, by show (i 0).val < 0 + 32; omega⟩
    | ⟨1, _⟩ => exact ⟨by show 128 * h.val ≤ (i 1).val; omega, by show (i 1).val < 128 * h.val + 128; omega⟩

theorem run_winHead (h : Fin 8) :
    iprop(inputs c Q K V ∗ ctxOn c (firstCtx Q K V) fun i => (i 0).val < 32 ∨ (i 1).val < 128 * h.val)
      ⊢ run c (winHead h) fun _ =>
        iprop(inputs c Q K V ∗ ctxOn c (firstCtx Q K V) fun i => (i 0).val < 32 ∨ (i 1).val < 128 * (h.val + 1)) := by
  unfold winHead run ctxOn
  simp only [Prog.lift, Prog.bind_op, Prog.bind_ret]
  iintro ⟨⟨HQ, HK, HV⟩, ⟨%C, %hC, HC⟩⟩
  iapply (wp_load 𝒱₀ (c : Thread nD τ) none Set.univ (m := bQ) (Finset.subset_univ _)) $$ HQ; iintro HQ
  iapply (wp_load 𝒱₀ (c : Thread nD τ) none Set.univ (m := bKb) (Finset.subset_univ _)) $$ HK; iintro HK
  iapply (wp_load 𝒱₀ (c : Thread nD τ) none Set.univ (m := bVb) (Finset.subset_univ _)) $$ HV; iintro HV
  iapply (wp_load 𝒱₀ (c : Thread nD τ) none Set.univ (m := bCtx) (Finset.subset_univ _)) $$ HC; iintro HC
  iapply (wp_store 𝒱₀ (c : Thread nD τ) none Set.univ (m := bCtx) (r := rC224 h) (Mk := Finset.univ)
    (Finset.subset_univ _)) $$ HC; iintro HC
  rw [wp_ret]; imodintro
  isplitl [HQ HK HV]
  · isplitl [HQ]; · iexact HQ
    isplitl [HK] <;> iassumption
  iexists _
  isplitr
  rotate_left
  · iexact HC
  ipureintro
  intro i hi
  refine write_grow (b := cc0_scratch11) hC (winVal_emb Q K V h) i ?_
  by_cases hlt : (i 0).val < 32 ∨ (i 1).val < 128 * h.val
  · exact .inl hlt
  · refine .inr fun a => ?_
    have h0 := idx2_lt0 i
    match a with
    | ⟨0, _⟩ => exact ⟨by show 32 ≤ (i 0).val; omega, by show (i 0).val < 32 + 224; omega⟩
    | ⟨1, _⟩ => exact ⟨by show 128 * h.val ≤ (i 1).val; omega, by show (i 1).val < 128 * h.val + 128; omega⟩

theorem ctxOn_mono {G : Vec F S256x1024 .bf16} {P P' : S256x1024.Idx → Prop} (h : ∀ i, P' i → P i) :
    ctxOn c G P ⊢ ctxOn c G P' := by
  unfold ctxOn
  iintro ⟨%C, %hC, H⟩
  iexists C
  isplitr
  · ipureintro; exact fun i hi => hC i (h i hi)
  · iexact H

/-- Contents right everywhere are the contents wanted. -/
theorem ctxOn_all {G : Vec F S256x1024 .bf16} {P : S256x1024.Idx → Prop} (h : ∀ i, P i) :
    ctxOn c G P ⊢ holds c cc0_scratch11 G := by
  unfold ctxOn
  iintro ⟨%C, %hC, H⟩
  obtain rfl : C = G := funext fun i => hC i (h i)
  iexact H

theorem run_first : iprop(inputs c Q K V ∗ ∃ C, holds c cc0_scratch11 C)
    ⊢ run c ((heads globalHead).bind fun _ => heads winHead) fun _ =>
        iprop(inputs c Q K V ∗ holds c cc0_scratch11 (firstCtx Q K V)) := by
  rw [run_bind]
  have h1 := run_heads c (fun n => iprop(inputs c Q K V ∗ ctxOn c (firstCtx Q K V) fun i => (i 0).val < 32 ∧ (i 1).val < 128 * n))
    (run_globalHead c Q K V)
  have h2 := run_heads c (fun n => iprop(inputs c Q K V ∗ ctxOn c (firstCtx Q K V) fun i => (i 0).val < 32 ∨ (i 1).val < 128 * n))
    (run_winHead c Q K V)
  refine (sep_mono_right ?_).trans (h1.trans (wp_mono _ _ _ fun _ => (sep_mono_right (ctxOn_mono c ?_)).trans
    (h2.trans (wp_mono _ _ _ fun _ => sep_mono_right (ctxOn_all c ?_)))))
  · unfold ctxOn
    iintro ⟨%C, H⟩
    iexists C
    isplitr
    · ipureintro; intro i hi; omega
    · iexact H
  · intro i hi
    have := idx2_lt1 i
    exact ⟨by omega, by omega⟩
  · intro i
    have := idx2_lt1 i
    exact .inr (by omega)

theorem run_later (w : BitVec 32) (hw : ChunkWord w) (hl : isLater w = 1#1) :
    iprop(inputs c Q K V ∗ ∃ C, holds c cc0_scratch11 C)
    ⊢ run c (heads (laterHead w hw hl)) fun _ =>
        iprop(inputs c Q K V ∗ holds c cc0_scratch11 (laterCtx w hw hl Q K V)) := by
  have h1 := run_heads c (fun n => iprop(inputs c Q K V ∗ ctxOn c (laterCtx w hw hl Q K V) fun i => (i 1).val < 128 * n))
    (run_laterHead c Q K V w hw hl)
  refine (sep_mono_right ?_).trans (h1.trans (wp_mono _ _ _ fun _ => sep_mono_right (ctxOn_all c ?_)))
  · unfold ctxOn
    iintro ⟨%C, H⟩
    iexists C
    isplitr
    · ipureintro; intro i hi; omega
    · iexact H
  · intro i
    have := idx2_lt1 i
    omega

/-- A chunk's attention leaves its context in the context buffer. -/
theorem run_chunk {α : Type} (w : BitVec 32) (hw : ChunkWord w) (k : TcProg F α) (Φ : α → sProp 𝕄) :
    iprop(inputs c Q K V ∗ ∃ C, holds c cc0_scratch11 C)
      ⊢ iprop((iprop(inputs c Q K V ∗ holds c cc0_scratch11 (chunkCtx w hw Q K V)) -∗ run c k Φ)
          -∗ run c (chunkThen w hw k) Φ) := by
  unfold chunkThen firstThen laterThen chunkCtx
  by_cases hl : isLater w = 1#1
  · rw [dif_neg (fun hf => (isFirst_iff hw).mp hf hl), dif_pos hl, dif_pos hl]
    iintro H Hk
    iapply (run_then c (run_later c Q K V w hw hl)) $$ H
    iintro %_ H
    iapply Hk $$ H
  · rw [dif_pos ((isFirst_iff hw).mpr hl), dif_neg hl, dif_neg hl]
    iintro H Hk
    iapply (run_then c (run_first c Q K V)) $$ H
    iintro %_ H
    iapply Hk $$ H

end Cert.KernelProof
-- ==== Proof.Pieces.lean ====
/- The pieces of the body that compute: what each reads and what it leaves. -/
module

public import proofs.«01_k».proof.Proof.Attend

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (c : Dev nD)

/-! ## Parts of a buffer seen with a unit axis dropped -/

section Dropped

variable {s s' : Shape} {e : EltTy} (m : Memref sig .tc .vmem s e) (r : Rect s) (hr : ∀ a, r.stride a = 1)
  (hq : r.shape.Squeezes s')

omit [FloatOps F] [Named F] in
theorem dropped_set : ((m.slice r hr).squeeze s' hq).view.set = (m.access r).set := by
  exact View.set_reshape _ _

/-- A load from an owned part. -/
theorem run_loadPart {α : Type} {hl : m.view.LoadsAt r.toLoadRect} {q : PosShare TreeShare} {X : s'.Idx → Elt F e}
    {k : (r.shape.Idx → Elt F e) → TcProg F α} {Φ : α → sProp 𝕄} :
    owns (c : Thread nD τ) ((m.slice r hr).squeeze s' hq) q X
      ⊢ iprop((∀ v : r.shape.Idx → Elt F e, ⌜shapeCast s' v hq.numel_eq = X⌝
            -∗ owns (c : Thread nD τ) ((m.slice r hr).squeeze s' hq) q X -∗ run c (k v) Φ)
          -∗ run c (.op (.load m r.toLoadRect hl) k) Φ) := by
  unfold owns
  iintro ⟨%f, %hf, H⟩ Hk
  iapply (wp_load 𝒱₀ (c : Thread nD τ) none Set.univ (m := m) (r := r.toLoadRect)
    (S := ((m.slice r hr).squeeze s' hq).view.set)
    (by rw [dropped_set]; exact (View.set_slice (v := m.view) r).ge)) $$ H
  iintro H
  iapply Hk $$ %_ [] [H]
  · ipureintro; exact hf
  · iexists f
    isplitr
    · ipureintro; exact hf
    · iexact H

/-- A store into an owned part. -/
theorem run_storePart {α : Type} {w : r.shape.Idx → Elt F e} {hx : (m.access r).Stores Finset.univ}
    {hm : (Finset.univ : Finset r.shape.Idx) = Finset.univ ∨ ∀ a, r.stride a = 1} {X : s'.Idx → Elt F e}
    {k : PUnit → TcProg F α} {Φ : α → sProp 𝕄} :
    owns (c : Thread nD τ) ((m.slice r hr).squeeze s' hq) fullShare X
      ⊢ iprop((owns (c : Thread nD τ) ((m.slice r hr).squeeze s' hq) fullShare (shapeCast s' w hq.numel_eq)
            -∗ run c (k ⟨⟩) Φ)
          -∗ run c (.op (.store m r w Finset.univ hx hm) k) Φ) := by
  unfold owns
  iintro ⟨%f, %hf, H⟩ Hk
  iapply (wp_store 𝒱₀ (c : Thread nD τ) none Set.univ (m := m) (r := r) (Mk := Finset.univ)
    (S := ((m.slice r hr).squeeze s' hq).view.set)
    (by rw [dropped_set, View.setOn_univ])) $$ H
  iintro H
  iapply Hk
  iexists _
  isplitr
  rotate_left
  · iexact H
  ipureintro
  show (fun x => (m.access r).read (Elt F) ((m.access r).write (Elt F) f w Finset.univ) (Shape.reshapeEquiv hq.numel_eq x)) = _
  rw [View.read_write_univ]
  rfl

end Dropped

/-! ## Whole buffers -/

section Whole

variable {s : Shape} {e : EltTy} {m : Memref sig .tc .vmem s e} {off : Fin s.rank → ℕ} {inb : ∀ a, off a + s.size a ≤ s.size a}

omit [FloatOps F] [Named F] in
theorem whole_emb (i : (Rect.unit (s := s) off s.size inb).shape.Idx) : (Rect.unit (s := s) off s.size inb).emb i = i := by
  funext a
  apply Fin.ext
  have := inb a
  simp only [Rect.emb_apply, Rect.off_unit, Rect.stride_unit]
  omega

/-- A load of all of a buffer. -/
theorem run_loadWhole {α : Type} {hl : m.view.LoadsAt (Rect.unit (s := s) off s.size inb).toLoadRect}
    {q : PosShare TreeShare} {X : s.Idx → Elt F e} {k : (s.Idx → Elt F e) → TcProg F α} {Φ : α → sProp 𝕄} :
    owns (c : Thread nD τ) m q X ⊢ iprop((owns (c : Thread nD τ) m q X -∗ run c (k X) Φ)
      -∗ run c (.op (.load m (Rect.unit (s := s) off s.size inb).toLoadRect hl) k) Φ) := by
  unfold owns
  iintro ⟨%f, %hf, H⟩ Hk
  iapply (wp_load 𝒱₀ (c : Thread nD τ) none Set.univ (m := m) (r := (Rect.unit (s := s) off s.size inb).toLoadRect)
    (S := m.view.set) (View.setOn_subset_set _ _)) $$ H
  iintro H
  have e : m.view.readAt (Elt F) (Rect.unit (s := s) off s.size inb).toLoadRect f = X := by
    rw [← hf]
    funext x
    exact congrArg (m.view.read (Elt F) f) (whole_emb x)
  rw [e]
  iapply Hk
  iexists f
  isplitr
  · ipureintro; exact hf
  · iexact H

/-- A store of all of a buffer. -/
theorem run_storeWhole {α : Type} {X w : s.Idx → Elt F e} {hx hm}
    {k : PUnit → TcProg F α} {Φ : α → sProp 𝕄} :
    owns (c : Thread nD τ) m fullShare X ⊢ iprop((owns (c : Thread nD τ) m fullShare w -∗ run c (k ⟨⟩) Φ)
      -∗ run c (.op (.store m (Rect.unit (s := s) off s.size inb) w Finset.univ hx hm) k) Φ) := by
  unfold owns
  iintro ⟨%f, %hf, H⟩ Hk
  iapply (wp_store 𝒱₀ (c : Thread nD τ) none Set.univ (m := m)
    (r := Rect.unit (s := s) off s.size inb) (Mk := Finset.univ) (S := m.view.set)
    (by rw [View.setOn_univ]; exact View.set_slice_subset _ _)) $$ H
  iintro H
  iapply Hk
  iexists _
  isplitr
  rotate_left
  · iexact H
  ipureintro
  have e := View.read_write_univ (Val := Elt F) (v := m.access (Rect.unit (s := s) off s.size inb)) f w
  funext x
  rw [← congrFun e x]
  exact (congrArg (m.view.read (Elt F) _) (whole_emb x)).symm

end Whole

/-! ## Narrowing -/

/-- A square matrix, narrowed. -/
def narrowed (x : Vec F S1024x1024 .f32) : Vec F S1024x1024 .bf16 := truncf .bf16 x bitsLt_bf16_f32

theorem run_narrow {src : Memref sig .tc .vmem S1024x1024 .f32} {dst : Memref sig .tc .vmem S1024x1024 .bf16} {hd : dst.IsWhole}
    (x : Vec F S1024x1024 .f32) :
    iprop(owns (c : Thread nD τ) src fullShare x ∗ ∃ y, owns (c : Thread nD τ) dst fullShare y)
      ⊢ run c (narrow src dst hd) fun _ =>
        iprop(owns (c : Thread nD τ) src fullShare x ∗ owns (c : Thread nD τ) dst fullShare (narrowed x)) := by
  unfold narrow
  simp only [Prog.lift, Prog.bind_op, Prog.bind_ret]
  iintro ⟨Hx, ⟨%y, Hy⟩⟩
  iapply (run_loadWhole c (m := src)) $$ Hx; iintro Hx
  iapply (run_loadWhole c (m := dst)) $$ Hy; iintro Hy
  iapply (run_storeWhole c (m := dst)) $$ Hy; iintro Hy
  rw [run, wp_ret]; imodintro
  rw [shapeCast_self]
  isplitl [Hx]; · iexact Hx
  iexact Hy

theorem run_queries (x w : Vec F S1024x1024 .bf16) :
    iprop(owns (c : Thread nD τ) bXb fullShare x ∗ owns (c : Thread nD τ) bWqb fullShare w
        ∗ ∃ y, owns (c : Thread nD τ) bQ fullShare y)
      ⊢ run c queries fun _ => iprop(owns (c : Thread nD τ) bXb fullShare x ∗ owns (c : Thread nD τ) bWqb fullShare w
        ∗ owns (c : Thread nD τ) bQ fullShare (queryVal x w)) := by
  unfold queries
  simp only [Prog.lift, Prog.bind_op, Prog.bind_ret]
  iintro ⟨Hx, Hw, ⟨%y, Hy⟩⟩
  iapply (run_loadWhole c (m := bXb)) $$ Hx; iintro Hx
  iapply (run_loadWhole c (m := bWqb)) $$ Hw; iintro Hw
  iapply (run_loadWhole c (m := bQ)) $$ Hy; iintro Hy
  iapply (run_storeWhole c (m := bQ)) $$ Hy; iintro Hy
  rw [run, wp_ret]; imodintro
  isplitl [Hx]; · iexact Hx
  isplitl [Hw] <;> iassumption

/-! ## Narrowing the heads -/

/-- Keys or values, narrowed and laid out by heads. -/
def headsNarrowed (X : Fin 8 → Vec F S1024x128 .f32) : Vec F S8x1024x128 .bf16 := fun i =>
  truncf .bf16 (X (i 0)) bitsLt_bf16_f32 (ix2 (i 1) (i 2))

theorem narrowVal_emb (X : Fin 8 → Vec F S1024x128 .f32) (h : Fin 8) (k : Vec F S1x1024x128 .f32)
    (hk : shapeCast S1024x128 k shapeCasts_S1x1024x128_S1024x128 = X h) (x : (rK1024 h).shape.Idx) :
    narrowVal k x = headsNarrowed X ((rK1024 h).emb x) := by
  have hx0 : (x 0).val < 1 := (x 0).isLt
  have hx1 : (x 1).val < 1024 := (x 1).isLt
  have hx2 : (x 2).val < 128 := (x 2).isLt
  have hx : x = ix3 (⟨(x 0).val, hx0⟩ : Fin 1) ⟨(x 1).val, hx1⟩ ⟨(x 2).val, hx2⟩ := by
    funext a; match a with | ⟨0, _⟩ => rfl | ⟨1, _⟩ => rfl | ⟨2, _⟩ => rfl
  unfold narrowVal headsNarrowed
  rw [hk, hx]
  refine (shapeCast_ab_1ab_apply _ _ _ _ _).trans ?_
  have e0 : ((rK1024 h).emb (ix3 (⟨(x 0).val, hx0⟩ : Fin 1) ⟨(x 1).val, hx1⟩ ⟨(x 2).val, hx2⟩)) 0 = h := by
    apply Fin.ext
    simp only [Rect.emb_apply, Rect.off_unit, Rect.stride_unit]
    show h.val + 1 * (x 0).val = h.val
    omega
  have e1 : ix2 (⟨(x 1).val, hx1⟩ : Fin 1024) (⟨(x 2).val, hx2⟩ : Fin 128)
      = ix2 (((rK1024 h).emb (ix3 (⟨(x 0).val, hx0⟩ : Fin 1) ⟨(x 1).val, hx1⟩ ⟨(x 2).val, hx2⟩)) 1)
        (((rK1024 h).emb (ix3 (⟨(x 0).val, hx0⟩ : Fin 1) ⟨(x 1).val, hx1⟩ ⟨(x 2).val, hx2⟩)) 2) := by
    funext a
    match a with
    | ⟨0, _⟩ => apply Fin.ext; show (x 1).val = 0 + 1 * (x 1).val; omega
    | ⟨1, _⟩ => apply Fin.ext; show (x 2).val = 0 + 1 * (x 2).val; omega
  rw [e0]
  exact congrArg (truncf .bf16 (X h) bitsLt_bf16_f32) e1

variable (KX VX : Fin 8 → Vec F S1024x128 .f32)

/-- The first `n` heads narrowed. -/
def narrowedTo (n : ℕ) : sProp 𝕄 :=
  iprop((bigSep Finset.univ fun h => owns (c : Thread nD τ) (headF bKf h) fullShare (KX h))
    ∗ (bigSep Finset.univ fun h => owns (c : Thread nD τ) (headF bVf h) fullShare (VX h))
    ∗ (∃ A : Vec F S8x1024x128 .bf16, ⌜∀ i : S8x1024x128.Idx, (i 0).val < n → A i = headsNarrowed KX i⌝ ∗ holds c cc0_scratch8 A)
    ∗ ∃ A : Vec F S8x1024x128 .bf16, ⌜∀ i : S8x1024x128.Idx, (i 0).val < n → A i = headsNarrowed VX i⌝ ∗ holds c cc0_scratch9 A)

omit [FloatOps F] [Named F] in
theorem bigSep_lend {ι : Type} [Fintype ι] [DecidableEq ι] (Φ : ι → sProp 𝕄) (i : ι) :
    bigSep Finset.univ Φ ⊢ iprop(Φ i ∗ (Φ i -∗ bigSep Finset.univ Φ)) := by
  rw [bigSep_erase (Finset.mem_univ i)]
  refine (show iprop(Φ i ∗ bigSep (Finset.univ.erase i) Φ)
    ⊢ iprop(Φ i ∗ (Φ i -∗ (Φ i ∗ bigSep (Finset.univ.erase i) Φ))) from ?_)
  iintro ⟨H, HR⟩
  isplitl [H]; · iexact H
  iintro H
  isplitl [H] <;> iassumption

theorem run_narrowHead (h : Fin 8) :
    narrowedTo c KX VX h.val ⊢ run c (narrowHead h) fun _ => narrowedTo c KX VX (h.val + 1) := by
  unfold narrowHead narrowedTo
  simp only [Prog.lift, Prog.bind_op, Prog.bind_ret]
  iintro ⟨HK, HV, ⟨%A, %hA, HA⟩, ⟨%B, %hB, HB⟩⟩
  ihave ⟨Hk, HK⟩ := (bigSep_lend (fun h => owns (c : Thread nD τ) (headF bKf h) fullShare (KX h)) h) $$ HK
  ihave ⟨Hv, HV⟩ := (bigSep_lend (fun h => owns (c : Thread nD τ) (headF bVf h) fullShare (VX h)) h) $$ HV
  iapply (run_loadPart c bKf (rK1024 h) (fun _ => rfl) squeezes_S1x1024x128_S1024x128) $$ Hk
  iintro %k %hk Hk
  iapply (wp_load 𝒱₀ (c : Thread nD τ) none Set.univ (m := bKb) (Finset.subset_univ _)) $$ HA; iintro HA
  iapply (wp_store 𝒱₀ (c : Thread nD τ) none Set.univ (m := bKb) (r := rK1024 h) (Mk := Finset.univ)
    (Finset.subset_univ _)) $$ HA; iintro HA
  iapply (run_loadPart c bVf (rK1024 h) (fun _ => rfl) squeezes_S1x1024x128_S1024x128) $$ Hv
  iintro %v %hv Hv
  iapply (wp_load 𝒱₀ (c : Thread nD τ) none Set.univ (m := bVb) (Finset.subset_univ _)) $$ HB; iintro HB
  iapply (wp_store 𝒱₀ (c : Thread nD τ) none Set.univ (m := bVb) (r := rK1024 h) (Mk := Finset.univ)
    (Finset.subset_univ _)) $$ HB; iintro HB
  rw [wp_ret]; imodintro
  have grow : ∀ (i : S8x1024x128.Idx), (i 0).val < h.val + 1 → (i 0).val < h.val
      ∨ ∀ a, (![h.val, 0, 0] : Fin 3 → ℕ) a ≤ (i a).val ∧ (i a).val < (![h.val, 0, 0] : Fin 3 → ℕ) a + S1x1024x128.size a := by
    intro i hi
    by_cases hlt : (i 0).val < h.val
    · exact .inl hlt
    · have h1 : (i 1).val < 1024 := (i 1).isLt
      have h2 : (i 2).val < 128 := (i 2).isLt
      refine .inr fun a => ?_
      match a with
      | ⟨0, _⟩ => exact ⟨by show h.val ≤ (i 0).val; omega, by show (i 0).val < h.val + 1; omega⟩
      | ⟨1, _⟩ => exact ⟨Nat.zero_le _, by show (i 1).val < 0 + 1024; omega⟩
      | ⟨2, _⟩ => exact ⟨Nat.zero_le _, by show (i 2).val < 0 + 128; omega⟩
  isplitl [HK Hk]; · iapply HK $$ Hk
  isplitl [HV Hv]; · iapply HV $$ Hv
  isplitl [HA]
  · iexists _
    isplitr
    rotate_left
    · iexact HA
    ipureintro
    intro i hi
    exact write_grow (b := cc0_scratch8) hA (narrowVal_emb KX h k hk) i (grow i hi)
  · iexists _
    isplitr
    rotate_left
    · iexact HB
    ipureintro
    intro i hi
    exact write_grow (b := cc0_scratch9) hB (narrowVal_emb VX h v hv) i (grow i hi)

theorem run_narrowHeads : narrowedTo c KX VX 0 ⊢ run c (heads narrowHead) fun _ => narrowedTo c KX VX 8 :=
  run_heads c (narrowedTo c KX VX) (run_narrowHead c KX VX)

/-! ## The device's own chunk -/

theorem run_ownPart (x : Vec F S256x1024 .bf16) (w : Vec F S1024x1024 .bf16) :
    iprop(owns (c : Thread nD τ) bCtx fullShare x ∗ owns (c : Thread nD τ) bWob fullShare w
        ∗ ∃ y, owns (c : Thread nD τ) bAcc fullShare y)
      ⊢ run c ownPart fun _ => iprop(owns (c : Thread nD τ) bCtx fullShare x ∗ owns (c : Thread nD τ) bWob fullShare w
        ∗ owns (c : Thread nD τ) bAcc fullShare (partVal x w)) := by
  unfold ownPart
  simp only [Prog.lift, Prog.bind_op, Prog.bind_ret]
  iintro ⟨Hx, Hw, ⟨%y, Hy⟩⟩
  iapply (run_loadWhole c (m := bCtx)) $$ Hx; iintro Hx
  iapply (run_loadWhole c (m := bWob)) $$ Hw; iintro Hw
  iapply (run_loadWhole c (m := bAcc)) $$ Hy; iintro Hy
  iapply (run_storeWhole c (m := bAcc)) $$ Hy; iintro Hy
  rw [run, wp_ret]; imodintro
  rw [shapeCast_self]
  isplitl [Hx]; · iexact Hx
  isplitl [Hw] <;> iassumption

/-- A chunk, narrowed. -/
def chunkNarrowed (a : Vec F S256x1024 .f32) : Vec F S256x1024 .bf16 := truncf .bf16 a bitsLt_bf16_f32

theorem run_finishOwn (a : Vec F S256x1024 .f32) :
    iprop(owns (c : Thread nD τ) bAcc fullShare a ∗ ∃ y, owns (c : Thread nD τ) bSB fullShare y)
      ⊢ run c finishOwn fun _ => iprop(owns (c : Thread nD τ) bAcc fullShare a
        ∗ owns (c : Thread nD τ) bSB fullShare (chunkNarrowed a)) := by
  unfold finishOwn
  simp only [Prog.lift, Prog.bind_op, Prog.bind_ret]
  iintro ⟨Hx, ⟨%y, Hy⟩⟩
  iapply (run_loadWhole c (m := bAcc)) $$ Hx; iintro Hx
  iapply (run_loadWhole c (m := bSB)) $$ Hy; iintro Hy
  iapply (run_storeWhole c (m := bSB)) $$ Hy; iintro Hy
  rw [run, wp_ret]; imodintro
  rw [shapeCast_self]
  isplitl [Hx]; · iexact Hx
  iexact Hy

/-! ## The result -/

variable (O : Fin 4 → Vec F S256x1024 .bf16)

/-- The four chunks, one above the other. -/
def stacked : Vec F S1x1024x1024 .bf16 := fun i =>
  O ⟨(i 1).val / 256, by have : (i 1).val < 1024 := (i 1).isLt; omega⟩ (ix2 (⟨(i 1).val % 256, by omega⟩ : Fin 256) (i 2))

/-- The result is right on the chunks `P`. -/
def outOn (P : ℕ → Prop) : sProp 𝕄 :=
  iprop(∃ C : Vec F S1x1024x1024 .bf16, ⌜∀ i : S1x1024x1024.Idx, P ((i 1).val / 256) → C i = stacked O i⌝ ∗ holds c cc0_stg0_0 C)

theorem stacked_emb (n : Fin 4) {off : Fin 3 → ℕ} {inb} (ho : off = ![0, 256 * n.val, 0])
    (x : (Rect.unit (s := S1x1024x1024) off S1x256x1024.size inb).shape.Idx) :
    shapeCast S1x256x1024 (O n) shapeCasts_S256x1024_S1x256x1024 x
      = stacked O ((Rect.unit (s := S1x1024x1024) off S1x256x1024.size inb).emb x) := by
  subst ho
  have hx0 : (x 0).val < 1 := (x 0).isLt
  have hx1 : (x 1).val < 256 := (x 1).isLt
  have hx2 : (x 2).val < 1024 := (x 2).isLt
  have hx : x = ix3 (⟨(x 0).val, hx0⟩ : Fin 1) ⟨(x 1).val, hx1⟩ ⟨(x 2).val, hx2⟩ := by
    funext a; match a with | ⟨0, _⟩ => rfl | ⟨1, _⟩ => rfl | ⟨2, _⟩ => rfl
  have e : shapeCast S1x256x1024 (O n) shapeCasts_S256x1024_S1x256x1024 x
      = O n (ix2 (⟨(x 1).val, hx1⟩ : Fin 256) (⟨(x 2).val, hx2⟩ : Fin 1024)) := by
    conv_lhs => rw [hx]
    exact shapeCast_ab_1ab_apply _ _ _ _ _
  have v1 : (((Rect.unit (s := S1x1024x1024) ![0, 256 * n.val, 0] S1x256x1024.size inb).emb x) 1).val = 256 * n.val + (x 1).val := by
    show 256 * n.val + 1 * (x 1).val = _
    omega
  have v2 : (((Rect.unit (s := S1x1024x1024) ![0, 256 * n.val, 0] S1x256x1024.size inb).emb x) 2).val = (x 2).val := by
    show 0 + 1 * (x 2).val = _
    omega
  rw [e]
  unfold stacked
  congr 1
  · congr 1
    apply Fin.ext
    show n.val = _ / 256
    rw [v1]; omega
  · funext a
    match a with
    | ⟨0, _⟩ => apply Fin.ext; show (x 1).val = _ % 256; rw [v1]; omega
    | ⟨1, _⟩ => apply Fin.ext; exact v2.symm

/-- A chunk put into the result. -/
theorem run_place {α : Type} (P : ℕ → Prop) (n : Fin 4) {off : Fin 3 → ℕ} {inb} (ho : off = ![0, 256 * n.val, 0]) {hl hx hm}
    {w : FVec F S1x256x1024 .bf16} (hw : w = shapeCast S1x256x1024 (O n) shapeCasts_S256x1024_S1x256x1024)
    {k : PUnit → TcProg F α} {Φ : α → sProp 𝕄} :
    outOn c O P ⊢ iprop((outOn c O (fun m => P m ∨ m = n.val) -∗ run c (k ⟨⟩) Φ)
      -∗ run c (.op (.load bOut (Rect.unit (s := S1x1024x1024) off S1x256x1024.size inb).toLoadRect hl) fun _ =>
        .op (.store bOut (Rect.unit (s := S1x1024x1024) off S1x256x1024.size inb) w Finset.univ hx hm) k) Φ) := by
  subst hw
  unfold outOn
  iintro ⟨%C, %hC, H⟩ Hk
  iapply (wp_load 𝒱₀ (c : Thread nD τ) none Set.univ (m := bOut) (Finset.subset_univ _)) $$ H; iintro H
  iapply (wp_store 𝒱₀ (c : Thread nD τ) none Set.univ (m := bOut)
    (r := Rect.unit (s := S1x1024x1024) off S1x256x1024.size inb) (Mk := Finset.univ)
    (Finset.subset_univ _)) $$ H; iintro H
  iapply Hk
  iexists _
  isplitr
  rotate_left
  · iexact H
  ipureintro
  intro i hi
  refine write_grow (b := cc0_stg0_0) (P := fun i : S1x1024x1024.Idx => P ((i 1).val / 256)) hC (stacked_emb O n ho) i ?_
  refine hi.imp id fun h => ?_
  subst ho
  intro a
  have h0 : (i 0).val < 1 := (i 0).isLt
  have h2 : (i 2).val < 1024 := (i 2).isLt
  match a with
  | ⟨0, _⟩ => exact ⟨Nat.zero_le _, by show (i 0).val < 0 + 1; omega⟩
  | ⟨1, _⟩ => exact ⟨by show 256 * n.val ≤ (i 1).val; omega, by show (i 1).val < 256 * n.val + 256; omega⟩
  | ⟨2, _⟩ => exact ⟨Nat.zero_le _, by show (i 2).val < 0 + 1024; omega⟩

theorem run_placeOwn (P : ℕ → Prop) :
    iprop(owns (c : Thread nD τ) bSB fullShare (O c) ∗ outOn c O P)
      ⊢ run c (placeOwn c) fun _ => iprop(owns (c : Thread nD τ) bSB fullShare (O c) ∗ outOn c O fun m => P m ∨ m = c.val) := by
  unfold placeOwn
  simp only [Prog.lift, Prog.bind_op, Prog.bind_ret]
  iintro ⟨Hx, Ho⟩
  iapply (run_loadWhole c (m := bSB)) $$ Hx; iintro Hx
  iapply (run_place c O P c (k0_off67_eq c) rfl) $$ Ho; iintro Ho
  rw [run, wp_ret]; imodintro
  isplitl [Hx]; · iexact Hx
  iexact Ho

end Cert.KernelProof
-- ==== Proof.Sched.lean ====
/- The exchange between the devices: its cells, what each of them hands over, and what a device owes. -/
module

public import proofs.«01_k».proof.Proof.Pieces

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

/-! ## The devices and the cells -/

/-- The device `k + 1` places on. -/
def far (k : Fin 3) (c : Dev nD) : Dev nD := ⟨(c.val + 1 + k.val) % 4, Nat.mod_lt _ (by decide)⟩
/-- The way back. -/
def rev (k : Fin 3) : Fin 3 := ⟨2 - k.val, by omega⟩

theorem far_rev (k : Fin 3) (c : Dev nD) : far k (far (rev k) c) = c := by revert k c; decide
theorem rev_far (k : Fin 3) (c : Dev nD) : far (rev k) (far k c) = c := by revert k c; decide
theorem rev_rev (k : Fin 3) : rev (rev k) = k := by revert k; decide

def turn (k : Fin 3) : Dev nD ≃ Dev nD := ⟨far k, far (rev k), rev_far k, far_rev k⟩

/-- The semaphores of the exchanges: of sending and receiving partial products, of sending and receiving chunks. -/
def xsem (k : Fin 4) (j : Fin 3) : DmaSem sig :=
  match k with
  | 0 => (sendASem j).sem
  | 1 => (recvASem j).sem
  | 2 => (sendBSem j).sem
  | 3 => (recvBSem j).sem

/-- The cells of a device: its barrier and the twelve semaphores of the exchanges. -/
abbrev PK : Type := Option (Fin 4 × Fin 3)

def psem : PK → SemLoc sig
  | none => .reg barSem.sem
  | some kj => .dma (xsem kj.1 kj.2)

def pcell (c : Dev nD) (p : PK) : GSem nD τ sig := ((c : Thread nD τ), psem p)

theorem psem_injective : Function.Injective psem := by
  have h : ∀ p q : PK, psem p = psem q → p = q := by decide
  exact fun p q => h p q

theorem pcell_inj {c d : Dev nD} {p q : PK} (h : pcell c p = pcell d q) : c = d ∧ p = q :=
  ⟨Fin.ext (congrArg (fun g : GSem nD τ sig => g.1.1.val) h), psem_injective (congrArg Prod.snd h)⟩

/-- Which cell a semaphore is. -/
def kind (s : SemLoc sig) : Option PK := (List.finRange 3).foldr (fun j acc =>
  if s = psem (some (0, j)) then some (some (0, j)) else if s = psem (some (1, j)) then some (some (1, j))
  else if s = psem (some (2, j)) then some (some (2, j)) else if s = psem (some (3, j)) then some (some (3, j)) else acc)
  (if s = psem none then some none else none)

theorem kind_psem (p : PK) : kind (psem p) = some p := by revert p; decide

/-- The units of one transfer. -/
def N : ℕ := (slot bRA 0).view.dmaCredit
theorem N_pos : 0 < N := View.dmaCredit_pos _ (by decide)

/-! ## What is handed over -/

section Sched

variable (P : Dev nD → Dev nD → Vec F S256x1024 .bf16) (O : Dev nD → Vec F S256x1024 .bf16)

/-- The shares of the finished chunk under its three transfers. -/
def share3 (j : Fin 3) : PosShare TreeShare :=
  match j with
  | 0 => fullShare.left
  | 1 => fullShare.right.left
  | 2 => fullShare.right.right

/-- A slot of a device, with any contents. -/
def slotAny (m : Memref sig .tc .vmem S3x256x1024 .bf16) (c : Dev nD) (j : Fin 3) : sProp 𝕄 :=
  iprop(∃ X, owns (c : Thread nD τ) (slot m j) fullShare X)

/-- What a device's barrier receives with one signal: two slots of the device that signalled. -/
def meetPay (c : Dev nD) (j : Fin 3) : sProp 𝕄 :=
  iprop(slotAny bRA (far (rev j) c) j ∗ slotAny bRB (far (rev j) c) j)

/-- What the wait on a semaphore of the exchanges gives. -/
def xferPay (c : Dev nD) (k : Fin 4) (j : Fin 3) : sProp 𝕄 :=
  match k with
  | 0 => slotAny bSA c j
  | 1 => owns (c : Thread nD τ) (slot bRA j) fullShare (P (far j c) c)
  | 2 => owns (c : Thread nD τ) bSB (share3 j) (O c)
  | 3 => owns (c : Thread nD τ) (slot bRB j) fullShare (O (far j c))

def pay (c : Dev nD) (p : PK) (d : Fin 3) : sProp 𝕄 :=
  match p with
  | none => meetPay c d
  | some kj => xferPay P O c kj.1 kj.2

omit [FloatOps F] [Named F] in
instance slotAny_storable (m) (c : Dev nD) (j : Fin 3) : BI.Storable (upEmb : UEmb _ 𝕄) (slotAny (F := F) m c j) := by
  unfold slotAny owns; infer_instance

omit [FloatOps F] [Named F] in
instance pay_storable (c : Dev nD) (p : PK) (d : Fin 3) : BI.Storable (upEmb : UEmb _ 𝕄) (pay P O c p d) := by
  rcases p with _ | ⟨k, j⟩
  · show BI.Storable (upEmb : UEmb _ 𝕄) (meetPay c d)
    unfold meetPay; infer_instance
  · show BI.Storable (upEmb : UEmb _ 𝕄) (xferPay P O c k j)
    fin_cases k <;> unfold xferPay <;> first | infer_instance | (unfold owns; infer_instance)

def dutiesOf (p : PK) : Finset (Fin 3) := match p with | none => Finset.univ | some _ => {0}
def amountOf (p : PK) : ℕ := match p with | none => 1 | some _ => N

def sched : Rounds.Schedule (GSem nD τ sig) (Fin 3) 𝕄 where
  duties g r := if r = 0 ∧ g.1.2 = .tc then (kind g.2).elim ∅ dutiesOf else ∅
  unitless _ := False
  amount g _ _ := (kind g.2).elim 1 amountOf
  payload g _ d := (kind g.2).elim iprop(emp) fun p => pay P O g.1.1 p d
  amount_pos g _ _ _ := by
    rcases kind g.2 with _ | _ | _
    · exact Nat.one_pos
    · exact Nat.one_pos
    · exact N_pos

instance sched_payload_storable (g : GSem nD τ sig) (r : ℕ) (d : Fin 3) :
    BI.Storable (upEmb : UEmb _ 𝕄) ((sched P O).payload g r d) := by
  show BI.Storable upEmb ((kind g.2).elim iprop(emp) fun p => pay P O g.1.1 p d)
  rcases kind g.2 with _ | p
  · show BI.Storable upEmb iprop(emp)
    infer_instance
  · show BI.Storable upEmb (pay P O g.1.1 p d)
    infer_instance

variable (c : Dev nD) (p : PK)

omit [FloatOps F] [Named F] in
theorem duties_eq : (sched P O).duties (pcell c p) 0 = dutiesOf p := by
  show (if (0 : ℕ) = 0 ∧ (Proc.tc : Proc τ) = .tc then (kind (psem p)).elim ∅ dutiesOf else ∅) = _
  rw [if_pos ⟨rfl, rfl⟩, kind_psem]; rfl
omit [FloatOps F] [Named F] in
theorem duties_later (g : GSem nD τ sig) : ∀ r, 1 ≤ r → (sched P O).duties g r = ∅ :=
  fun r hr => by dsimp only [sched]; rw [if_neg fun h => by omega]
omit [FloatOps F] [Named F] in
theorem amount_eq (d : Fin 3) : (sched P O).amount (pcell c p) 0 d = amountOf p := by
  show (kind (psem p)).elim 1 amountOf = _
  rw [kind_psem]; rfl
omit [FloatOps F] [Named F] in
theorem payload_eq (d : Fin 3) : (sched P O).payload (pcell c p) 0 d = pay P O c p d := by
  show ((kind (psem p)).elim iprop(emp) fun p => pay P O c p d) = _
  rw [kind_psem]; rfl

omit [FloatOps F] [Named F] in
theorem expect_meet : (sched P O).expect (pcell c none) 0 = 3 := by
  unfold Schedule.expect Schedule.amountOf
  rw [duties_eq, Finset.sum_congr rfl fun d _ => amount_eq P O c none d]; rfl
omit [FloatOps F] [Named F] in
theorem expect_xfer (kj : Fin 4 × Fin 3) : (sched P O).expect (pcell c (some kj)) 0 = N := by
  unfold Schedule.expect Schedule.amountOf
  rw [duties_eq]
  exact (Finset.sum_singleton _ _).trans (amount_eq P O c (some kj) 0)

omit [FloatOps F] [Named F] in
theorem rest_meet : bigSep ((sched P O).duties (pcell c none) 0 \ ∅) (fun d => (sched P O).payload (pcell c none) 0 d)
    = iprop(meetPay c 0 ∗ meetPay c 1 ∗ meetPay c 2) := by
  rw [Finset.sdiff_empty, duties_eq]
  simp only [payload_eq]
  exact bigSep_univ_eq_bigSepL [0, 1, 2] (by decide) (by decide) _
omit [FloatOps F] [Named F] in
theorem rest_xfer (kj : Fin 4 × Fin 3) :
    bigSep ((sched P O).duties (pcell c (some kj)) 0 \ ∅) (fun d => (sched P O).payload (pcell c (some kj)) 0 d)
      = xferPay P O c kj.1 kj.2 := by
  rw [Finset.sdiff_empty, duties_eq]
  exact (bigSep_singleton).trans (payload_eq P O c (some kj) 0)

end Sched

/-! ## What a device owes, and the levels -/

/-- A device's debts in the order it pays them: to the device so many places on, at which cell, how many units. -/
def debts : List (Fin 3 × PK × ℕ) :=
  [(0, none, 1), (1, none, 1), (2, none, 1),
   (0, some (1, 2), N), (1, some (1, 1), N), (2, some (1, 0), N),
   (1, some (3, 1), N), (0, some (3, 2), N), (2, some (3, 0), N)]

abbrev debt (c : Dev nD) (x : Fin 3 × PK × ℕ) : CellTallies nD τ sig Unit := tallyAt (pcell (far x.1 c) x.2.1) () x.2.2

def sumOf (c : Dev nD) (l : List (Fin 3 × PK × ℕ)) : CellTallies nD τ sig Unit := l.foldr (fun x acc => acc + debt c x) 0

/-- What a device owes after `n` payments. -/
def owed (n : ℕ) (c : Dev nD) : CellTallies nD τ sig Unit := sumOf c (debts.drop n)

theorem sumOf_pos {c : Dev nD} {l : List (Fin 3 × PK × ℕ)} {g : GSem nD τ sig} {u : Unit} (h : 0 < sumOf c l g u) :
    ∃ x ∈ l, g = pcell (far x.1 c) x.2.1 := by
  induction l with
  | nil => exact absurd h (Nat.lt_irrefl 0)
  | cons x l ih =>
    change 0 < (sumOf c l + debt c x) g u at h
    rw [Pi.add_apply, Finsupp.add_apply, tallyAt_apply] at h
    by_cases hg : g = pcell (far x.1 c) x.2.1
    · exact ⟨x, List.mem_cons_self, hg⟩
    · rw [if_neg fun h' => hg h'.1, Nat.add_zero] at h
      obtain ⟨y, hy, e⟩ := ih h
      exact ⟨y, List.mem_cons_of_mem _ hy, e⟩

/-- The level of a semaphore. -/
def lvS (s : SemLoc sig) : ℕ := match kind s with
  | some none => 1
  | some (some (1, _)) => 2
  | some (some (3, _)) => 3
  | _ => 0

def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

omit [FloatOps F] [Named F] in
/-- A device may wait at a semaphore below all it still owes. -/
theorem mayWait (c : Dev nD) (s : SemLoc sig) (n : ℕ) (h : ∀ x ∈ debts.drop n, lvS s < lvS (psem x.2.1)) :
    (levAts L lv : sProp 𝕄) ⊢ MayWait (c : Thread nD τ) s () (owed n c) :=
  MayOwe.of_cut (L := L) (lev := lv) (lvS s) (fun p hp => by rw [Finset.mem_singleton.mp hp, L_tc]; exact Finset.mem_singleton_self _)
    (fun g u hg => by
      obtain ⟨x, -, rfl⟩ := sumOf_pos hg
      exact Finset.mem_singleton_self _)
    (fun p hp => by rw [Finset.mem_singleton.mp hp]; exact le_refl _)
    (fun g u hg => by
      obtain ⟨x, hx, rfl⟩ := sumOf_pos hg
      exact h x hx)

theorem below_copy (i : Fin 5) (n : ℕ) (hn : n ≤ 9) : ∀ x ∈ debts.drop n, lvS (.dma (copySem i).sem) < lvS (psem x.2.1) := by
  have h : ∀ i : Fin 5, ∀ x ∈ debts, lvS (.dma (copySem i).sem) < lvS (psem x.2.1) := by decide
  exact fun x hx => h i x (List.mem_of_mem_drop hx)

theorem below_meet : ∀ x ∈ debts.drop 3, lvS (psem none) < lvS (psem x.2.1) := by decide
theorem below_recvA (r : Fin 3) : ∀ x ∈ debts.drop 6, lvS (psem (some (1, r))) < lvS (psem x.2.1) := by revert r; decide

end Cert.KernelProof
-- ==== Proof.Exchange.lean ====
/- The steps of the exchange: signals, transfers to other devices, waits. -/
module

public import proofs.«01_k».proof.Proof.Sched

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (P : Dev nD → Dev nD → Vec F S256x1024 .bf16) (O : Dev nD → Vec F S256x1024 .bf16)
variable (K : Dev nD × PK → ℕ) (c : Dev nD)

/-- The rounds of all cells, which every device knows. -/
def recs : sProp 𝕄 :=
  iprop(bigSep Finset.univ (fun x : Dev nD × PK => cellInv ER (sched P O) (K x) (pcell x.1 x.2))
    ∗ bigSep Finset.univ (fun x : Dev nD × PK => reached (ER : Emb UB 𝕄) (pcell x.1 x.2) 0))

instance recs_persistent : BI.Persistent (recs P O K) := by unfold recs; infer_instance

omit [FloatOps F] [Named F] in
theorem recs_inv (x : Dev nD × PK) : recs P O K ⊢ cellInv ER (sched P O) (K x) (pcell x.1 x.2) :=
  sep_elim_left.trans (bigSep_elim (Φ := fun x : Dev nD × PK => cellInv ER (sched P O) (K x) (pcell x.1 x.2)) (Finset.mem_univ x))
omit [FloatOps F] [Named F] in
theorem recs_reached (x : Dev nD × PK) : recs P O K ⊢ reached (ER : Emb UB 𝕄) (pcell x.1 x.2) 0 :=
  sep_elim_right.trans (bigSep_elim (Φ := fun x : Dev nD × PK => reached (ER : Emb UB 𝕄) (pcell x.1 x.2) 0) (Finset.mem_univ x))

/-- What a device owes after `n` payments, whatever it has waited for. -/
def owing (n : ℕ) : sProp 𝕄 := iprop(∃ W, owes (c : Thread nD τ) (owed n c) W)

/-- The right to pay a duty. -/
abbrev tok (d : Dev nD) (p : PK) (j : Fin 3) : sProp 𝕄 := dutyTok (ER : Emb UB 𝕄) (pcell d p) 0 j
/-- The units a device may wait for. -/
abbrev units (d : Dev nD) (p : PK) (n : ℕ) : sProp 𝕄 := cred (tallyAt (pcell d p) () n)
/-- A device's place in the rounds of a cell of its own. -/
abbrev at_ (d : Dev nD) (p : PK) (n : ℕ) : sProp 𝕄 := atPos (ER : Emb UB 𝕄) (pcell d p) n ∅ 0

/-- A signal to another device, with two slots. -/
theorem run_signal (k : Fin 3) (n : ℕ) (hn : owed n c = owed (n + 1) c + tallyAt (pcell (far k c) none) () 1)
    {e : Dev nD} (he : e = far k c) :
    iprop(recs P O K ∗ owing c n ∗ tok (far k c) none k ∗ slotAny bRA c k ∗ slotAny bRB c k)
      ⊢ run c (semSignalWord e barSem.sem 1#32) fun _ => owing c (n + 1) := by
  subst he
  unfold owing
  simp only [semSignalWord, Prog.lift]
  iintro ⟨#HR, ⟨%W, HO⟩, Ht, Ha, Hb⟩
  iapply (Rounds.wp_signal 𝒱₀ ER (sched P O) (c : Thread nD τ) none (dst := (far k c : Thread nD τ)) (κ := K (far k c, none))
      (d := k) (by rw [show ((far k c : Thread nD τ), SemLoc.reg barSem.sem) = pcell (far k c) none from rfl, duties_eq]; exact Finset.mem_univ _)
      ((amount_eq P O (far k c) none k).trans (by decide)) () (owed (n + 1) c) hn)
    $$ [HO Ht Ha Hb]
  · isplitr; · iapply (recs_inv P O K (far k c, none)); iexact HR
    isplitl [HO]; · iexact HO
    isplitl [Ht]; · iexact Ht
    isplitl [Ha Hb]
    · iapply (Entails.of_eq (show iprop(slotAny bRA c k ∗ slotAny bRB c k)
        = (sched P O).payload ((far k c : Thread nD τ), SemLoc.reg barSem.sem) 0 k from by
          refine Eq.trans ?_ (payload_eq P O (far k c) none k).symm
          show _ = meetPay (far k c) k
          unfold meetPay
          rw [rev_far]))
      isplitl [Ha] <;> iassumption
    · iapply (recs_reached P O K (far k c, none)); iexact HR
  iintro HO
  rw [wp_ret]; imodintro
  iexists W; iexact HO

/-- The wait at the barrier: two slots of each other device. -/
theorem run_meet :
    iprop(recs P O K ∗ levAts L lv ∗ owing c 3 ∗ units c none 3 ∗ at_ c none 0)
      ⊢ run c (semWaitWord barSem.sem 3#32) fun _ =>
        iprop(owing c 3 ∗ at_ c none 1 ∗ meetPay c 0 ∗ meetPay c 1 ∗ meetPay c 2) := by
  unfold owing
  simp only [semWaitWord, Prog.lift]
  iintro ⟨#HR, #HL, ⟨%W, HO⟩, Hc, Hat⟩
  iapply (Rounds.wp_wait_rest_token 𝒱₀ ER (sched P O) (c : Thread nD τ) none (κ := K (c, none))
      (wpE_semWait_eq 𝒱₀ (c : Thread nD τ) none Set.univ) (Set.mem_univ _) () (O := owed 3 c) (W := W) (R := 0) (m := 0) (T := ∅)
      (by rw [show ((c : Thread nD τ), SemLoc.reg barSem.sem) = pcell c none from rfl, expect_meet]; decide)) $$ [Hc HO Hat]
  · isplitr; · iapply (recs_inv P O K (c, none)); iexact HR
    isplitl [Hc]; · iexact Hc
    isplitl [HO]; · iexact HO
    isplitr; · iapply (mayWait c (psem none) 3 below_meet); iexact HL
    iexact Hat
  iintro ⟨HO, Hat, -, Hpay⟩
  ihave Hp := (Entails.of_eq (show bigSep ((sched P O).duties ((c : Thread nD τ), SemLoc.reg barSem.sem) 0 \ ∅)
    (fun d => (sched P O).payload ((c : Thread nD τ), SemLoc.reg barSem.sem) 0 d) = _ from rest_meet P O c)) $$ Hpay
  rw [wp_ret]; imodintro
  isplitl [HO]; · iexists _; iexact HO
  isplitl [Hat]; · iexact Hat
  iexact Hp

/-- A wait at a semaphore of the exchanges. -/
theorem run_await (kj : Fin 4 × Fin 3) (n : ℕ) (hb : ∀ x ∈ debts.drop n, lvS (psem (some kj)) < lvS (psem x.2.1))
    {src dst : Memref sig .tc .vmem S256x1024 .bf16} {hs : src.view.WordExact} {hd : dst.view.WordExact}
    (hN : dst.view.dmaCredit = N) {α : Type} {k : PUnit → TcProg F α} {Φ : α → sProp 𝕄} :
    iprop(recs P O K ∗ levAts L lv ∗ owing c n ∗ units c (some kj) N ∗ at_ c (some kj) 0)
      ⊢ iprop((owing c n ∗ at_ c (some kj) 1 ∗ xferPay P O c kj.1 kj.2 -∗ run c (k ⟨⟩) Φ)
        -∗ run c (.op (.waitDma2 (xsem kj.1 kj.2) src dst hs hd) k) Φ) := by
  unfold owing
  iintro ⟨#HR, #HL, ⟨%W, HO⟩, Hc, Hat⟩ Hk
  iapply (Rounds.wp_wait_rest_token 𝒱₀ ER (sched P O) (c : Thread nD τ) none (κ := K (c, some kj))
      (wpE_waitDma2_eq 𝒱₀ (c : Thread nD τ) none Set.univ) (Set.mem_univ _) () (O := owed n c) (W := W) (R := 0) (m := 0) (T := ∅)
      (by rw [show ((c : Thread nD τ), SemLoc.dma (xsem kj.1 kj.2)) = pcell c (some kj) from rfl, expect_xfer, hN, Nat.zero_add])) $$ [Hc HO Hat]
  · isplitr; · iapply (recs_inv P O K (c, some kj)); iexact HR
    isplitl [Hc]; · iexact Hc
    isplitl [HO]; · iexact HO
    isplitr; · iapply (mayWait c (psem (some kj)) n hb); iexact HL
    iexact Hat
  iintro ⟨HO, Hat, -, Hpay⟩
  ihave Hp := (Entails.of_eq (show bigSep ((sched P O).duties ((c : Thread nD τ), SemLoc.dma (xsem kj.1 kj.2)) 0 \ ∅)
    (fun d => (sched P O).payload ((c : Thread nD τ), SemLoc.dma (xsem kj.1 kj.2)) 0 d) = _ from rest_xfer P O c kj)) $$ Hpay
  iapply Hk
  isplitl [HO]; · iexists _; iexact HO
  isplitl [Hat]; · iexact Hat
  iexact Hp

omit [FloatOps F] [Named F] in
theorem mem_duties (kj : Fin 4 × Fin 3) : 0 ∈ (sched P O).duties (pcell c (some kj)) 0 := by
  rw [duties_eq]; exact Finset.mem_singleton_self _

/-- A transfer into a slot of another device. -/
theorem run_send (ks kd : Fin 4 × Fin 3) (n : ℕ) {e d : Dev nD} (he : e = d)
    (hn : owed n c = owed (n + 1) c + tallyAt (pcell d (some kd)) () N)
    {src dst : Memref sig .tc .vmem S256x1024 .bf16} {hsc} {hs : src.view.WordExact} {hd : dst.view.WordExact} {hx}
    (hN : dst.view.dmaCredit = N) {q : PosShare TreeShare} (X : Vec F S256x1024 .bf16)
    (h₁ : owns (c : Thread nD τ) src q X ⊢ xferPay P O c ks.1 ks.2)
    (h₂ : owns (d : Thread nD τ) dst fullShare X ⊢ xferPay P O d kd.1 kd.2)
    {α : Type} {k : PUnit → TcProg F α} {Φ : α → sProp 𝕄} :
    iprop(recs P O K ∗ owing c n ∗ owns (c : Thread nD τ) src q X ∗ (∃ Y, owns (d : Thread nD τ) dst fullShare Y)
        ∗ tok c (some ks) 0 ∗ tok d (some kd) 0)
      ⊢ iprop((owing c (n + 1) ∗ units c (some ks) N -∗ run c (k ⟨⟩) Φ)
        -∗ run c (.op (.enqueueDma src (.remote (Dev.tc e) dst (.dma (xsem ks.1 ks.2)) hsc) (.dma (xsem kd.1 kd.2)) hs hd hx) k) Φ) := by
  subst he
  unfold owing
  unfold owns at h₁ h₂ ⊢
  iintro ⟨#HR, ⟨%W, HO⟩, ⟨%f, %hf, Hs⟩, ⟨%Y, %g, %hg, Hd⟩, Ht, Ht'⟩ Hk
  iapply (Rounds.wp_send_pointsTo 𝒱₀ ER (sched P O) (c : Thread nD τ) none (κ₁ := K (c, some ks)) (κ₂ := K (e, some kd))
    (r₁ := 0) (r₂ := 0) (d₁ := 0) (d₂ := 0) (fd := g)
    (sS := .dma (xsem ks.1 ks.2)) (sem := .dma (xsem kd.1 kd.2)) (mem_duties P O c ks) (mem_duties P O e kd)
    () () N hN (amount_eq P O c (some ks) 0) (amount_eq P O e (some kd) 0) (owed (n + 1) c) hn (W := W)
    (by
      refine BIBase.Entails.trans ?_ (h₁.trans (Entails.of_eq (payload_eq P O c (some ks) 0).symm))
      iintro H; iexists f; isplitr; · ipureintro; exact hf
      iexact H)
    (by
      refine BIBase.Entails.trans ?_ (h₂.trans (Entails.of_eq (payload_eq P O e (some kd) 0).symm))
      iintro H; iexists _; isplitr
      rotate_left
      · iexact H
      ipureintro; rw [View.read_write_univ]; exact hf)) $$ [Hs Hd HO Ht Ht']
  · isplitr; · iapply (recs_inv P O K (c, some ks)); iexact HR
    isplitr; · iapply (recs_inv P O K (e, some kd)); iexact HR
    isplitl [Hs]; · iexact Hs
    isplitl [Hd]; · iexact Hd
    isplitl [HO]; · iexact HO
    isplitl [Ht]; · iexact Ht
    isplitr; · iapply (recs_reached P O K (c, some ks)); iexact HR
    isplitl [Ht']; · iexact Ht'
    iapply (recs_reached P O K (e, some kd)); iexact HR
  iintro ⟨Hc, HO⟩
  iapply Hk
  isplitl [HO]; · iexists W; iexact HO
  iexact Hc

/-! ## The pieces of the body that exchange -/

omit [FloatOps F] [Named F] in
theorem slot_credit (m : Memref sig .tc .vmem S3x256x1024 .bf16) (j : Fin 3) : (slot m j).view.dmaCredit = N := rfl

/-- A partial product as it is sent. -/
def sentVal (x : Vec F S256x1024 .bf16) (w : Vec F S1024x1024 .bf16) : Vec F S256x1024 .bf16 :=
  truncf .bf16 (partVal x w) bitsLt_bf16_f32

theorem run_sendPart (j r : Fin 3) (hr : r = rev j) (n : ℕ) (e : Dev nD) (he : e = far j c)
    (hn : owed n c = owed (n + 1) c + tallyAt (pcell (far j c) (some (1, r))) () N)
    (x : Vec F S256x1024 .bf16) (w : Vec F S1024x1024 .bf16) (hP : P c (far j c) = sentVal x w) :
    iprop(recs P O K ∗ owing c n ∗ owns (c : Thread nD τ) bCtx fullShare x ∗ owns (c : Thread nD τ) bWob fullShare w
        ∗ slotAny bSA c j ∗ slotAny bRA (far j c) r ∗ tok c (some (0, j)) 0 ∗ tok (far j c) (some (1, r)) 0)
      ⊢ run c (sendPart j r e) fun _ => iprop(owing c (n + 1) ∗ owns (c : Thread nD τ) bCtx fullShare x
        ∗ owns (c : Thread nD τ) bWob fullShare w ∗ units c (some (0, j)) N) := by
  subst hr
  unfold sendPart slotAny
  simp only [Prog.lift, Prog.bind_op, Prog.bind_ret]
  iintro ⟨#HR, HO, Hx, Hw, ⟨%y, Hs⟩, Hd, Ht, Ht'⟩
  iapply (run_loadWhole c (m := bCtx)) $$ Hx; iintro Hx
  iapply (run_loadWhole c (m := bWob)) $$ Hw; iintro Hw
  iapply (run_loadPart c bSA (rSlot j) (fun _ => rfl) squeezes_S1x256x1024_S256x1024) $$ Hs
  iintro %v - Hs
  iapply (run_storePart c bSA (rSlot j) (fun _ => rfl) squeezes_S1x256x1024_S256x1024) $$ Hs; iintro Hs
  have hv : shapeCast S256x1024 (slotVal x w) squeezes_S1x256x1024_S256x1024.numel_eq = sentVal x w := by
    unfold slotVal sentVal
    rw [shapeCast_shapeCast]
  rw [hv]
  iapply (run_send P O K c (0, j) (1, rev j) n he hn (slot_credit bRA _) (sentVal x w)
    (by
      show _ ⊢ slotAny bSA c j
      unfold slotAny; iintro H; iexists _; iexact H)
    (by
      show _ ⊢ owns (far j c : Thread nD τ) (slot bRA (rev j)) fullShare (P (far (rev j) (far j c)) (far j c))
      rw [rev_far, hP])) $$ [HO Hs Hd Ht Ht']
  · isplitr; · iexact HR
    isplitl [HO]; · iexact HO
    isplitl [Hs]; · iexact Hs
    isplitl [Hd]; · iexact Hd
    isplitl [Ht] <;> iassumption
  iintro ⟨HO, Hc⟩
  rw [run, wp_ret]; imodintro
  isplitl [HO]; · iexact HO
  isplitl [Hx]; · iexact Hx
  isplitl [Hw] <;> iassumption

theorem run_sendOwn (j r : Fin 3) (hr : r = rev j) (n : ℕ) (e : Dev nD) (he : e = far j c)
    (hn : owed n c = owed (n + 1) c + tallyAt (pcell (far j c) (some (3, r))) () N) :
    iprop(recs P O K ∗ owing c n ∗ owns (c : Thread nD τ) bSB (share3 j) (O c)
        ∗ slotAny bRB (far j c) r ∗ tok c (some (2, j)) 0 ∗ tok (far j c) (some (3, r)) 0)
      ⊢ run c (sendOwn j r e) fun _ => iprop(owing c (n + 1) ∗ units c (some (2, j)) N) := by
  subst hr
  unfold sendOwn slotAny
  simp only [Prog.lift, Prog.bind_op, Prog.bind_ret]
  iintro ⟨#HR, HO, Hs, Hd, Ht, Ht'⟩
  iapply (run_send P O K c (2, j) (3, rev j) n he hn (slot_credit bRB _) (O c)
    (by exact Entails.rfl)
    (by
      show _ ⊢ owns (far j c : Thread nD τ) (slot bRB (rev j)) fullShare (O (far (rev j) (far j c)))
      rw [rev_far])) $$ [HO Hs Hd Ht Ht']
  · isplitr; · iexact HR
    isplitl [HO]; · iexact HO
    isplitl [Hs]; · iexact Hs
    isplitl [Hd]; · iexact Hd
    isplitl [Ht] <;> iassumption
  iintro ⟨HO, Hc⟩
  rw [run, wp_ret]; imodintro
  isplitl [HO] <;> iassumption

/-- A running sum and one more chunk. -/
def added (a : Vec F S256x1024 .f32) (p : Vec F S256x1024 .bf16) : Vec F S256x1024 .f32 :=
  addf a (extf .f32 p bitsLt_bf16_f32)

theorem run_addPart (r : Fin 3) (a : Vec F S256x1024 .f32) :
    iprop(recs P O K ∗ levAts L lv ∗ owing c 6 ∗ units c (some (1, r)) N ∗ at_ c (some (1, r)) 0
        ∗ owns (c : Thread nD τ) bAcc fullShare a)
      ⊢ run c (addPart r) fun _ => iprop(owing c 6 ∗ at_ c (some (1, r)) 1
        ∗ owns (c : Thread nD τ) bAcc fullShare (added a (P (far r c) c)) ∗ slotAny bRA c r) := by
  unfold addPart
  simp only [Prog.lift, Prog.bind_op, Prog.bind_ret]
  iintro ⟨#HR, #HL, HO, Hc, Hat, Ha⟩
  iapply (run_await P O K c (1, r) 6 (below_recvA r) (src := slot bSA 0) (dst := slot bRA r) (slot_credit bRA r)) $$ [HO Hc Hat]
  · isplitr; · iexact HR
    isplitr; · iexact HL
    isplitl [HO]; · iexact HO
    isplitl [Hc] <;> iassumption
  iintro ⟨HO, Hat, Hp⟩
  ihave Hs := (show xferPay P O c 1 r ⊢ owns (c : Thread nD τ) (slot bRA r) fullShare (P (far r c) c) from Entails.rfl) $$ Hp
  iapply (run_loadWhole c (m := bAcc)) $$ Ha; iintro Ha
  iapply (run_loadPart c bRA (rSlot r) (fun _ => rfl) squeezes_S1x256x1024_S256x1024) $$ Hs
  iintro %v %hv Hs
  iapply (run_loadWhole c (m := bAcc)) $$ Ha; iintro Ha
  iapply (run_storeWhole c (m := bAcc)) $$ Ha; iintro Ha
  rw [run, wp_ret]; imodintro
  have e : accVal a v = added a (P (far r c) c) := by
    unfold accVal added
    rw [shapeCast_self, ← hv]
  rw [e]
  isplitl [HO]; · iexact HO
  isplitl [Hat]; · iexact Hat
  isplitl [Ha]; · iexact Ha
  unfold slotAny
  iexists _; iexact Hs

theorem run_placeOther (r : Fin 3) (P' : ℕ → Prop) :
    iprop(recs P O K ∗ levAts L lv ∗ owing c 9 ∗ units c (some (3, r)) N ∗ at_ c (some (3, r)) 0 ∗ outOn c O P')
      ⊢ run c (placeOther c r) fun _ => iprop(owing c 9 ∗ at_ c (some (3, r)) 1
        ∗ outOn c O (fun m => P' m ∨ m = (far r c).val) ∗ slotAny bRB c r) := by
  unfold placeOther
  simp only [Prog.lift, Prog.bind_op, Prog.bind_ret]
  iintro ⟨#HR, #HL, HO, Hc, Hat, Ho⟩
  iapply (run_await P O K c (3, r) 9 (fun x hx => absurd hx List.not_mem_nil) (src := bSB) (dst := slot bRB r) (slot_credit bRB r)) $$ [HO Hc Hat]
  · isplitr; · iexact HR
    isplitr; · iexact HL
    isplitl [HO]; · iexact HO
    isplitl [Hc] <;> iassumption
  iintro ⟨HO, Hat, Hp⟩
  ihave Hs := (show xferPay P O c 3 r ⊢ owns (c : Thread nD τ) (slot bRB r) fullShare (O (far r c)) from Entails.rfl) $$ Hp
  iapply (run_loadPart c bRB (rSlot r) (fun _ => rfl) squeezes_S1x256x1024_S256x1024) $$ Hs
  iintro %v %hv Hs
  iapply (run_place c O P' (far r c) ((k0_off68_eq c r).trans (by
    show _ = ![0, 256 * ((c.val + 1 + r.val) % 4), 0]
    rw [Nat.add_right_comm])) (by rw [← hv])) $$ Ho; iintro Ho
  rw [run, wp_ret]; imodintro
  isplitl [HO]; · iexact HO
  isplitl [Hat]; · iexact Hat
  isplitl [Ho]; · iexact Ho
  unfold slotAny
  iexists _; iexact Hs

theorem run_drainPart (j r : Fin 3) :
    iprop(recs P O K ∗ levAts L lv ∗ owing c 9 ∗ units c (some (0, j)) N ∗ at_ c (some (0, j)) 0)
      ⊢ run c (drainPart j r) fun _ => iprop(owing c 9 ∗ at_ c (some (0, j)) 1 ∗ slotAny bSA c j) := by
  unfold drainPart
  simp only [Prog.lift, Prog.bind_op, Prog.bind_ret]
  iintro H
  iapply (run_await P O K c (0, j) 9 (fun x hx => absurd hx List.not_mem_nil) (src := slot bRA r) (dst := slot bSA j) (slot_credit bSA j)) $$ H
  iintro H
  rw [run, wp_ret]; imodintro
  iexact H

theorem run_drainOwn (j r : Fin 3) :
    iprop(recs P O K ∗ levAts L lv ∗ owing c 9 ∗ units c (some (2, j)) N ∗ at_ c (some (2, j)) 0)
      ⊢ run c (drainOwn j r) fun _ => iprop(owing c 9 ∗ at_ c (some (2, j)) 1 ∗ owns (c : Thread nD τ) bSB (share3 j) (O c)) := by
  unfold drainOwn
  simp only [Prog.lift, Prog.bind_op, Prog.bind_ret]
  iintro H
  iapply (run_await P O K c (2, j) 9 (fun x hx => absurd hx List.not_mem_nil) (src := slot bRB r) (dst := bSB) rfl) $$ H
  iintro H
  rw [run, wp_ret]; imodintro
  iexact H

/-- A cell whose round is over reads zero. -/
theorem close (p : PK) : iprop(recs P O K ∗ at_ c p 1) ⊢ iprop(|={Set.univ}=> semVal (pcell c p) 0) := by
  refine BIBase.Entails.trans (sep_mono_left (recs_inv P O K (c, p))) ?_
  exact Rounds.cell_close ER (sched P O) (Set.mem_univ (K (c, p))) (fun h => h) (R := 0 + 1) (duties_later P O (pcell c p))

end Cert.KernelProof
-- ==== Proof.Copies.lean ====
/- The copies from the arguments: buffers in parts, copies begun and awaited. -/
module

public import proofs.«01_k».proof.Proof.Exchange

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (c : Dev nD)

/-! ## Buffers in parts -/

omit [FloatOps F] [Named F] in
/-- Owning a part at what it reads of some contents is owning its elements at these contents. -/
theorem owns_read {sp : Space} {s : Shape} {e : EltTy} (m : Memref sig .tc sp s e) (q : PosShare TreeShare)
    (f : m.view.ty.Contents (Elt F)) :
    (owns (c : Thread nD τ) m q (m.view.read (Elt F) f) : sProp 𝕄) = (m.view.loc (c : Thread nD τ) ↦[m.view.set]{q} f) := by
  have h₁ : (owns (c : Thread nD τ) m q (m.view.read (Elt F) f) : sProp 𝕄) ⊢ (m.view.loc (c : Thread nD τ) ↦[m.view.set]{q} f) := by
    unfold owns
    iintro ⟨%g, %hg, H⟩
    have e : (m.view.loc (c : Thread nD τ) ↦[m.view.set]{q} g : sProp 𝕄) = (m.view.loc (c : Thread nD τ) ↦[m.view.set]{q} f) :=
      pointsTo_congr fun i hi => by
        obtain ⟨x, -, rfl⟩ := Finset.mem_map.mp hi
        have := congrFun hg x
        simp only [View.read] at this
        exact (cast_inj _).mp this
    rw [← e]
    iexact H
  exact BI.Entails.antisymm h₁ (owns_intro (c : Thread nD τ) m q f)

omit [FloatOps F] [Named F] in
/-- A part lent out of a buffer. -/
theorem lend_part {sp : Space} {s : Shape} {e : EltTy} (m : Memref sig .tc sp s e) (f : m.view.ty.Contents (Elt F)) :
    (m.view.loc (c : Thread nD τ) ↦{fullShare} f : sProp 𝕄)
      ⊢ iprop(owns (c : Thread nD τ) m fullShare (m.view.read (Elt F) f)
        ∗ (owns (c : Thread nD τ) m fullShare (m.view.read (Elt F) f) -∗ (m.view.loc (c : Thread nD τ) ↦{fullShare} f))) := by
  rw [owns_read]
  iintro H
  ihave H := (pointsTo_split_subset (Finset.subset_univ m.view.set)).1 $$ H
  icases H with ⟨H, HR⟩
  isplitl [H]; · iexact H
  iintro H
  iapply (pointsTo_split_subset (Finset.subset_univ m.view.set)).2
  isplitl [H] <;> iassumption

omit [FloatOps F] [Named F] in
theorem sepMono {ι : Type} [Fintype ι] {Φ Ψ : ι → sProp 𝕄} (h : ∀ i, Φ i ⊢ Ψ i) :
    bigSep Finset.univ Φ ⊢ bigSep Finset.univ Ψ := bigSep_mono fun i _ => h i

omit [FloatOps F] [Named F] in
theorem bigSep_three (Φ : Fin 3 → sProp 𝕄) : bigSep Finset.univ Φ = iprop(Φ 0 ∗ Φ 1 ∗ Φ 2) :=
  bigSep_univ_eq_bigSepL [0, 1, 2] (by decide) (by decide) Φ

section Parts

variable {b : Ref sig .tc} {n : ℕ} {s' : Shape} (r : Fin n → Rect b.ty.shape) (hr : ∀ t a, (r t).stride a = 1)
  (hq : ∀ t, (r t).shape.Squeezes s') (hd : ∀ t t', t ≠ t' → Disjoint (r t).set (r t').set) (hc : ∀ i, ∃ t, i ∈ (r t).set)

/-- The parts of a buffer. -/
abbrev partOf (t : Fin n) := ((Memref.whole b).slice (r t) (hr t)).squeeze s' (hq t)

omit [FloatOps F] [Named F] in
theorem partOf_set (t : Fin n) : (partOf r hr hq t).view.set = (r t).set :=
  (View.set_reshape _ _).trans (View.set_slice_whole b (r t))

include hd hc in
omit [FloatOps F] [Named F] in
/-- A buffer is its parts. -/
theorem whole_parts (f : b.ty.Contents (Elt F)) :
    (holds c b f : sProp 𝕄)
      = bigSep Finset.univ fun t => owns (c : Thread nD τ) (partOf r hr hq t) fullShare ((partOf r hr hq t).view.read (Elt F) f) := by
  have e : (Finset.univ : Finset b.ty.shape.Idx) = Finset.univ.biUnion fun t => (r t).set := by
    ext i
    obtain ⟨t, ht⟩ := hc i
    exact ⟨fun _ => Finset.mem_biUnion.mpr ⟨t, Finset.mem_univ _, ht⟩, fun _ => Finset.mem_univ _⟩
  refine Eq.trans ?_ (bigSep_congr fun t _ => ((owns_read c (partOf r hr hq t) fullShare f).trans (by rw [partOf_set])).symm)
  refine Eq.trans ?_ (pointsTo_biUnion (ℓ := (c : Thread nD τ).loc b) Finset.univ (fun t => (r t).set) fun t _ t' _ h => hd t t' h)
  show ((c : Thread nD τ).loc b ↦[Finset.univ]{fullShare} f : sProp 𝕄) = _
  rw [← e]

include hd hc in
omit [FloatOps F] [Named F] in
theorem whole_any : (iprop(∃ f, holds c b f) : sProp 𝕄)
    ⊢ bigSep Finset.univ fun t => iprop(∃ X, owns (c : Thread nD τ) (partOf r hr hq t) fullShare X) := by
  iintro ⟨%f, H⟩
  ihave H := (Entails.of_eq (whole_parts c r hr hq hd hc f)) $$ H
  iapply (sepMono fun t => (show (owns (c : Thread nD τ) (partOf r hr hq t) fullShare ((partOf r hr hq t).view.read (Elt F) f) : sProp 𝕄)
    ⊢ iprop(∃ X, owns (c : Thread nD τ) (partOf r hr hq t) fullShare X) by iintro H; iexists _; iexact H))
  iexact H

include hd hc in
omit [FloatOps F] [Named F] in
/-- The parts of a buffer, each with any contents, are the buffer with some contents. -/
theorem parts_whole [∀ e, Nonempty (Elt F e)] :
    bigSep Finset.univ (fun t => iprop(∃ X, owns (c : Thread nD τ) (partOf r hr hq t) fullShare X))
      ⊢ (iprop(∃ f, holds c b f) : sProp 𝕄) := by
  have e : (Finset.univ : Finset b.ty.shape.Idx) = Finset.univ.biUnion fun t => (r t).set := by
    ext i
    obtain ⟨t, ht⟩ := hc i
    exact ⟨fun _ => Finset.mem_biUnion.mpr ⟨t, Finset.mem_univ _, ht⟩, fun _ => Finset.mem_univ _⟩
  refine (sepMono (Ψ := fun t => iprop(∃ f : b.ty.Contents (Elt F), (c : Thread nD τ).loc b ↦[(r t).set]{fullShare} f)) fun t => ?_).trans ?_
  · unfold owns
    iintro ⟨%X, %f, -, H⟩
    iexists f
    iapply (Entails.of_eq (show ((partOf r hr hq t).view.loc (c : Thread nD τ) ↦[(partOf r hr hq t).view.set]{fullShare} f : sProp 𝕄) = _ by
      rw [partOf_set]))
    iexact H
  · refine (bigSep_exists_pi (Y := fun _ => b.ty.Contents (Elt F)) _ _).trans ?_
    iintro ⟨%fs, H⟩
    ihave H := (pointsTo_biUnion_join (ℓ := (c : Thread nD τ).loc b) Finset.univ (fun t => (r t).set) fs (fun _ => Classical.choice inferInstance)
      fun t _ t' _ h => hd t t' h) $$ H
    icases H with ⟨%g, -, H⟩
    iexists g
    rw [← e]
    iexact H

end Parts

/-! ## The heads and the slots -/

/-- A head's keys or values within an argument. -/
abbrev rX (h : Fin 8) : Rect S1x1024x8x128 := Rect.unit (s := S1x1024x8x128) ![0, 0, h.val, 0] S1x1024x1x128.size (inb_kx h)

theorem rX_disjoint (h h' : Fin 8) (n : h ≠ h') : Disjoint (rX h).set (rX h').set := by
  refine Finset.disjoint_left.mpr fun i hi hi' => n (Fin.ext ?_)
  have a := Rect.mem_set_unit.mp hi 2
  have b := Rect.mem_set_unit.mp hi' 2
  change h.val ≤ (i 2).val ∧ (i 2).val < h.val + 1 at a
  change h'.val ≤ (i 2).val ∧ (i 2).val < h'.val + 1 at b
  omega

theorem rX_cover (i : S1x1024x8x128.Idx) : ∃ h, i ∈ (rX h).set := by
  refine ⟨i 2, Rect.mem_set_unit.mpr fun a => ?_⟩
  match a with
  | ⟨0, _⟩ => exact ⟨Nat.zero_le _, by show (i 0).val < 0 + 1; exact (i 0).isLt⟩
  | ⟨1, _⟩ => exact ⟨Nat.zero_le _, by show (i 1).val < 0 + 1024; have : (i 1).val < 1024 := (i 1).isLt; omega⟩
  | ⟨2, _⟩ => exact ⟨Nat.le_refl _, Nat.lt_succ_self _⟩
  | ⟨3, _⟩ => exact ⟨Nat.zero_le _, by show (i 3).val < 0 + 128; have : (i 3).val < 128 := (i 3).isLt; omega⟩

theorem rK_disjoint (h h' : Fin 8) (n : h ≠ h') : Disjoint (rK1024 h).set (rK1024 h').set := by
  refine Finset.disjoint_left.mpr fun i hi hi' => n (Fin.ext ?_)
  have a := Rect.mem_set_unit.mp hi 0
  have b := Rect.mem_set_unit.mp hi' 0
  change h.val ≤ (i 0).val ∧ (i 0).val < h.val + 1 at a
  change h'.val ≤ (i 0).val ∧ (i 0).val < h'.val + 1 at b
  omega

theorem rK_cover (i : S8x1024x128.Idx) : ∃ h, i ∈ (rK1024 h).set := by
  refine ⟨i 0, Rect.mem_set_unit.mpr fun a => ?_⟩
  match a with
  | ⟨0, _⟩ => exact ⟨Nat.le_refl _, Nat.lt_succ_self _⟩
  | ⟨1, _⟩ => exact ⟨Nat.zero_le _, by show (i 1).val < 0 + 1024; have : (i 1).val < 1024 := (i 1).isLt; omega⟩
  | ⟨2, _⟩ => exact ⟨Nat.zero_le _, by show (i 2).val < 0 + 128; have : (i 2).val < 128 := (i 2).isLt; omega⟩

theorem rSlot_disjoint (j j' : Fin 3) (n : j ≠ j') : Disjoint (rSlot j).set (rSlot j').set := by
  refine Finset.disjoint_left.mpr fun i hi hi' => n (Fin.ext ?_)
  have a := Rect.mem_set_unit.mp hi 0
  have b := Rect.mem_set_unit.mp hi' 0
  change j.val ≤ (i 0).val ∧ (i 0).val < j.val + 1 at a
  change j'.val ≤ (i 0).val ∧ (i 0).val < j'.val + 1 at b
  omega

theorem rSlot_cover (i : S3x256x1024.Idx) : ∃ j, i ∈ (rSlot j).set := by
  refine ⟨i 0, Rect.mem_set_unit.mpr fun a => ?_⟩
  match a with
  | ⟨0, _⟩ => exact ⟨Nat.le_refl _, Nat.lt_succ_self _⟩
  | ⟨1, _⟩ => exact ⟨Nat.zero_le _, by show (i 1).val < 0 + 256; have : (i 1).val < 256 := (i 1).isLt; omega⟩
  | ⟨2, _⟩ => exact ⟨Nat.zero_le _, by show (i 2).val < 0 + 1024; have : (i 2).val < 1024 := (i 2).isLt; omega⟩

omit [FloatOps F] [Named F] in
/-- The keys in their argument, head by head. -/
theorem keys_heads (A : Vec F S1x1024x8x128 .f32) :
    (holds c main_arg2 A : sProp 𝕄)
      = bigSep Finset.univ fun h => owns (c : Thread nD τ) (headX bKx h) fullShare ((headX bKx h).view.read (Elt F) A) :=
  whole_parts c (b := main_arg2) rX (fun _ _ => rfl) (fun _ => squeezes_S1x1024x1x128_S1024x128) rX_disjoint rX_cover A

omit [FloatOps F] [Named F] in
/-- The values in their argument, head by head. -/
theorem values_heads (A : Vec F S1x1024x8x128 .f32) :
    (holds c main_arg3 A : sProp 𝕄)
      = bigSep Finset.univ fun h => owns (c : Thread nD τ) (headX bVx h) fullShare ((headX bVx h).view.read (Elt F) A) :=
  whole_parts c (b := main_arg3) rX (fun _ _ => rfl) (fun _ => squeezes_S1x1024x1x128_S1024x128) rX_disjoint rX_cover A

/-- A head's part of a copy, with any contents. -/
abbrev headAny (m : Memref sig .tc .vmem S8x1024x128 .f32) (h : Fin 8) : sProp 𝕄 :=
  iprop(∃ X, owns (c : Thread nD τ) (headF m h) fullShare X)

omit [FloatOps F] [Named F] in
theorem keysF_heads : (iprop(∃ f, holds c cc0_scratch3 f) : sProp 𝕄) ⊢ bigSep Finset.univ fun h => headAny c bKf h :=
  whole_any c (b := cc0_scratch3) rK1024 (fun _ _ => rfl) (fun _ => squeezes_S1x1024x128_S1024x128) rK_disjoint rK_cover

omit [FloatOps F] [Named F] in
theorem valuesF_heads : (iprop(∃ f, holds c cc0_scratch4 f) : sProp 𝕄) ⊢ bigSep Finset.univ fun h => headAny c bVf h :=
  whole_any c (b := cc0_scratch4) rK1024 (fun _ _ => rfl) (fun _ => squeezes_S1x1024x128_S1024x128) rK_disjoint rK_cover

omit [FloatOps F] [Named F] in
theorem headAny_intro (m : Memref sig .tc .vmem S8x1024x128 .f32) (X : Fin 8 → Vec F S1024x128 .f32) :
    (bigSep Finset.univ fun h => owns (c : Thread nD τ) (headF m h) fullShare (X h) : sProp 𝕄)
      ⊢ bigSep Finset.univ fun h => headAny c m h :=
  sepMono fun h => (by iintro H; iexists _; iexact H)

theorem heads_keysF : (bigSep Finset.univ fun h => headAny c bKf h : sProp 𝕄) ⊢ iprop(∃ f, holds c cc0_scratch3 f) :=
  parts_whole c (b := cc0_scratch3) rK1024 (fun _ _ => rfl) (fun _ => squeezes_S1x1024x128_S1024x128) rK_disjoint rK_cover

theorem heads_valuesF : (bigSep Finset.univ fun h => headAny c bVf h : sProp 𝕄) ⊢ iprop(∃ f, holds c cc0_scratch4 f) :=
  parts_whole c (b := cc0_scratch4) rK1024 (fun _ _ => rfl) (fun _ => squeezes_S1x1024x128_S1024x128) rK_disjoint rK_cover

/-- The three slots of a buffer. -/
abbrev slots3 (m : Memref sig .tc .vmem S3x256x1024 .bf16) : sProp 𝕄 :=
  iprop(slotAny m c 0 ∗ slotAny m c 1 ∗ slotAny m c 2)

omit [FloatOps F] [Named F] in
theorem sendA_slots : (iprop(∃ f, holds c cc0_scratch13 f) : sProp 𝕄) ⊢ slots3 c bSA :=
  (whole_any c (b := cc0_scratch13) rSlot (fun _ _ => rfl) (fun _ => squeezes_S1x256x1024_S256x1024) rSlot_disjoint rSlot_cover).trans
    (Entails.of_eq (bigSep_three fun j => slotAny bSA c j))
omit [FloatOps F] [Named F] in
theorem recvA_slots : (iprop(∃ f, holds c cc0_scratch14 f) : sProp 𝕄) ⊢ slots3 c bRA :=
  (whole_any c (b := cc0_scratch14) rSlot (fun _ _ => rfl) (fun _ => squeezes_S1x256x1024_S256x1024) rSlot_disjoint rSlot_cover).trans
    (Entails.of_eq (bigSep_three fun j => slotAny bRA c j))
omit [FloatOps F] [Named F] in
theorem recvB_slots : (iprop(∃ f, holds c cc0_scratch16 f) : sProp 𝕄) ⊢ slots3 c bRB :=
  (whole_any c (b := cc0_scratch16) rSlot (fun _ _ => rfl) (fun _ => squeezes_S1x256x1024_S256x1024) rSlot_disjoint rSlot_cover).trans
    (Entails.of_eq (bigSep_three fun j => slotAny bRB c j))

theorem slots_sendA : (slots3 c bSA : sProp 𝕄) ⊢ iprop(∃ f, holds c cc0_scratch13 f) :=
  (Entails.of_eq (bigSep_three fun j => slotAny bSA c j).symm).trans
    (parts_whole c (b := cc0_scratch13) rSlot (fun _ _ => rfl) (fun _ => squeezes_S1x256x1024_S256x1024) rSlot_disjoint rSlot_cover)
theorem slots_recvA : (slots3 c bRA : sProp 𝕄) ⊢ iprop(∃ f, holds c cc0_scratch14 f) :=
  (Entails.of_eq (bigSep_three fun j => slotAny bRA c j).symm).trans
    (parts_whole c (b := cc0_scratch14) rSlot (fun _ _ => rfl) (fun _ => squeezes_S1x256x1024_S256x1024) rSlot_disjoint rSlot_cover)
theorem slots_recvB : (slots3 c bRB : sProp 𝕄) ⊢ iprop(∃ f, holds c cc0_scratch16 f) :=
  (Entails.of_eq (bigSep_three fun j => slotAny bRB c j).symm).trans
    (parts_whole c (b := cc0_scratch16) rSlot (fun _ _ => rfl) (fun _ => squeezes_S1x256x1024_S256x1024) rSlot_disjoint rSlot_cover)

/-! ## Copies begun and awaited -/

/-- Copies on one semaphore, `j` of them begun and `u` units waited for. -/
abbrev batch {n : ℕ} (i : Fin 5) (M : ℕ) (D : Fin n → sProp 𝕄) (j u : ℕ) : sProp 𝕄 :=
  Transfers.Batch EC (c : Thread nD τ) (.dma (copySem i).sem) () M D j u

/-- What a copy gives: the destination with the source's contents, and the source. -/
abbrev copied {s : Shape} {e : EltTy} (src : Memref sig .tc .hbm s e) (dst : Memref sig .tc .vmem s e)
    (X : s.Idx → Elt F e) : sProp 𝕄 :=
  iprop(owns (c : Thread nD τ) dst fullShare X ∗ owns (c : Thread nD τ) src fullShare X)

section Transfer

variable {s : Shape} {e : EltTy} {src : Memref sig .tc .hbm s e} {dst : Memref sig .tc .vmem s e} {i : Fin 5} {n : ℕ}
  {M : ℕ}

/-- A copy begun. -/
theorem run_copy {D : Fin n → sProp 𝕄} {α : Type} {k : PUnit → TcProg F α} {Φ : α → sProp 𝕄} (hM : dst.view.dmaCredit = M) {j : ℕ} (hj : j < n) (X : s.Idx → Elt F e)
    (hD : copied c src dst X ⊢ D ⟨j, hj⟩) {hs hd hx} :
    iprop(owns (c : Thread nD τ) src fullShare X ∗ (∃ Y, owns (c : Thread nD τ) dst fullShare Y) ∗ batch c i M D j 0)
      ⊢ iprop((batch c i M D (j + 1) 0 -∗ run c (k ⟨⟩) Φ)
        -∗ run c (.op (.enqueueDma src (.here dst) (.dma (copySem i).sem) hs hd hx) k) Φ) := by
  unfold copied owns at hD
  unfold owns
  iintro ⟨⟨%f, %hf, Hs⟩, ⟨%Y, %g, %hg, Hd⟩, HB⟩ Hk
  iapply (Transfers.wp_dmaBatch EC 𝒱₀ (c : Thread nD τ) none (src := src) (dst := dst) (via := .same) (sm := .dma (copySem i).sem)
    (q := fullShare) (fs := f) (fd := g) (Sd := dst.view.set) (D := D) (j := j) (u := 0) () M hM (Finset.Subset.refl _) hj (Nat.zero_le _)
    (by
      refine BIBase.Entails.trans ?_ hD
      iintro ⟨Hd, Hs⟩
      isplitl [Hd]
      · iexists _; isplitr
        rotate_left
        · iexact Hd
        ipureintro; rw [View.read_write_univ]; exact hf
      · iexists f; isplitr
        · ipureintro; exact hf
        iexact Hs)) $$ [Hs Hd HB]
  · isplitl [Hs]; · iexact Hs
    isplitl [Hd]; · iexact Hd
    iexact HB
  iintro HB
  iapply Hk; iexact HB

/-- A wait for one of several copies. -/
theorem run_waitCopy {D : Fin n → sProp 𝕄} {α : Type} {k : PUnit → TcProg F α} {Φ : α → sProp 𝕄} (hM : dst.view.dmaCredit = M) (m : ℕ) (hm : m ≤ 9) {u : ℕ} (hu : u + M < M * n)
    {hs : src.view.WordExact} {hd : dst.view.WordExact} :
    iprop(levAts L lv ∗ owing c m ∗ batch c i M D n u)
      ⊢ iprop((owing c m ∗ batch c i M D n (u + M) -∗ run c (k ⟨⟩) Φ)
        -∗ run c (.op (.waitDma2 (copySem i).sem src dst hs hd) k) Φ) := by
  unfold owing
  iintro ⟨#HL, ⟨%W, HO⟩, HB⟩ Hk
  iapply (Transfers.wp_waitBatchO EC 𝒱₀ (c : Thread nD τ) none () hM (D := D) hu (O := owed m c) (W := W)) $$ [HO HB]
  · isplitl [HB]; · iexact HB
    isplitl [HO]; · iexact HO
    iapply (mayWait c (.dma (copySem i).sem) m (below_copy i m hm)); iexact HL
  iintro ⟨HB, HO⟩
  iapply Hk
  isplitl [HO]; · iexists _; iexact HO
  iexact HB

/-- The wait for the last copy. -/
theorem run_lastCopy {D : Fin n → sProp 𝕄} {α : Type} {k : PUnit → TcProg F α} {Φ : α → sProp 𝕄} (hM : dst.view.dmaCredit = M) (hM0 : 0 < M) (m : ℕ) (hm : m ≤ 9) {u : ℕ} (hu : u + M = M * n)
    {hs : src.view.WordExact} {hd : dst.view.WordExact} :
    iprop(levAts L lv ∗ owing c m ∗ batch c i M D n u)
      ⊢ iprop((owing c m ∗ bigSep Finset.univ D ∗ semVal ((c : Thread nD τ), .dma (copySem i).sem) 0 -∗ run c (k ⟨⟩) Φ)
        -∗ run c (.op (.waitDma2 (copySem i).sem src dst hs hd) k) Φ) := by
  unfold owing
  iintro ⟨#HL, ⟨%W, HO⟩, HB⟩ Hk
  iapply (Transfers.wp_waitBatchLastO EC 𝒱₀ (c : Thread nD τ) none () hM hM0 (D := D) hu (O := owed m c) (W := W)) $$ [HO HB]
  · isplitl [HB]; · iexact HB
    isplitl [HO]; · iexact HO
    iapply (mayWait c (.dma (copySem i).sem) m (below_copy i m hm)); iexact HL
  iintro ⟨HB, Hv, HO⟩
  iapply Hk
  isplitl [HO]; · iexists _; iexact HO
  isplitl [HB] <;> iassumption

end Transfer

end Cert.KernelProof
-- ==== Proof.Setup.lean ====
/- Everything before the first chunk. -/
module

public import proofs.«01_k».proof.Proof.Copies

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

/-! ## What a device holds at the start -/

/-- The arguments of a device. -/
structure Args (F : FTy → Type) where
  x : Vec F S1x1024x1024 .f32
  wq : Vec F S1024x4096 .f32
  k : Vec F S1x1024x8x128 .f32
  v : Vec F S1x1024x8x128 .f32
  wo : Vec F S4096x1024 .f32

variable (c : Dev nD) (a : Args F)

/-- What the device copies of its arguments. -/
def xF : Vec F S1024x1024 .f32 := srcX.view.read (Elt F) a.x
def wqF : Vec F S1024x1024 .f32 := (srcWq c).view.read (Elt F) a.wq
def woF : Vec F S1024x1024 .f32 := (srcWo c).view.read (Elt F) a.wo
def keyF (h : Fin 8) : Vec F S1024x128 .f32 := (headX bKx h).view.read (Elt F) a.k
def valF (h : Fin 8) : Vec F S1024x128 .f32 := (headX bVx h).view.read (Elt F) a.v

/-- The arguments, owned. -/
def args : sProp 𝕄 :=
  iprop(holds c main_arg0 a.x ∗ holds c main_arg1 a.wq ∗ holds c main_arg2 a.k ∗ holds c main_arg3 a.v ∗ holds c main_arg4 a.wo)

/-- The parts of the arguments that are copied. -/
def srcs : sProp 𝕄 :=
  iprop(owns (c : Thread nD τ) srcX fullShare (xF a) ∗ owns (c : Thread nD τ) (srcWq c) fullShare (wqF c a)
    ∗ owns (c : Thread nD τ) (srcWo c) fullShare (woF c a)
    ∗ (bigSep Finset.univ fun h => owns (c : Thread nD τ) (headX bKx h) fullShare (keyF a h))
    ∗ bigSep Finset.univ fun h => owns (c : Thread nD τ) (headX bVx h) fullShare (valF a h))

omit [FloatOps F] [Named F] in
theorem args_lend : (args c a : sProp 𝕄) ⊢ iprop(srcs c a ∗ (srcs c a -∗ args c a)) := by
  unfold args srcs
  iintro ⟨H0, H1, H2, H3, H4⟩
  ihave ⟨H0, B0⟩ := (lend_part c srcX a.x) $$ H0
  ihave ⟨H1, B1⟩ := (lend_part c (srcWq c) a.wq) $$ H1
  ihave ⟨H4, B4⟩ := (lend_part c (srcWo c) a.wo) $$ H4
  ihave H2 := (Entails.of_eq (keys_heads c a.k)) $$ H2
  ihave H3 := (Entails.of_eq (values_heads c a.v)) $$ H3
  isplitl [H0 H1 H4 H2 H3]
  · isplitl [H0]; · iexact H0
    isplitl [H1]; · iexact H1
    isplitl [H4]; · iexact H4
    isplitl [H2]; · iexact H2
    iexact H3
  iintro ⟨H0, H1, H4, H2, H3⟩
  isplitl [H0 B0]; · iapply B0; iexact H0
  isplitl [H1 B1]; · iapply B1; iexact H1
  isplitl [H2]; · iapply (Entails.of_eq (keys_heads c a.k).symm); iexact H2
  isplitl [H3]; · iapply (Entails.of_eq (values_heads c a.v).symm); iexact H3
  iapply B4; iexact H4

/-! ## The copies -/

/-- The units of a copy of a matrix, and of a head. -/
def MB : ℕ := bXf.view.dmaCredit
def MH : ℕ := (headF bKf 0).view.dmaCredit
theorem MB_pos : 0 < MB := View.dmaCredit_pos _ (by decide)
theorem MH_pos : 0 < MH := View.dmaCredit_pos _ (by decide)

def D0 : Fin 1 → sProp 𝕄 := fun _ => copied c srcX bXf (xF a)
def D1 : Fin 1 → sProp 𝕄 := fun _ => copied c (srcWq c) bWqf (wqF c a)
def D2 : Fin 1 → sProp 𝕄 := fun _ => copied c (srcWo c) bWof (woF c a)
def D3 : Fin 8 → sProp 𝕄 := fun h => copied c (headX bKx h) (headF bKf h) (keyF a h)
def D4 : Fin 8 → sProp 𝕄 := fun h => copied c (headX bVx h) (headF bVf h) (valF a h)

/-- Copies of heads not yet begun. -/
def toCopy (Φ : Fin 8 → sProp 𝕄) (n : ℕ) : sProp 𝕄 := bigSep Finset.univ fun h => if h.val < n then iprop(emp) else Φ h

omit [FloatOps F] [Named F] in
theorem toCopy_zero (Φ : Fin 8 → sProp 𝕄) : toCopy Φ 0 = bigSep Finset.univ Φ :=
  bigSep_congr fun h _ => if_neg (Nat.not_lt_zero _)

omit [FloatOps F] [Named F] in
theorem toCopy_succ (Φ : Fin 8 → sProp 𝕄) (h : Fin 8) : toCopy Φ h.val ⊢ iprop(Φ h ∗ toCopy Φ (h.val + 1)) := by
  unfold toCopy
  rw [bigSep_erase (Finset.mem_univ h), bigSep_erase (Finset.mem_univ h) (Φ := fun i : Fin 8 => if i.val < h.val + 1 then iprop(emp) else Φ i)]
  rw [if_neg (Nat.lt_irrefl _), if_pos (Nat.lt_succ_self _)]
  rw [bigSep_congr (s := Finset.univ.erase h) (Ψ := fun i : Fin 8 => if i.val < h.val + 1 then iprop(emp) else Φ i) fun i hi => by
    have : i.val ≠ h.val := fun e => (Finset.mem_erase.mp hi).1 (Fin.ext e)
    by_cases h' : i.val < h.val
    · rw [if_pos h', if_pos (by omega)]
    · rw [if_neg h', if_neg (by omega)]]
  refine (show iprop(Φ h ∗ bigSep (Finset.univ.erase h) fun i : Fin 8 => if i.val < h.val + 1 then iprop(emp) else Φ i)
    ⊢ iprop(Φ h ∗ (emp ∗ bigSep (Finset.univ.erase h) fun i : Fin 8 => if i.val < h.val + 1 then iprop(emp) else Φ i)) from ?_)
  iintro ⟨H, HR⟩
  isplitl [H]; · iexact H
  isplitr; · iempintro
  iexact HR

/-- A head's copies, the first `n` begun. -/
def copyState (n : ℕ) : sProp 𝕄 :=
  iprop(toCopy (fun h => iprop(owns (c : Thread nD τ) (headX bKx h) fullShare (keyF a h) ∗ headAny c bKf h)) n
    ∗ toCopy (fun h => iprop(owns (c : Thread nD τ) (headX bVx h) fullShare (valF a h) ∗ headAny c bVf h)) n
    ∗ batch c 3 MH (D3 c a) n 0 ∗ batch c 4 MH (D4 c a) n 0)

theorem run_copyHead (h : Fin 8) : copyState c a h.val ⊢ run c (copyHead h) fun _ => copyState c a (h.val + 1) := by
  unfold copyHead copyState
  simp only [Prog.lift, Prog.bind_op, Prog.bind_ret]
  iintro ⟨HK, HV, B3, B4⟩
  ihave ⟨⟨Hk, Hk'⟩, HK⟩ := (toCopy_succ _ h) $$ HK
  ihave ⟨⟨Hv, Hv'⟩, HV⟩ := (toCopy_succ _ h) $$ HV
  iapply (run_copy c (src := headX bKx h) (dst := headF bKf h) (i := 3) (D := D3 c a) (M := MH) rfl h.isLt (keyF a h) Entails.rfl) $$ [Hk Hk' B3]
  · isplitl [Hk]; · iexact Hk
    isplitl [Hk'] <;> iassumption
  iintro B3
  iapply (run_copy c (src := headX bVx h) (dst := headF bVf h) (i := 4) (D := D4 c a) (M := MH) rfl h.isLt (valF a h) Entails.rfl) $$ [Hv Hv' B4]
  · isplitl [Hv]; · iexact Hv
    isplitl [Hv'] <;> iassumption
  iintro B4
  rw [run, wp_ret]; imodintro
  isplitl [HK]; · iexact HK
  isplitl [HV]; · iexact HV
  isplitl [B3] <;> iassumption

/-- All copies begun. -/
def begun : sProp 𝕄 :=
  iprop(batch c 0 MB (D0 c a) 1 0 ∗ batch c 1 MB (D1 c a) 1 0 ∗ batch c 2 MB (D2 c a) 1 0
    ∗ batch c 3 MH (D3 c a) 8 0 ∗ batch c 4 MH (D4 c a) 8 0)

theorem run_copies :
    iprop(srcs c a ∗ (∃ y, owns (c : Thread nD τ) bXf fullShare y) ∗ (∃ y, owns (c : Thread nD τ) bWqf fullShare y)
        ∗ (∃ y, owns (c : Thread nD τ) bWof fullShare y)
        ∗ (bigSep Finset.univ fun h => headAny c bKf h) ∗ (bigSep Finset.univ fun h => headAny c bVf h)
        ∗ batch c 0 MB (D0 c a) 0 0 ∗ batch c 1 MB (D1 c a) 0 0 ∗ batch c 2 MB (D2 c a) 0 0
        ∗ batch c 3 MH (D3 c a) 0 0 ∗ batch c 4 MH (D4 c a) 0 0)
      ⊢ run c (copies c) fun _ => begun c a := by
  unfold copies srcs begun
  simp only [Prog.lift, Prog.bind_op, Prog.bind_ret]
  iintro ⟨⟨H0, H1, H2, H3, H4⟩, Y0, Y1, Y2, Y3, Y4, B0, B1, B2, B3, B4⟩
  iapply (run_copy c (src := srcX) (dst := bXf) (i := 0) (D := D0 c a) (M := MB) rfl Nat.one_pos (xF a) Entails.rfl) $$ [H0 Y0 B0]
  · isplitl [H0]; · iexact H0
    isplitl [Y0] <;> iassumption
  iintro B0
  iapply (run_copy c (src := srcWq c) (dst := bWqf) (i := 1) (D := D1 c a) (M := MB) rfl Nat.one_pos (wqF c a) Entails.rfl) $$ [H1 Y1 B1]
  · isplitl [H1]; · iexact H1
    isplitl [Y1] <;> iassumption
  iintro B1
  iapply (run_copy c (src := srcWo c) (dst := bWof) (i := 2) (D := D2 c a) (M := MB) rfl Nat.one_pos (woF c a) Entails.rfl) $$ [H2 Y2 B2]
  · isplitl [H2]; · iexact H2
    isplitl [Y2] <;> iassumption
  iintro B2
  have hh := run_heads c (copyState c a) (run_copyHead c a)
  ihave HK := (show iprop((bigSep Finset.univ fun h => owns (c : Thread nD τ) (headX bKx h) fullShare (keyF a h))
      ∗ bigSep Finset.univ fun h => headAny c bKf h) ⊢ _ from Entails.of_eq (bigSep_sep' _ _ _).symm) $$ [H3 Y3]
  · isplitl [H3] <;> iassumption
  ihave HV := (show iprop((bigSep Finset.univ fun h => owns (c : Thread nD τ) (headX bVx h) fullShare (valF a h))
      ∗ bigSep Finset.univ fun h => headAny c bVf h) ⊢ _ from Entails.of_eq (bigSep_sep' _ _ _).symm) $$ [H4 Y4]
  · isplitl [H4] <;> iassumption
  ihave Hst := (show iprop(_ ∗ _ ∗ batch c 3 MH (D3 c a) 0 0 ∗ batch c 4 MH (D4 c a) 0 0) ⊢ copyState c a 0 from by
    unfold copyState; rw [toCopy_zero, toCopy_zero]) $$ [HK HV B3 B4]
  · isplitl [HK]; · iexact HK
    isplitl [HV]; · iexact HV
    isplitl [B3] <;> iassumption
  iapply (run_last c hh) $$ Hst
  unfold copyState
  iintro %_ ⟨-, -, B3, B4⟩
  isplitl [B0]; · iexact B0
  isplitl [B1]; · iexact B1
  isplitl [B2]; · iexact B2
  isplitl [B3] <;> iassumption

/-! ## The meeting -/

variable (P : Dev nD → Dev nD → Vec F S256x1024 .bf16) (O : Dev nD → Vec F S256x1024 .bf16) (K : Dev nD × PK → ℕ)

theorem run_meetAll :
    iprop(recs P O K ∗ levAts L lv ∗ owing c 0 ∗ units c none 3 ∗ at_ c none 0
        ∗ tok (far 0 c) none 0 ∗ tok (far 1 c) none 1 ∗ tok (far 2 c) none 2 ∗ slots3 c bRA ∗ slots3 c bRB)
      ⊢ run c (meet c) fun _ => iprop(owing c 3 ∗ at_ c none 1 ∗ meetPay c 0 ∗ meetPay c 1 ∗ meetPay c 2) := by
  unfold meet
  iintro ⟨#HR, #HL, HO, Hc, Hat, T0, T1, T2, ⟨A0, A1, A2⟩, ⟨B0, B1, B2⟩⟩
  iapply (run_then c (run_signal P O K c 0 0 rfl (Fin.ext (k0_dev1_eq c)))) $$ [HO T0 A0 B0]
  · isplitr; · iexact HR
    isplitl [HO]; · iexact HO
    isplitl [T0]; · iexact T0
    isplitl [A0] <;> iassumption
  iintro %_ HO
  iapply (run_then c (run_signal P O K c 1 1 rfl (Fin.ext (k0_dev2_eq c)))) $$ [HO T1 A1 B1]
  · isplitr; · iexact HR
    isplitl [HO]; · iexact HO
    isplitl [T1]; · iexact T1
    isplitl [A1] <;> iassumption
  iintro %_ HO
  iapply (run_then c (run_signal P O K c 2 2 rfl (Fin.ext (k0_dev3_eq c)))) $$ [HO T2 A2 B2]
  · isplitr; · iexact HR
    isplitl [HO]; · iexact HO
    isplitl [T2]; · iexact T2
    isplitl [A2] <;> iassumption
  iintro %_ HO
  iapply (run_meet P O K c)
  isplitr; · iexact HR
  isplitr; · iexact HL
  isplitl [HO]; · iexact HO
  isplitl [Hc] <;> iassumption

/-! ## The heads awaited -/

/-- The heads' copies, the first `n` awaited. -/
def awaited (D : Fin 8 → sProp 𝕄) (i : Fin 5) (n : ℕ) : sProp 𝕄 :=
  if n < 8 then batch c i MH D 8 (n * MH)
  else iprop(bigSep Finset.univ D ∗ semVal ((c : Thread nD τ), .dma (copySem i).sem) 0)

/-- A wait for one head's copy. -/
theorem run_awaitOne {src : Memref sig .tc .hbm S1024x128 .f32} {dst : Memref sig .tc .vmem S1024x128 .f32} (hM : dst.view.dmaCredit = MH)
    (D : Fin 8 → sProp 𝕄) (i : Fin 5) (h : Fin 8) {hs : src.view.WordExact} {hd : dst.view.WordExact}
    {α : Type} {k : PUnit → TcProg F α} {Φ : α → sProp 𝕄} :
    iprop(levAts L lv ∗ owing c 3 ∗ awaited c D i h.val)
      ⊢ iprop((owing c 3 ∗ awaited c D i (h.val + 1) -∗ run c (k ⟨⟩) Φ)
        -∗ run c (.op (.waitDma2 (copySem i).sem src dst hs hd) k) Φ) := by
  unfold awaited
  rw [if_pos h.isLt]
  by_cases h8 : h.val + 1 < 8
  · rw [if_pos h8, Nat.succ_mul]
    exact run_waitCopy c hM 3 (by decide) (by have := MH_pos; nlinarith)
  · rw [if_neg h8]
    exact run_lastCopy c hM MH_pos 3 (by decide) (by have : h.val = 7 := by omega
                                                     rw [this]; omega)

def awaitState (n : ℕ) : sProp 𝕄 := iprop(levAts L lv ∗ owing c 3 ∗ awaited c (D3 c a) 3 n ∗ awaited c (D4 c a) 4 n)

theorem run_awaitHead (h : Fin 8) : awaitState c a h.val ⊢ run c (awaitHead h) fun _ => awaitState c a (h.val + 1) := by
  unfold awaitHead awaitState
  simp only [Prog.lift, Prog.bind_op, Prog.bind_ret]
  iintro ⟨#HL, HO, B3, B4⟩
  iapply (run_awaitOne c (src := headX bKx h) (dst := headF bKf h) rfl (D3 c a) 3 h) $$ [HO B3]
  · isplitr; · iexact HL
    isplitl [HO] <;> iassumption
  iintro ⟨HO, B3⟩
  iapply (run_awaitOne c (src := headX bVx h) (dst := headF bVf h) rfl (D4 c a) 4 h) $$ [HO B4]
  · isplitr; · iexact HL
    isplitl [HO] <;> iassumption
  iintro ⟨HO, B4⟩
  rw [run, wp_ret]; imodintro
  isplitr; · iexact HL
  isplitl [HO]; · iexact HO
  isplitl [B3] <;> iassumption

/-! ## The whole -/

/-- A buffer with any contents. -/
abbrev anyBuf (b : Ref sig .tc) : sProp 𝕄 := iprop(∃ f, holds c b f)

omit [FloatOps F] [Named F] in
theorem any_owns (b : Ref sig .tc) : (anyBuf c b : sProp 𝕄) ⊢ iprop(∃ y, owns (c : Thread nD τ) (Memref.whole b) fullShare y) := by
  iintro ⟨%f, H⟩
  iexists f
  iapply (Entails.of_eq (owns_whole (c : Thread nD τ) b fullShare f).symm); iexact H
omit [FloatOps F] [Named F] in
theorem owns_any (b : Ref sig .tc) (y : b.ty.Contents (Elt F)) :
    (owns (c : Thread nD τ) (Memref.whole b) fullShare y : sProp 𝕄) ⊢ anyBuf c b := by
  iintro H
  iexists y
  iapply (Entails.of_eq (owns_whole (c : Thread nD τ) b fullShare y)); iexact H

instance D0_storable (t) : BI.Storable (upEmb : UEmb _ 𝕄) (D0 c a t) := by unfold D0 copied; infer_instance
instance D1_storable (t) : BI.Storable (upEmb : UEmb _ 𝕄) (D1 c a t) := by unfold D1 copied; infer_instance
instance D2_storable (t) : BI.Storable (upEmb : UEmb _ 𝕄) (D2 c a t) := by unfold D2 copied; infer_instance
instance D3_storable (t) : BI.Storable (upEmb : UEmb _ 𝕄) (D3 c a t) := by unfold D3 copied; infer_instance
instance D4_storable (t) : BI.Storable (upEmb : UEmb _ 𝕄) (D4 c a t) := by unfold D4 copied; infer_instance

omit [FloatOps F] [Named F] in
theorem awaited_zero (D : Fin 8 → sProp 𝕄) (i : Fin 5) : batch c i MH D 8 0 = awaited c D i 0 := by
  unfold awaited; rw [if_pos (by decide), Nat.zero_mul]
omit [FloatOps F] [Named F] in
theorem awaited_all (D : Fin 8 → sProp 𝕄) (i : Fin 5) :
    awaited c D i 8 = iprop(bigSep Finset.univ D ∗ semVal ((c : Thread nD τ), .dma (copySem i).sem) 0) := by
  unfold awaited; rw [if_neg (by decide)]

/-- The semaphores of the copies at zero. -/
def copyVals : sProp 𝕄 :=
  iprop(semVal ((c : Thread nD τ), .dma (copySem 0).sem) 0 ∗ semVal ((c : Thread nD τ), .dma (copySem 1).sem) 0
    ∗ semVal ((c : Thread nD τ), .dma (copySem 2).sem) 0 ∗ semVal ((c : Thread nD τ), .dma (copySem 3).sem) 0
    ∗ semVal ((c : Thread nD τ), .dma (copySem 4).sem) 0)

/-- The device's queries, keys, values and output weights, as the chunks use them. -/
def Qof : Vec F S1024x1024 .bf16 := queryVal (narrowed (xF a)) (narrowed (wqF c a))
def Kof : Vec F S8x1024x128 .bf16 := headsNarrowed (keyF a)
def Vof : Vec F S8x1024x128 .bf16 := headsNarrowed (valF a)
def Wof : Vec F S1024x1024 .bf16 := narrowed (woF c a)

omit [FloatOps F] [Named F] in
theorem bigSep_one (Φ : Fin 1 → sProp 𝕄) : bigSep Finset.univ Φ = Φ 0 :=
  bigSep_univ_eq_bigSepL [0] (by decide) (by decide) Φ

/-- The buffers the setup works in, with any contents. -/
def workBufs : sProp 𝕄 :=
  iprop(anyBuf c cc0_scratch0 ∗ anyBuf c cc0_scratch1 ∗ anyBuf c cc0_scratch2 ∗ anyBuf c cc0_scratch3 ∗ anyBuf c cc0_scratch4
    ∗ anyBuf c cc0_scratch5 ∗ anyBuf c cc0_scratch6)

/-- What the meeting gives. -/
def met : sProp 𝕄 := iprop(at_ c none 1 ∗ meetPay c 0 ∗ meetPay c 1 ∗ meetPay c 2)

/-- What is narrowed before the first chunk. -/
def readied : sProp 𝕄 :=
  iprop(inputs c (Qof c a) (Kof a) (Vof a) ∗ owns (c : Thread nD τ) bWob fullShare (Wof c a))

theorem run_setup :
    iprop(recs P O K ∗ levAts L lv ∗ owing c 0 ∗ args c a ∗ workBufs c
        ∗ anyBuf c cc0_scratch7 ∗ anyBuf c cc0_scratch8 ∗ anyBuf c cc0_scratch9 ∗ anyBuf c cc0_scratch10 ∗ copyVals c
        ∗ units c none 3 ∗ at_ c none 0 ∗ tok (far 0 c) none 0 ∗ tok (far 1 c) none 1 ∗ tok (far 2 c) none 2
        ∗ slots3 c bRA ∗ slots3 c bRB)
      ⊢ run c (setup c) fun _ => iprop(owing c 3 ∗ args c a ∗ workBufs c ∗ copyVals c ∗ met c ∗ readied c a) := by
  unfold setup copyVals workBufs
  iintro ⟨#HR, #HL, HO, Ha, ⟨Y0, Y1, Y2, Y3, Y4, Y5, Y6⟩, Y7, Y8, Y9, Y10, ⟨S0, S1, S2, S3, S4⟩, Hc, Hat, T0, T1, T2, HA, HB⟩
  ihave ⟨Hs, Hback⟩ := (args_lend c a) $$ Ha
  imod (Transfers.batch_alloc' EC (c : Thread nD τ) () MB (D0 c a) (sm := .dma (copySem 0).sem) (E := Set.univ)) $$ S0 with B0
  imod (Transfers.batch_alloc' EC (c : Thread nD τ) () MB (D1 c a) (sm := .dma (copySem 1).sem) (E := Set.univ)) $$ S1 with B1
  imod (Transfers.batch_alloc' EC (c : Thread nD τ) () MB (D2 c a) (sm := .dma (copySem 2).sem) (E := Set.univ)) $$ S2 with B2
  imod (Transfers.batch_alloc' EC (c : Thread nD τ) () MH (D3 c a) (sm := .dma (copySem 3).sem) (E := Set.univ)) $$ S3 with B3
  imod (Transfers.batch_alloc' EC (c : Thread nD τ) () MH (D4 c a) (sm := .dma (copySem 4).sem) (E := Set.univ)) $$ S4 with B4
  iapply (run_then c (run_copies c a)) $$ [Hs Y0 Y1 Y2 Y3 Y4 B0 B1 B2 B3 B4]
  · isplitl [Hs]; · iexact Hs
    isplitl [Y0]; · iapply (any_owns c cc0_scratch0); iexact Y0
    isplitl [Y1]; · iapply (any_owns c cc0_scratch1); iexact Y1
    isplitl [Y2]; · iapply (any_owns c cc0_scratch2); iexact Y2
    isplitl [Y3]; · iapply (keysF_heads c); iexact Y3
    isplitl [Y4]; · iapply (valuesF_heads c); iexact Y4
    isplitl [B0]; · iexact B0
    isplitl [B1]; · iexact B1
    isplitl [B2]; · iexact B2
    isplitl [B3] <;> iassumption
  unfold begun
  iintro %_ ⟨B0, B1, B2, B3, B4⟩
  iapply (run_then c (run_meetAll c P O K)) $$ [HO Hc Hat T0 T1 T2 HA HB]
  · isplitr; · iexact HR
    isplitr; · iexact HL
    isplitl [HO]; · iexact HO
    isplitl [Hc]; · iexact Hc
    isplitl [Hat]; · iexact Hat
    isplitl [T0]; · iexact T0
    isplitl [T1]; · iexact T1
    isplitl [T2]; · iexact T2
    isplitl [HA] <;> iassumption
  iintro %_ ⟨HO, Hmet⟩
  iapply (run_lastCopy c (src := srcX) (dst := bXf) (i := 0) (D := D0 c a) (M := MB) (u := 0) rfl MB_pos 3 (by decide) rfl) $$ [HO B0]
  · isplitr; · iexact HL
    isplitl [HO] <;> iassumption
  iintro ⟨HO, HD, S0⟩
  ihave ⟨Y0, Hx⟩ := (Entails.of_eq ((bigSep_one (D0 c a)).trans (show D0 c a 0 = iprop(owns (c : Thread nD τ) bXf fullShare (xF a)
      ∗ owns (c : Thread nD τ) srcX fullShare (xF a)) from rfl))) $$ HD
  iapply (run_lastCopy c (src := srcWq c) (dst := bWqf) (i := 1) (D := D1 c a) (M := MB) (u := 0) rfl MB_pos 3 (by decide) rfl) $$ [HO B1]
  · isplitr; · iexact HL
    isplitl [HO] <;> iassumption
  iintro ⟨HO, HD, S1⟩
  ihave ⟨Y1, Hwq⟩ := (Entails.of_eq ((bigSep_one (D1 c a)).trans (show D1 c a 0 = iprop(owns (c : Thread nD τ) bWqf fullShare (wqF c a)
      ∗ owns (c : Thread nD τ) (srcWq c) fullShare (wqF c a)) from rfl))) $$ HD
  iapply (run_then c (run_narrow c (src := bXf) (dst := bXb) (hd := Memref.isWhole_whole _) (xF a))) $$ [Y0 Y5]
  · isplitl [Y0]; · iexact Y0
    iapply (any_owns c cc0_scratch5); iexact Y5
  iintro %_ ⟨Y0, Y5⟩
  iapply (run_then c (run_narrow c (src := bWqf) (dst := bWqb) (hd := Memref.isWhole_whole _) (wqF c a))) $$ [Y1 Y6]
  · isplitl [Y1]; · iexact Y1
    iapply (any_owns c cc0_scratch6); iexact Y6
  iintro %_ ⟨Y1, Y6⟩
  iapply (run_then c (run_queries c (narrowed (xF a)) (narrowed (wqF c a)))) $$ [Y5 Y6 Y10]
  · isplitl [Y5]; · iexact Y5
    isplitl [Y6]; · iexact Y6
    iapply (any_owns c cc0_scratch10); iexact Y10
  iintro %_ ⟨Y5, Y6, Y10⟩
  iapply (run_then c (run_heads c (awaitState c a) (run_awaitHead c a))) $$ [HO B3 B4]
  · unfold awaitState
    isplitr; · iexact HL
    isplitl [HO]; · iexact HO
    rw [← awaited_zero, ← awaited_zero]
    isplitl [B3] <;> iassumption
  unfold awaitState
  rw [awaited_all, awaited_all]
  iintro %_ ⟨-, HO, ⟨HD3, S3⟩, ⟨HD4, S4⟩⟩
  ihave ⟨Y3, Hk⟩ := (Entails.of_eq (show bigSep Finset.univ (D3 c a) = iprop((bigSep Finset.univ fun h =>
      owns (c : Thread nD τ) (headF bKf h) fullShare (keyF a h)) ∗ bigSep Finset.univ fun h => owns (c : Thread nD τ) (headX bKx h) fullShare (keyF a h))
      from bigSep_sep' _ _ _)) $$ HD3
  ihave ⟨Y4, Hv⟩ := (Entails.of_eq (show bigSep Finset.univ (D4 c a) = iprop((bigSep Finset.univ fun h =>
      owns (c : Thread nD τ) (headF bVf h) fullShare (valF a h)) ∗ bigSep Finset.univ fun h => owns (c : Thread nD τ) (headX bVx h) fullShare (valF a h))
      from bigSep_sep' _ _ _)) $$ HD4
  icases Y8 with ⟨%f8, Y8⟩
  icases Y9 with ⟨%f9, Y9⟩
  iapply (run_then c (run_narrowHeads c (keyF a) (valF a))) $$ [Y3 Y4 Y8 Y9]
  · unfold narrowedTo
    isplitl [Y3]; · iexact Y3
    isplitl [Y4]; · iexact Y4
    isplitl [Y8]
    · iexists f8; isplitr
      · ipureintro; exact fun i h => absurd h (Nat.not_lt_zero _)
      iexact Y8
    · iexists f9; isplitr
      · ipureintro; exact fun i h => absurd h (Nat.not_lt_zero _)
      iexact Y9
  unfold narrowedTo
  iintro %_ ⟨Y3, Y4, ⟨%A, %hA, Y8⟩, ⟨%B, %hB, Y9⟩⟩
  have eA : A = Kof a := funext fun i => hA i (i 0).isLt
  have eB : B = Vof a := funext fun i => hB i (i 0).isLt
  subst eA eB
  iapply (run_lastCopy c (src := srcWo c) (dst := bWof) (i := 2) (D := D2 c a) (M := MB) (u := 0) rfl MB_pos 3 (by decide) rfl) $$ [HO B2]
  · isplitr; · iexact HL
    isplitl [HO] <;> iassumption
  iintro ⟨HO, HD, S2⟩
  ihave ⟨Y2, Hwo⟩ := (Entails.of_eq ((bigSep_one (D2 c a)).trans (show D2 c a 0 = iprop(owns (c : Thread nD τ) bWof fullShare (woF c a)
      ∗ owns (c : Thread nD τ) (srcWo c) fullShare (woF c a)) from rfl))) $$ HD
  iapply (run_last c (run_narrow c (src := bWof) (dst := bWob) (hd := Memref.isWhole_whole _) (woF c a))) $$ [Y2 Y7]
  · isplitl [Y2]; · iexact Y2
    iapply (any_owns c cc0_scratch7); iexact Y7
  iintro %_ ⟨Y2, Y7⟩
  isplitl [HO]; · iexact HO
  isplitl [Hback Hx Hwq Hwo Hk Hv]
  · iapply Hback
    unfold srcs
    isplitl [Hx]; · iexact Hx
    isplitl [Hwq]; · iexact Hwq
    isplitl [Hwo]; · iexact Hwo
    isplitl [Hk] <;> iassumption
  isplitl [Y0 Y1 Y2 Y3 Y4 Y5 Y6]
  · isplitl [Y0]; · iapply (owns_any c cc0_scratch0); iexact Y0
    isplitl [Y1]; · iapply (owns_any c cc0_scratch1); iexact Y1
    isplitl [Y2]; · iapply (owns_any c cc0_scratch2); iexact Y2
    isplitl [Y3]; · iapply (heads_keysF c); iapply (headAny_intro c bKf (keyF a)); iexact Y3
    isplitl [Y4]; · iapply (heads_valuesF c); iapply (headAny_intro c bVf (valF a)); iexact Y4
    isplitl [Y5]; · iapply (owns_any c cc0_scratch5); iexact Y5
    iapply (owns_any c cc0_scratch6); iexact Y6
  isplitl [S0 S1 S2 S3 S4]
  · isplitl [S0]; · iexact S0
    isplitl [S1]; · iexact S1
    isplitl [S2]; · iexact S2
    isplitl [S3] <;> iassumption
  isplitl [Hmet]; · unfold met; iexact Hmet
  unfold readied inputs
  isplitl [Y8 Y9 Y10]
  · isplitl [Y10]; · iapply (Entails.of_eq (owns_whole (c : Thread nD τ) cc0_scratch10 fullShare (Qof c a))); iexact Y10
    isplitl [Y8] <;> iassumption
  iexact Y7

end Cert.KernelProof
-- ==== Proof.Body.lean ====
/- The body of the kernel on one device. -/
module

public import proofs.«01_k».proof.Proof.Setup
public import Idealize.ShloMosaic.Lib.MemrefSat

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (c : Dev nD)

/-- Something for each of the three transfers of a kind. -/
abbrev three (Φ : Fin 3 → sProp 𝕄) : sProp 𝕄 := iprop(Φ 0 ∗ Φ 1 ∗ Φ 2)

/-! ## The finished chunk, shared among its transfers -/

omit [FloatOps F] [Named F] in
theorem shares (X : Vec F S256x1024 .bf16) :
    (owns (c : Thread nD τ) bSB fullShare X : sProp 𝕄) ⊣⊢ three fun j => owns (c : Thread nD τ) bSB (share3 j) X :=
  (owns_halves (c : Thread nD τ) bSB fullShare X).trans (sep_congr .rfl (owns_halves (c : Thread nD τ) bSB fullShare.right X))

/-! ## The contents of the exchange -/

/-- The context of a chunk of rows. -/
def ctxAt (t : Dev nD) (Q : Vec F S1024x1024 .bf16) (K V : Vec F S8x1024x128 .bf16) : Vec F S256x1024 .bf16 :=
  chunkCtx (wordOwn t) (chunkWord_own t) Q K V

theorem ctx_congr {w w' : BitVec 32} (h : w = w') (hw : ChunkWord w) (hw' : ChunkWord w')
    (Q : Vec F S1024x1024 .bf16) (K V : Vec F S8x1024x128 .bf16) : chunkCtx w hw Q K V = chunkCtx w' hw' Q K V := by
  subst h; rfl

theorem word0 (d : Dev nD) : wordTo d 0#32 = wordOwn (far 0 d) := by revert d; decide
theorem word1 (d : Dev nD) : wordTo d 1#32 = wordOwn (far 1 d) := by revert d; decide
theorem word2 (d : Dev nD) : wordTo d 2#32 = wordOwn (far 2 d) := by revert d; decide

variable (A : Dev nD → Args F)

/-- The context of a chunk, from a device's heads. -/
def ctxOf (p t : Dev nD) : Vec F S256x1024 .bf16 := ctxAt t (Qof p (A p)) (Kof (A p)) (Vof (A p))
/-- A device's part of a chunk of the result. -/
def partFor (p t : Dev nD) : Vec F S256x1024 .bf16 := sentVal (ctxOf A p t) (Wof p (A p))
/-- A chunk of the result, summed on its device. -/
def sumFor (t : Dev nD) : Vec F S256x1024 .f32 :=
  added (added (added (partVal (ctxOf A t t) (Wof t (A t))) (partFor A (far 2 t) t)) (partFor A (far 1 t) t)) (partFor A (far 0 t) t)
def chunkOf (t : Dev nD) : Vec F S256x1024 .bf16 := chunkNarrowed (sumFor A t)

/-! ## After the last chunk -/

variable (P : Dev nD → Dev nD → Vec F S256x1024 .bf16) (O : Dev nD → Vec F S256x1024 .bf16) (K : Dev nD × PK → ℕ)

theorem dev4_far (d : Dev nD) : (⟨k0_dev4 d, k0_dev4_lt d⟩ : Dev nD) = far 0 d := Fin.ext (Gen.k0_dev4_eq d)
theorem dev5_far (d : Dev nD) : (⟨k0_dev5 d, k0_dev5_lt d⟩ : Dev nD) = far 1 d := Fin.ext (Gen.k0_dev5_eq d)
theorem dev6_far (d : Dev nD) : (⟨k0_dev6 d, k0_dev6_lt d⟩ : Dev nD) = far 2 d := Fin.ext (Gen.k0_dev6_eq d)
theorem dev7_far (d : Dev nD) : (⟨k0_dev7 d, k0_dev7_lt d⟩ : Dev nD) = far 1 d := Fin.ext (Gen.k0_dev7_eq d)
theorem dev8_far (d : Dev nD) : (⟨k0_dev8 d, k0_dev8_lt d⟩ : Dev nD) = far 0 d := Fin.ext (Gen.k0_dev8_eq d)
theorem dev9_far (d : Dev nD) : (⟨k0_dev9 d, k0_dev9_lt d⟩ : Dev nD) = far 2 d := Fin.ext (Gen.k0_dev9_eq d)

/-- Every chunk is placed. -/
theorem placed_all (d : Dev nD) (m : ℕ) (h : m < 4) :
    (((False ∨ m = d.val) ∨ m = (far 2 d).val) ∨ m = (far 1 d).val) ∨ m = (far 0 d).val := by
  have : d.val < 4 := d.isLt
  simp only [far]
  show _ ∨ m = (d.val + 1 + 0) % 4
  simp only [show ((2 : Fin 3) : ℕ) = 2 from rfl, show ((1 : Fin 3) : ℕ) = 1 from rfl]
  omega

theorem outOn_all {P' : ℕ → Prop} (h : ∀ m < 4, P' m) : (outOn c O P' : sProp 𝕄) ⊢ holds c cc0_stg0_0 (stacked O) := by
  unfold outOn
  iintro ⟨%C, %hC, H⟩
  have e : C = stacked O := funext fun i => hC i (h _ (by have : (i 1).val < 1024 := (i 1).isLt; omega))
  subst e
  iexact H

theorem run_finish (x : Vec F S256x1024 .bf16) (w : Vec F S1024x1024 .bf16)
    (hO : O c = chunkNarrowed (added (added (added (partVal x w) (P (far 2 c) c)) (P (far 1 c) c)) (P (far 0 c) c))) :
    iprop(recs P O K ∗ levAts L lv ∗ owing c 6 ∗ owns (c : Thread nD τ) bCtx fullShare x ∗ owns (c : Thread nD τ) bWob fullShare w
        ∗ anyBuf c cc0_scratch12 ∗ anyBuf c cc0_scratch15 ∗ outOn c O (fun _ => False)
        ∗ three (fun j => units c (some (0, j)) N) ∗ three (fun j => units c (some (1, j)) N) ∗ three (fun j => units c (some (3, j)) N)
        ∗ three (fun j => at_ c (some (0, j)) 0) ∗ three (fun j => at_ c (some (1, j)) 0)
        ∗ three (fun j => at_ c (some (2, j)) 0) ∗ three (fun j => at_ c (some (3, j)) 0)
        ∗ three (fun j => slotAny bRB (far j c) (rev j)) ∗ three (fun j => tok c (some (2, j)) 0)
        ∗ three (fun j => tok (far j c) (some (3, rev j)) 0))
      ⊢ run c (finish c) fun _ => iprop(owing c 9 ∗ owns (c : Thread nD τ) bCtx fullShare x ∗ owns (c : Thread nD τ) bWob fullShare w
        ∗ anyBuf c cc0_scratch12 ∗ anyBuf c cc0_scratch15 ∗ holds c cc0_stg0_0 (stacked O)
        ∗ three (fun j => at_ c (some (0, j)) 1) ∗ three (fun j => at_ c (some (1, j)) 1)
        ∗ three (fun j => at_ c (some (2, j)) 1) ∗ three (fun j => at_ c (some (3, j)) 1)
        ∗ slots3 c bSA ∗ slots3 c bRA ∗ slots3 c bRB) := by
  unfold finish
  iintro ⟨#HR, #HL, HO, Hx, Hw, Ya, Yb, Hout, ⟨U00, U01, U02⟩, ⟨U10, U11, U12⟩, ⟨U30, U31, U32⟩, ⟨A00, A01, A02⟩,
    ⟨A10, A11, A12⟩, ⟨A20, A21, A22⟩, ⟨A30, A31, A32⟩, ⟨R0, R1, R2⟩, ⟨T20, T21, T22⟩, ⟨T30, T31, T32⟩⟩
  ihave Ya := (any_owns c cc0_scratch12) $$ Ya
  iapply (run_then c (run_ownPart c x w)) $$ [Hx Hw Ya]
  · isplitl [Hx]; · iexact Hx
    isplitl [Hw]; · iexact Hw
    iexact Ya
  iintro %_ ⟨Hx, Hw, Ya⟩
  iapply (run_then c (run_addPart P O K c 2 _)) $$ [HO U12 A12 Ya]
  · isplitr; · iexact HR
    isplitr; · iexact HL
    isplitl [HO]; · iexact HO
    isplitl [U12]; · iexact U12
    isplitl [A12]; · iexact A12
    iexact Ya
  iintro %_ ⟨HO, A12, Ya, SA2⟩
  iapply (run_then c (run_addPart P O K c 1 _)) $$ [HO U11 A11 Ya]
  · isplitr; · iexact HR
    isplitr; · iexact HL
    isplitl [HO]; · iexact HO
    isplitl [U11]; · iexact U11
    isplitl [A11]; · iexact A11
    iexact Ya
  iintro %_ ⟨HO, A11, Ya, SA1⟩
  iapply (run_then c (run_addPart P O K c 0 _)) $$ [HO U10 A10 Ya]
  · isplitr; · iexact HR
    isplitr; · iexact HL
    isplitl [HO]; · iexact HO
    isplitl [U10]; · iexact U10
    isplitl [A10]; · iexact A10
    iexact Ya
  iintro %_ ⟨HO, A10, Ya, SA0⟩
  ihave Yb := (any_owns c cc0_scratch15) $$ Yb
  iapply (run_then c (run_finishOwn c _)) $$ [Ya Yb]
  · isplitl [Ya]; · iexact Ya
    iexact Yb
  iintro %_ ⟨Ya, Yb⟩
  ihave Yb := (Entails.of_eq (congrArg (fun X => (owns (c : Thread nD τ) bSB fullShare X : sProp 𝕄)) hO.symm)) $$ Yb
  iapply (run_then c (run_placeOwn c O _)) $$ [Yb Hout]
  · isplitl [Yb]; · iexact Yb
    iexact Hout
  iintro %_ ⟨Yb, Hout⟩
  ihave ⟨B0, B1, B2⟩ := (shares c (O c)).1 $$ Yb
  iapply (run_then c (run_sendOwn P O K c 1 1 rfl 6 ⟨k0_dev7 c, k0_dev7_lt c⟩ (dev7_far c) rfl)) $$ [HO B1 R1 T21 T31]
  · isplitr; · iexact HR
    isplitl [HO]; · iexact HO
    isplitl [B1]; · iexact B1
    isplitl [R1]; · iexact R1
    isplitl [T21]; · iexact T21
    iexact T31
  iintro %_ ⟨HO, U21⟩
  iapply (run_then c (run_sendOwn P O K c 0 2 rfl 7 ⟨k0_dev8 c, k0_dev8_lt c⟩ (dev8_far c) rfl)) $$ [HO B0 R0 T20 T30]
  · isplitr; · iexact HR
    isplitl [HO]; · iexact HO
    isplitl [B0]; · iexact B0
    isplitl [R0]; · iexact R0
    isplitl [T20]; · iexact T20
    iexact T30
  iintro %_ ⟨HO, U20⟩
  iapply (run_then c (run_sendOwn P O K c 2 0 rfl 8 ⟨k0_dev9 c, k0_dev9_lt c⟩ (dev9_far c) rfl)) $$ [HO B2 R2 T22 T32]
  · isplitr; · iexact HR
    isplitl [HO]; · iexact HO
    isplitl [B2]; · iexact B2
    isplitl [R2]; · iexact R2
    isplitl [T22]; · iexact T22
    iexact T32
  iintro %_ ⟨HO, U22⟩
  iapply (run_then c (run_placeOther P O K c 2 _)) $$ [HO U32 A32 Hout]
  · isplitr; · iexact HR
    isplitr; · iexact HL
    isplitl [HO]; · iexact HO
    isplitl [U32]; · iexact U32
    isplitl [A32]; · iexact A32
    iexact Hout
  iintro %_ ⟨HO, A32, Hout, SB2⟩
  iapply (run_then c (run_placeOther P O K c 1 _)) $$ [HO U31 A31 Hout]
  · isplitr; · iexact HR
    isplitr; · iexact HL
    isplitl [HO]; · iexact HO
    isplitl [U31]; · iexact U31
    isplitl [A31]; · iexact A31
    iexact Hout
  iintro %_ ⟨HO, A31, Hout, SB1⟩
  iapply (run_then c (run_placeOther P O K c 0 _)) $$ [HO U30 A30 Hout]
  · isplitr; · iexact HR
    isplitr; · iexact HL
    isplitl [HO]; · iexact HO
    isplitl [U30]; · iexact U30
    isplitl [A30]; · iexact A30
    iexact Hout
  iintro %_ ⟨HO, A30, Hout, SB0⟩
  iapply (run_then c (run_drainPart P O K c 0 2)) $$ [HO U00 A00]
  · isplitr; · iexact HR
    isplitr; · iexact HL
    isplitl [HO]; · iexact HO
    isplitl [U00]; · iexact U00
    iexact A00
  iintro %_ ⟨HO, A00, SS0⟩
  iapply (run_then c (run_drainPart P O K c 1 1)) $$ [HO U01 A01]
  · isplitr; · iexact HR
    isplitr; · iexact HL
    isplitl [HO]; · iexact HO
    isplitl [U01]; · iexact U01
    iexact A01
  iintro %_ ⟨HO, A01, SS1⟩
  iapply (run_then c (run_drainPart P O K c 2 0)) $$ [HO U02 A02]
  · isplitr; · iexact HR
    isplitr; · iexact HL
    isplitl [HO]; · iexact HO
    isplitl [U02]; · iexact U02
    iexact A02
  iintro %_ ⟨HO, A02, SS2⟩
  iapply (run_then c (run_drainOwn P O K c 1 1)) $$ [HO U21 A21]
  · isplitr; · iexact HR
    isplitr; · iexact HL
    isplitl [HO]; · iexact HO
    isplitl [U21]; · iexact U21
    iexact A21
  iintro %_ ⟨HO, A21, B1⟩
  iapply (run_then c (run_drainOwn P O K c 0 2)) $$ [HO U20 A20]
  · isplitr; · iexact HR
    isplitr; · iexact HL
    isplitl [HO]; · iexact HO
    isplitl [U20]; · iexact U20
    iexact A20
  iintro %_ ⟨HO, A20, B0⟩
  iapply (run_last c (run_drainOwn P O K c 2 0)) $$ [HO U22 A22]
  · isplitr; · iexact HR
    isplitr; · iexact HL
    isplitl [HO]; · iexact HO
    isplitl [U22]; · iexact U22
    iexact A22
  iintro %_ ⟨HO, A22, B2⟩
  ihave Yb := (shares c (O c)).2 $$ [B0 B1 B2]
  · isplitl [B0]; · iexact B0
    isplitl [B1]; · iexact B1
    iexact B2
  isplitl [HO]; · iexact HO
  isplitl [Hx]; · iexact Hx
  isplitl [Hw]; · iexact Hw
  isplitl [Ya]; · iapply (owns_any c cc0_scratch12); iexact Ya
  isplitl [Yb]; · iapply (owns_any c cc0_scratch15); iexact Yb
  isplitl [Hout]; · iapply (outOn_all c O (placed_all c)); iexact Hout
  isplitl [A00 A01 A02]
  · isplitl [A00]; · iexact A00
    isplitl [A01]; · iexact A01
    iexact A02
  isplitl [A10 A11 A12]
  · isplitl [A10]; · iexact A10
    isplitl [A11]; · iexact A11
    iexact A12
  isplitl [A20 A21 A22]
  · isplitl [A20]; · iexact A20
    isplitl [A21]; · iexact A21
    iexact A22
  isplitl [A30 A31 A32]
  · isplitl [A30]; · iexact A30
    isplitl [A31]; · iexact A31
    iexact A32
  isplitl [SS0 SS1 SS2]
  · isplitl [SS0]; · iexact SS0
    isplitl [SS1]; · iexact SS1
    iexact SS2
  isplitl [SA0 SA1 SA2]
  · isplitl [SA0]; · iexact SA0
    isplitl [SA1]; · iexact SA1
    iexact SA2
  isplitl [SB0]; · iexact SB0
  isplitl [SB1]; · iexact SB1
  iexact SB2

theorem outOn_none : (anyBuf c cc0_stg0_0 : sProp 𝕄) ⊢ outOn c O fun _ => False := by
  unfold outOn
  iintro ⟨%C, H⟩
  iexists C
  isplitr
  · ipureintro; exact fun _ h => h.elim
  iexact H

/-! ## The whole body -/

/-- What a device may wait for. -/
def creds : sProp 𝕄 := iprop(units c none 3 ∗ three (fun j => units c (some (1, j)) N) ∗ three (fun j => units c (some (3, j)) N))
/-- Its places in the rounds of its cells. -/
def places (n : ℕ) : sProp 𝕄 :=
  iprop(at_ c none n ∗ three (fun j => at_ c (some (0, j)) n) ∗ three (fun j => at_ c (some (1, j)) n)
    ∗ three (fun j => at_ c (some (2, j)) n) ∗ three (fun j => at_ c (some (3, j)) n))
/-- The duties it pays. -/
def myToks : sProp 𝕄 :=
  iprop(tok (far 0 c) none 0 ∗ tok (far 1 c) none 1 ∗ tok (far 2 c) none 2 ∗ three (fun j => tok c (some (0, j)) 0)
    ∗ three (fun j => tok (far j c) (some (1, rev j)) 0) ∗ three (fun j => tok c (some (2, j)) 0)
    ∗ three (fun j => tok (far j c) (some (3, rev j)) 0))
/-- Its working buffers, with any contents. -/
def bufs : sProp 𝕄 :=
  iprop(workBufs c ∗ anyBuf c cc0_scratch7 ∗ anyBuf c cc0_scratch8 ∗ anyBuf c cc0_scratch9 ∗ anyBuf c cc0_scratch10
    ∗ anyBuf c cc0_scratch11 ∗ anyBuf c cc0_scratch12 ∗ anyBuf c cc0_scratch13 ∗ anyBuf c cc0_scratch14
    ∗ anyBuf c cc0_scratch15 ∗ anyBuf c cc0_scratch16)

set_option maxHeartbeats 4000000 in
theorem run_short :
    iprop(recs (partFor A) (chunkOf A) K ∗ levAts L lv ∗ owing c 0 ∗ args c (A c) ∗ bufs c ∗ anyBuf c cc0_stg0_0 ∗ copyVals c
        ∗ creds c ∗ places c 0 ∗ myToks c)
      ⊢ run c (shortBody c) fun _ => iprop(owing c 9 ∗ args c (A c) ∗ bufs c ∗ holds c cc0_stg0_0 (stacked (chunkOf A)) ∗ copyVals c
        ∗ places c 1) := by
  unfold shortBody bufs creds places myToks
  iintro ⟨#HR, #HL, HO, Ha, ⟨Yw, Y7, Y8, Y9, Y10, Y11, Y12, Y13, Y14, Y15, Y16⟩, Yo, Hs, ⟨Un, U1, U3⟩, ⟨An, A0, A1, A2, A3⟩,
    ⟨Tn0, Tn1, Tn2, ⟨T00, T01, T02⟩, ⟨T10, T11, T12⟩, T2, T3⟩⟩
  ihave SS := (sendA_slots c) $$ Y13
  ihave SA := (recvA_slots c) $$ Y14
  ihave SB := (recvB_slots c) $$ Y16
  iapply (run_then c (run_setup c (A c) (partFor A) (chunkOf A) K)) $$ [HO Ha Yw Y7 Y8 Y9 Y10 Hs Un An Tn0 Tn1 Tn2 SA SB]
  · isplitr; · iexact HR
    isplitr; · iexact HL
    isplitl [HO]; · iexact HO
    isplitl [Ha]; · iexact Ha
    isplitl [Yw]; · iexact Yw
    isplitl [Y7]; · iexact Y7
    isplitl [Y8]; · iexact Y8
    isplitl [Y9]; · iexact Y9
    isplitl [Y10]; · iexact Y10
    isplitl [Hs]; · iexact Hs
    isplitl [Un]; · iexact Un
    isplitl [An]; · iexact An
    isplitl [Tn0]; · iexact Tn0
    isplitl [Tn1]; · iexact Tn1
    isplitl [Tn2]; · iexact Tn2
    isplitl [SA]; · iexact SA
    iexact SB
  iintro %_ ⟨HO, Ha, Yw, Hs, Hm, Hr⟩
  unfold met readied meetPay
  icases Hm with ⟨An, ⟨RA0, RB0⟩, ⟨RA1, RB1⟩, ⟨RA2, RB2⟩⟩
  icases Hr with ⟨Hi, Hw⟩
  icases SS with ⟨SS0, SS1, SS2⟩
  beta_reduce
  iapply (run_chunk c (Qof c (A c)) (Kof (A c)) (Vof (A c)) (wordTo c 0#32) (chunkWord_to0 c)) $$ [Hi Y11]
  · isplitl [Hi]; · iexact Hi
    iexact Y11
  iintro ⟨Hi, Hx⟩
  ihave Hx := (Entails.of_eq (owns_whole (c : Thread nD τ) cc0_scratch11 fullShare _).symm) $$ Hx
  iapply (run_then c (run_sendPart (partFor A) (chunkOf A) K c 0 2 rfl 3 ⟨k0_dev4 c, k0_dev4_lt c⟩ (dev4_far c) rfl
    (chunkCtx (wordTo c 0#32) (chunkWord_to0 c) (Qof c (A c)) (Kof (A c)) (Vof (A c))) (Wof c (A c))
    (congrArg (fun x => sentVal x (Wof c (A c))) (ctx_congr (word0 c).symm _ _ _ _ _)))) $$ [HO Hx Hw SS0 RA2 T00 T10]
  · isplitr; · iexact HR
    isplitl [HO]; · iexact HO
    isplitl [Hx]; · iexact Hx
    isplitl [Hw]; · iexact Hw
    isplitl [SS0]; · iexact SS0
    isplitl [RA2]; · iexact RA2
    isplitl [T00]; · iexact T00
    iexact T10
  iintro %_ ⟨HO, Hx, Hw, U00⟩
  ihave Y11 := (owns_any c cc0_scratch11 _) $$ Hx
  beta_reduce
  iapply (run_chunk c (Qof c (A c)) (Kof (A c)) (Vof (A c)) (wordTo c 1#32) (chunkWord_to1 c)) $$ [Hi Y11]
  · isplitl [Hi]; · iexact Hi
    iexact Y11
  iintro ⟨Hi, Hx⟩
  ihave Hx := (Entails.of_eq (owns_whole (c : Thread nD τ) cc0_scratch11 fullShare _).symm) $$ Hx
  iapply (run_then c (run_sendPart (partFor A) (chunkOf A) K c 1 1 rfl 4 ⟨k0_dev5 c, k0_dev5_lt c⟩ (dev5_far c) rfl
    (chunkCtx (wordTo c 1#32) (chunkWord_to1 c) (Qof c (A c)) (Kof (A c)) (Vof (A c))) (Wof c (A c))
    (congrArg (fun x => sentVal x (Wof c (A c))) (ctx_congr (word1 c).symm _ _ _ _ _)))) $$ [HO Hx Hw SS1 RA1 T01 T11]
  · isplitr; · iexact HR
    isplitl [HO]; · iexact HO
    isplitl [Hx]; · iexact Hx
    isplitl [Hw]; · iexact Hw
    isplitl [SS1]; · iexact SS1
    isplitl [RA1]; · iexact RA1
    isplitl [T01]; · iexact T01
    iexact T11
  iintro %_ ⟨HO, Hx, Hw, U01⟩
  ihave Y11 := (owns_any c cc0_scratch11 _) $$ Hx
  beta_reduce
  iapply (run_chunk c (Qof c (A c)) (Kof (A c)) (Vof (A c)) (wordTo c 2#32) (chunkWord_to2 c)) $$ [Hi Y11]
  · isplitl [Hi]; · iexact Hi
    iexact Y11
  iintro ⟨Hi, Hx⟩
  ihave Hx := (Entails.of_eq (owns_whole (c : Thread nD τ) cc0_scratch11 fullShare _).symm) $$ Hx
  iapply (run_then c (run_sendPart (partFor A) (chunkOf A) K c 2 0 rfl 5 ⟨k0_dev6 c, k0_dev6_lt c⟩ (dev6_far c) rfl
    (chunkCtx (wordTo c 2#32) (chunkWord_to2 c) (Qof c (A c)) (Kof (A c)) (Vof (A c))) (Wof c (A c))
    (congrArg (fun x => sentVal x (Wof c (A c))) (ctx_congr (word2 c).symm _ _ _ _ _)))) $$ [HO Hx Hw SS2 RA0 T02 T12]
  · isplitr; · iexact HR
    isplitl [HO]; · iexact HO
    isplitl [Hx]; · iexact Hx
    isplitl [Hw]; · iexact Hw
    isplitl [SS2]; · iexact SS2
    isplitl [RA0]; · iexact RA0
    isplitl [T02]; · iexact T02
    iexact T12
  iintro %_ ⟨HO, Hx, Hw, U02⟩
  ihave Y11 := (owns_any c cc0_scratch11 _) $$ Hx
  beta_reduce
  iapply (run_chunk c (Qof c (A c)) (Kof (A c)) (Vof (A c)) (wordOwn c) (chunkWord_own c)) $$ [Hi Y11]
  · isplitl [Hi]; · iexact Hi
    iexact Y11
  iintro ⟨Hi, Hx⟩
  ihave Hx := (Entails.of_eq (owns_whole (c : Thread nD τ) cc0_scratch11 fullShare _).symm) $$ Hx
  iapply (run_last c (run_finish c (partFor A) (chunkOf A) K (ctxOf A c c) (Wof c (A c)) rfl)) $$ [HO Hx Hw Y12 Y15 Yo U00 U01 U02 U1 U3 A0 A1 A2 A3 RB0 RB1 RB2 T2 T3]
  · isplitr; · iexact HR
    isplitr; · iexact HL
    isplitl [HO]; · iexact HO
    isplitl [Hx]; · iexact Hx
    isplitl [Hw]; · iexact Hw
    isplitl [Y12]; · iexact Y12
    isplitl [Y15]; · iexact Y15
    isplitl [Yo]; · iapply (outOn_none c (chunkOf A)); iexact Yo
    isplitl [U00 U01 U02]
    · isplitl [U00]; · iexact U00
      isplitl [U01]; · iexact U01
      iexact U02
    isplitl [U1]; · iexact U1
    isplitl [U3]; · iexact U3
    isplitl [A0]; · iexact A0
    isplitl [A1]; · iexact A1
    isplitl [A2]; · iexact A2
    isplitl [A3]; · iexact A3
    isplitl [RB0 RB1 RB2]
    · isplitl [RB2]; · iexact RB2
      isplitl [RB1]; · iexact RB1
      iexact RB0
    isplitl [T2]; · iexact T2
    iexact T3
  iintro %_ ⟨HO, Hx, Hw, Y12, Y15, Yo, A0, A1, A2, A3, SS, SA, SB⟩
  unfold inputs
  icases Hi with ⟨Y10, Y8, Y9⟩
  isplitl [HO]; · iexact HO
  isplitl [Ha]; · iexact Ha
  isplitl [Yw Y8 Y9 Y10 Hx Hw Y12 Y15 SS SA SB]
  · isplitl [Yw]; · iexact Yw
    isplitl [Hw]; · iapply (owns_any c cc0_scratch7); iexact Hw
    isplitl [Y8]; · iexists _; iexact Y8
    isplitl [Y9]; · iexists _; iexact Y9
    isplitl [Y10]; · iexists _; iexact Y10
    isplitl [Hx]; · iapply (owns_any c cc0_scratch11); iexact Hx
    isplitl [Y12]; · iexact Y12
    isplitl [SS]; · iapply (slots_sendA c); iexact SS
    isplitl [SA]; · iapply (slots_recvA c); iexact SA
    isplitl [Y15]; · iexact Y15
    iapply (slots_recvB c); iexact SB
  isplitl [Yo]; · iexact Yo
  isplitl [Hs]; · iexact Hs
  isplitl [An]; · iexact An
  isplitl [A0]; · iexact A0
  isplitl [A1]; · iexact A1
  isplitl [A2]; · iexact A2
  iexact A3

end Cert.KernelProof
-- ==== Proof.Deal.lean ====
/- What the launch gives each device for the exchange: its cells, the duties it pays and the units it may wait for. -/
module

public import proofs.«01_k».proof.Proof.Body

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (P : Dev nD → Dev nD → Vec F S256x1024 .bf16) (O : Dev nD → Vec F S256x1024 .bf16) (c : Dev nD)

/-! ## The cells of a device, kind by kind -/

/-- Something for each cell of a device. -/
abbrev grouped (Φ : PK → sProp 𝕄) : sProp 𝕄 :=
  iprop(Φ none ∗ three (fun j => Φ (some (0, j))) ∗ three (fun j => Φ (some (1, j))) ∗ three (fun j => Φ (some (2, j)))
    ∗ three (fun j => Φ (some (3, j))))

omit [FloatOps F] [Named F] in
theorem cells_flat (Φ : PK → sProp 𝕄) : bigSep Finset.univ Φ = iprop(Φ none ∗ Φ (some (0, 0)) ∗ Φ (some (0, 1)) ∗ Φ (some (0, 2))
    ∗ Φ (some (1, 0)) ∗ Φ (some (1, 1)) ∗ Φ (some (1, 2)) ∗ Φ (some (2, 0)) ∗ Φ (some (2, 1)) ∗ Φ (some (2, 2))
    ∗ Φ (some (3, 0)) ∗ Φ (some (3, 1)) ∗ Φ (some (3, 2))) :=
  bigSep_univ_eq_bigSepL [none, some (0, 0), some (0, 1), some (0, 2), some (1, 0), some (1, 1), some (1, 2),
    some (2, 0), some (2, 1), some (2, 2), some (3, 0), some (3, 1), some (3, 2)] (by decide) (by decide) Φ

omit [FloatOps F] [Named F] in
theorem cells_grouped (Φ : PK → sProp 𝕄) : bigSep Finset.univ Φ ⊢ grouped Φ := by
  rw [cells_flat]
  iintro ⟨Hn, H00, H01, H02, H10, H11, H12, H20, H21, H22, H30, H31, H32⟩
  isplitl [Hn]; · iexact Hn
  isplitl [H00 H01 H02]
  · isplitl [H00]; · iexact H00
    isplitl [H01] <;> iassumption
  isplitl [H10 H11 H12]
  · isplitl [H10]; · iexact H10
    isplitl [H11] <;> iassumption
  isplitl [H20 H21 H22]
  · isplitl [H20]; · iexact H20
    isplitl [H21] <;> iassumption
  isplitl [H30]; · iexact H30
  isplitl [H31] <;> iassumption
omit [FloatOps F] [Named F] in
theorem grouped_cells (Φ : PK → sProp 𝕄) : grouped Φ ⊢ bigSep Finset.univ Φ := by
  rw [cells_flat]
  iintro ⟨Hn, ⟨H00, H01, H02⟩, ⟨H10, H11, H12⟩, ⟨H20, H21, H22⟩, H30, H31, H32⟩
  isplitl [Hn]; · iexact Hn
  isplitl [H00]; · iexact H00
  isplitl [H01]; · iexact H01
  isplitl [H02]; · iexact H02
  isplitl [H10]; · iexact H10
  isplitl [H11]; · iexact H11
  isplitl [H12]; · iexact H12
  isplitl [H20]; · iexact H20
  isplitl [H21]; · iexact H21
  isplitl [H22]; · iexact H22
  isplitl [H30]; · iexact H30
  isplitl [H31] <;> iassumption

/-! ## The semaphores -/

/-- The kernel's own semaphores. -/
abbrev osem : Fin 17 → SemLoc sig := fun i => .dma ⟨i.val + 1, by have := i.isLt; show i.val + 1 < 18; omega⟩

omit [FloatOps F] [Named F] in
theorem ownSems0_flat : (Pipeline.ownSems0 (Ix := Unit) (Name := ℕ) (U := UU) (Lvl := ℕ) (Val := Elt F) (τ := τ) osem c : sProp 𝕄)
    = iprop(semVal ((c : Thread nD τ), .dma (copySem 0).sem) 0 ∗ semVal ((c : Thread nD τ), .dma (copySem 1).sem) 0
      ∗ semVal ((c : Thread nD τ), .dma (copySem 2).sem) 0 ∗ semVal ((c : Thread nD τ), .dma (copySem 3).sem) 0
      ∗ semVal ((c : Thread nD τ), .dma (copySem 4).sem) 0
      ∗ semVal (pcell c (some (0, 0))) 0 ∗ semVal (pcell c (some (0, 1))) 0 ∗ semVal (pcell c (some (0, 2))) 0
      ∗ semVal (pcell c (some (1, 0))) 0 ∗ semVal (pcell c (some (1, 1))) 0 ∗ semVal (pcell c (some (1, 2))) 0
      ∗ semVal (pcell c (some (2, 0))) 0 ∗ semVal (pcell c (some (2, 1))) 0 ∗ semVal (pcell c (some (2, 2))) 0
      ∗ semVal (pcell c (some (3, 0))) 0 ∗ semVal (pcell c (some (3, 1))) 0 ∗ semVal (pcell c (some (3, 2))) 0) := by
  rw [Pipeline.ownSems0_eq_of_list c osem [0, 1, 2, 3, 4, 5, 6, 7, 8, 9, 10, 11, 12, 13, 14, 15, 16] (by decide) (by decide)]; rfl

omit [FloatOps F] [Named F] in
theorem unscopedSems0_eq : (unscopedSems0 c : sProp 𝕄) = semVal (pcell c none) 0 := by
  unfold unscopedSems0; rw [bigSep_eq_bigSepL_of_eq [SemLoc.reg barSem.sem] (by decide) (by decide)]; rfl

omit [FloatOps F] [Named F] in
theorem sems_split : iprop(Pipeline.ownSems0 (Ix := Unit) (Name := ℕ) (U := UU) (Lvl := ℕ) (Val := Elt F) (τ := τ) osem c ∗ unscopedSems0 c)
    ⊢ (iprop(copyVals c ∗ grouped fun p => semVal (pcell c p) 0) : sProp 𝕄) := by
  rw [ownSems0_flat, unscopedSems0_eq]
  unfold copyVals
  iintro ⟨⟨C0, C1, C2, C3, C4, H00, H01, H02, H10, H11, H12, H20, H21, H22, H30, H31, H32⟩, Hn⟩
  isplitl [C0 C1 C2 C3 C4]
  · isplitl [C0]; · iexact C0
    isplitl [C1]; · iexact C1
    isplitl [C2]; · iexact C2
    isplitl [C3] <;> iassumption
  isplitl [Hn]; · iexact Hn
  isplitl [H00 H01 H02]
  · isplitl [H00]; · iexact H00
    isplitl [H01] <;> iassumption
  isplitl [H10 H11 H12]
  · isplitl [H10]; · iexact H10
    isplitl [H11] <;> iassumption
  isplitl [H20 H21 H22]
  · isplitl [H20]; · iexact H20
    isplitl [H21] <;> iassumption
  isplitl [H30]; · iexact H30
  isplitl [H31] <;> iassumption

omit [FloatOps F] [Named F] in
theorem sems_join : (iprop(copyVals c ∗ grouped fun p => semVal (pcell c p) 0) : sProp 𝕄)
    ⊢ iprop(Pipeline.ownSems0 (Ix := Unit) (Name := ℕ) (U := UU) (Lvl := ℕ) (Val := Elt F) (τ := τ) osem c ∗ unscopedSems0 c) := by
  rw [ownSems0_flat, unscopedSems0_eq]
  unfold copyVals
  iintro ⟨⟨C0, C1, C2, C3, C4⟩, Hn, ⟨H00, H01, H02⟩, ⟨H10, H11, H12⟩, ⟨H20, H21, H22⟩, H30, H31, H32⟩
  isplitr [Hn]
  · isplitl [C0]; · iexact C0
    isplitl [C1]; · iexact C1
    isplitl [C2]; · iexact C2
    isplitl [C3]; · iexact C3
    isplitl [C4]; · iexact C4
    isplitl [H00]; · iexact H00
    isplitl [H01]; · iexact H01
    isplitl [H02]; · iexact H02
    isplitl [H10]; · iexact H10
    isplitl [H11]; · iexact H11
    isplitl [H12]; · iexact H12
    isplitl [H20]; · iexact H20
    isplitl [H21]; · iexact H21
    isplitl [H22]; · iexact H22
    isplitl [H30]; · iexact H30
    isplitl [H31] <;> iassumption
  iexact Hn

/-! ## The tokens -/

def exCells : Finset (GSem nD τ sig) := Finset.univ.map ⟨fun x : Dev nD × PK => pcell x.1 x.2, fun x y h => Prod.ext (pcell_inj h).1 (pcell_inj h).2⟩

/-- The duties of a device's own cells: three of its barrier, one of every other. -/
def dutyAt (k : Fin 5) (j : Fin 3) : PK × Fin 3 := match k with
  | 0 => (none, j)
  | 1 => (some (0, j), 0)
  | 2 => (some (1, j), 0)
  | 3 => (some (2, j), 0)
  | 4 => (some (3, j), 0)

theorem dutyAt_injective : ∀ x y : Fin 5 × Fin 3, dutyAt x.1 x.2 = dutyAt y.1 y.2 → x = y := by decide

def tokenOf (x : Dev nD × Fin 5 × Fin 3) : GSem nD τ sig × ℕ × Fin 3 :=
  (pcell x.1 (dutyAt x.2.1 x.2.2).1, 0, (dutyAt x.2.1 x.2.2).2)
theorem tokenOf_injective : Function.Injective tokenOf := fun x y h => by
  have h1 := pcell_inj (congrArg Prod.fst h)
  have h2 : (dutyAt x.2.1 x.2.2).2 = (dutyAt y.2.1 y.2.2).2 := congrArg (fun z => z.2.2) h
  exact Prod.ext h1.1 (dutyAt_injective x.2 y.2 (Prod.ext h1.2 h2))

def exToks : Finset (GSem nD τ sig × ℕ × Fin 3) := Finset.univ.map ⟨tokenOf, tokenOf_injective⟩

def u₀ : UU := (initOf (Pipeline.cells cfgs cellOf_inj) (Pipeline.launchToks cfgs cellOf_inj), initOf exCells exToks, 1)

/-- The tokens of a device's own cells. -/
def ownToks : sProp 𝕄 :=
  iprop(three (fun j => tok c none j) ∗ three (fun j => tok c (some (0, j)) 0) ∗ three (fun j => tok c (some (1, j)) 0)
    ∗ three (fun j => tok c (some (2, j)) 0) ∗ three (fun j => tok c (some (3, j)) 0))

omit [FloatOps F] [Named F] in
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- What is dealt to a device. -/
def dealt : sProp 𝕄 :=
  iprop((bigSep Finset.univ fun p : PK => roundState ER (sched P O) (pcell c p) 0)
    ∗ (bigSep Finset.univ fun p : PK => iprop(at_ c p 0 ∗ reached (ER : Emb UB 𝕄) (pcell c p) 0)) ∗ ownToks c)

omit [FloatOps F] [Named F] in
theorem fund_exchange : BI.own ((ER : Emb UB 𝕄) (initOf exCells exToks)) ⊢ (|==> bigSep Finset.univ (dealt P O) : sProp 𝕄) := by
  have hX (Φ : GSem nD τ sig → sProp 𝕄) : bigSep exCells Φ = bigSep Finset.univ fun c : Dev nD => bigSep Finset.univ fun p : PK => Φ (pcell c p) := by
    unfold exCells; rw [bigSep_map, bigSep_univ_prod]; rfl
  have hT : bigSep exToks (fun x => (dutyTok ER x.1 x.2.1 x.2.2 : sProp 𝕄)) = bigSep Finset.univ fun c : Dev nD => ownToks c := by
    unfold exToks; rw [bigSep_map, bigSep_univ_prod]
    exact bigSep_congr fun c _ => by
      rw [bigSep_univ_prod, bigSep_five, bigSep_three, bigSep_three, bigSep_three, bigSep_three, bigSep_three]; rfl
  iintro HX
  imod (Rounds.fund ER (sched P O) exCells exToks) $$ HX with ⟨Hst, Hr, Hat, Htok⟩
  imodintro
  ihave Hst' := (Entails.of_eq (hX fun g => roundState ER (sched P O) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- What a device starts the exchange with. -/
def joined : sProp 𝕄 := iprop(∃ K, recs P O K ∗ copyVals c ∗ places c 0 ∗ myToks c)

omit [FloatOps F] [Named F] in
theorem core_alloc :
    iprop(Pipeline.ownSems0 (Ix := Unit) (Name := ℕ) (U := UU) (Lvl := ℕ) (Val := Elt F) (τ := τ) osem c ∗ unscopedSems0 c ∗ dealt P O c)
      ⊢ |={Set.univ}=> iprop((bigSep Finset.univ fun p : PK => iprop(∃ κ : ℕ, cellInv ER (sched P O) κ (pcell c p)))
          ∗ (bigSep Finset.univ fun p : PK => iprop(at_ c p 0 ∗ reached (ER : Emb UB 𝕄) (pcell c p) 0)) ∗ ownToks c ∗ copyVals c) := by
  unfold dealt
  iintro ⟨Hos, Hus, Hst, Hat, Htok⟩
  ihave ⟨Hc, Hv⟩ := (sems_split (F := F) c) $$ [Hos Hus]
  · isplitl [Hos] <;> iassumption
  ihave Hv := (grouped_cells (F := F) fun p => semVal (pcell c p) 0) $$ Hv
  imod (show iprop((bigSep Finset.univ fun p : PK => semVal (pcell c p) 0) ∗ bigSep Finset.univ fun p : PK => roundState ER (sched P O) (pcell c p) 0)
      ⊢ (|={Set.univ}=> bigSep Finset.univ fun p : PK => iprop(∃ κ : ℕ, cellInv ER (sched P O) κ (pcell c p)) : sProp 𝕄) from by
        rw [← bigSep_sep']
        exact BIBase.Entails.trans (sepMono fun p => (Rounds.body_intro ER (sched P O) (pcell c p)).trans inv_alloc) (bigSep_fupd _ _)) $$ [Hv Hst] with Hinv
  · isplitl [Hv] <;> iassumption
  imodintro
  isplitl [Hinv]; · iexact Hinv
  isplitl [Hat]; · iexact Hat
  isplitl [Htok]; · iexact Htok
  iexact Hc

omit [FloatOps F] [Named F] in
/-- The tokens, each to the device that pays its duty. -/
theorem toks_around : (bigSep Finset.univ fun c : Dev nD => (ownToks c : sProp 𝕄)) ⊢ bigSep Finset.univ fun c : Dev nD => myToks c := by
  unfold ownToks myToks
  simp only [bigSep_sep']
  rw [bigSep_univ_equiv (turn 0) (fun c : Dev nD => (tok c none 0 : sProp 𝕄)),
    bigSep_univ_equiv (turn 1) (fun c : Dev nD => (tok c none 1 : sProp 𝕄)),
    bigSep_univ_equiv (turn 2) (fun c : Dev nD => (tok c none 2 : sProp 𝕄)),
    bigSep_univ_equiv (turn 0) (fun c : Dev nD => (tok c (some (1, 2)) 0 : sProp 𝕄)),
    bigSep_univ_equiv (turn 1) (fun c : Dev nD => (tok c (some (1, 1)) 0 : sProp 𝕄)),
    bigSep_univ_equiv (turn 2) (fun c : Dev nD => (tok c (some (1, 0)) 0 : sProp 𝕄)),
    bigSep_univ_equiv (turn 0) (fun c : Dev nD => (tok c (some (3, 2)) 0 : sProp 𝕄)),
    bigSep_univ_equiv (turn 1) (fun c : Dev nD => (tok c (some (3, 1)) 0 : sProp 𝕄)),
    bigSep_univ_equiv (turn 2) (fun c : Dev nD => (tok c (some (3, 0)) 0 : sProp 𝕄))]
  iintro ⟨⟨Hn0, Hn1, Hn2⟩, ⟨H00, H01, H02⟩, ⟨H10, H11, H12⟩, ⟨H20, H21, H22⟩, H30, H31, H32⟩
  isplitl [Hn0]; · iexact Hn0
  isplitl [Hn1]; · iexact Hn1
  isplitl [Hn2]; · iexact Hn2
  isplitl [H00 H01 H02]
  · isplitl [H00]; · iexact H00
    isplitl [H01] <;> iassumption
  isplitl [H10 H11 H12]
  · isplitl [H12]; · iexact H12
    isplitl [H11]; · iexact H11
    iexact H10
  isplitl [H20 H21 H22]
  · isplitl [H20]; · iexact H20
    isplitl [H21] <;> iassumption
  isplitl [H32]; · iexact H32
  isplitl [H31]; · iexact H31
  iexact H30

omit [FloatOps F] [Named F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] [Named F] in
theorem regroup :
    (bigSep Finset.univ fun c : Dev nD => iprop((bigSep Finset.univ fun p : PK => iprop(∃ κ : ℕ, cellInv ER (sched P O) κ (pcell c p)))
          ∗ (bigSep Finset.univ fun p : PK => iprop(at_ c p 0 ∗ reached (ER : Emb UB 𝕄) (pcell c p) 0)) ∗ ownToks c ∗ copyVals c) : sProp 𝕄)
      ⊢ bigSep Finset.univ (joined P O) := by
  rw [bigSep_sep', bigSep_sep', bigSep_sep', ← bigSep_univ_prod (fun x : Dev nD × PK => iprop(∃ κ : ℕ, cellInv ER (sched P O) κ (pcell x.1 x.2))),
    bigSep_congr (s := Finset.univ) (fun (c : Dev nD) _ => bigSep_sep' Finset.univ (fun p : PK => (at_ c p 0 : sProp 𝕄)) (fun p => reached (ER : Emb UB 𝕄) (pcell c p) 0)),
    bigSep_sep', ← bigSep_univ_prod (fun x : Dev nD × PK => (reached (ER : Emb UB 𝕄) (pcell x.1 x.2) 0 : sProp 𝕄))]
  iintro ⟨HI, ⟨Hat, #HR⟩, Htok, Hc⟩
  ihave HK := (BI.bigSep_exists_pi Finset.univ (fun (x : Dev nD × PK) (κ : ℕ) => (cellInv ER (sched P O) κ (pcell x.1 x.2) : sProp 𝕄))) $$ HI
  icases HK with ⟨%K, #HI⟩
  ihave Htk := (toks_around (F := F)) $$ Htok
  iapply (bigSep_with (R := recs P O K) (Φ := fun c => iprop((bigSep Finset.univ fun p : PK => at_ c p 0) ∗ myToks c ∗ copyVals c)) fun c _ => by
    unfold joined places
    iintro ⟨#HR, Hat, Ht, Hc⟩
    iexists K
    isplitr; · iexact HR
    isplitl [Hc]; · iexact Hc
    isplitl [Hat]; · iapply (cells_grouped (F := F) fun p => at_ c p 0); iexact Hat
    iexact Ht)
  isplitr
  · unfold recs; isplitl; · iexact HI
    iexact HR
  · simp only [bigSep_sep']
    isplitl [Hat]; · iexact Hat
    isplitl [Htk]; · iexact Htk
    iexact Hc

omit [FloatOps F] [Named F] in
theorem glob : (bigSep Finset.univ fun c => iprop(Pipeline.ownSems0 (Ix := Unit) (Name := ℕ) (U := UU) (Lvl := ℕ) (Val := Elt F) (τ := τ) osem c
      ∗ unscopedSems0 c ∗ dealt P O c) : sProp 𝕄)
    ⊢ |={Set.univ}=> bigSep Finset.univ (joined P O) :=
  ((bigSep_mono fun c _ => core_alloc P O c).trans (bigSep_fupd _ _)).trans (BI.fupd_mono (regroup P O))

/-! ## The units a device may wait for -/

theorem debt_sum (x : Fin 3 × PK × ℕ) (p : PK) : ∑ d, debt d x (pcell c p) () = if x.2.1 = p then x.2.2 else 0 := by
  have h : ∀ d, debt d x (pcell c p) () = if d = far (rev x.1) c then (if x.2.1 = p then x.2.2 else 0) else 0 := by
    intro d
    rw [tallyAt_apply]
    by_cases hd : d = far (rev x.1) c
    · subst hd
      rw [far_rev, if_pos rfl]
      by_cases hp : x.2.1 = p
      · rw [if_pos ⟨by rw [hp], rfl⟩, if_pos hp]
      · rw [if_neg fun h => hp (pcell_inj h.1).2.symm, if_neg hp]
    · rw [if_neg fun h => hd (by rw [(pcell_inj h.1).1, rev_far]), if_neg hd]
  rw [Finset.sum_congr rfl fun d _ => h d, Finset.sum_ite_eq' Finset.univ (far (rev x.1) c) fun _ => _, if_pos (Finset.mem_univ _)]

theorem debts_sum (p : PK) (l : List (Fin 3 × PK × ℕ)) :
    ∑ d, sumOf d l (pcell c p) () = (l.map fun x => if x.2.1 = p then x.2.2 else 0).sum := by
  induction l with
  | nil => exact Finset.sum_eq_zero fun _ _ => rfl
  | cons x l ih =>
    rw [List.map_cons, List.sum_cons, ← ih, ← debt_sum c x p, add_comm, ← Finset.sum_add_distrib]
    rfl

theorem launch_units (p : PK) : tallyOn (pcell c p) (launchCredit (Pipeline.owing (owed 0)) 0 (pcell c p))
    = (tallyAt (pcell c p) () (debts.map fun x => if x.2.1 = p then x.2.2 else 0).sum : CellTallies nD τ sig Unit) := by
  unfold tallyAt; refine congrArg _ (Finsupp.ext fun u => ?_); cases u
  rw [Pipeline.launchCredit_owing, Finsupp.single_eq_same]
  exact debts_sum c p debts

theorem units_none : (debts.map fun x => if x.2.1 = (none : PK) then x.2.2 else 0).sum = 3 := by simp [debts]
theorem units_recvA (r : Fin 3) : (debts.map fun x => if x.2.1 = (some (1, r) : PK) then x.2.2 else 0).sum = N := by
  fin_cases r <;> simp [debts]
theorem units_recvB (r : Fin 3) : (debts.map fun x => if x.2.1 = (some (3, r) : PK) then x.2.2 else 0).sum = N := by
  fin_cases r <;> simp [debts]

omit [FloatOps F] [Named F] in
theorem creds_intro : (Pipeline.launchCred (owed 0) c : sProp 𝕄) ⊢ creds c := by
  have h1 : (Pipeline.launchCred (owed 0) c : sProp 𝕄)
      ⊢ bigSep Finset.univ fun p : PK => cred (tallyOn (pcell c p) (launchCredit (Pipeline.owing (owed 0)) 0 (pcell c p))) := by
    unfold Pipeline.launchCred
    refine BIBase.Entails.trans (bigSep_subset (t := Finset.univ.map ⟨psem, psem_injective⟩) (Finset.subset_univ _)) ?_
    rw [bigSep_map]
    exact BIBase.Entails.rfl
  refine h1.trans ((cells_grouped _).trans ?_)
  simp only [launch_units, units_none, units_recvA, units_recvB]
  unfold creds
  iintro ⟨Hn, -, H1, -, H3⟩
  isplitl [Hn]; · iexact Hn
  isplitl [H1]; · iexact H1
  iexact H3

end Cert.KernelProof
-- ==== Proof.Launch.lean ====
/- The whole run: four devices, from any memory with every semaphore at zero. -/
module

public import proofs.«01_k».proof.Proof.Deal
public import Idealize.ShloMosaic.Lib.Pipeline.CollectiveSegs
public import Idealize.ShloMosaic.Lib.Pipeline.Quiescent

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The state the run starts from. -/
abbrev s₀ : MemSt nD τ sig (Elt F) := ⟨m, fun _ => 0, ρ⟩

/-- A device's arguments. -/
def argsOf (c : Dev nD) : Args F where
  x := m ((c : Thread nD τ).loc main_arg0)
  wq := m ((c : Thread nD τ).loc main_arg1)
  k := m ((c : Thread nD τ).loc main_arg2)
  v := m ((c : Thread nD τ).loc main_arg3)
  wo := m ((c : Thread nD τ).loc main_arg4)

/-- The result: the four chunks of rows, each summed over the devices. -/
@[irreducible] def result : Vec F S1x1024x1024 .bf16 := stacked (chunkOf (argsOf m))

theorem result_eq : result m = stacked (chunkOf (argsOf m)) := by unfold result; rfl

/-! ## Before and after the body -/

def start (c : Dev nD) : sProp 𝕄 :=
  iprop(joined (partFor (argsOf m)) (chunkOf (argsOf m)) c ∗ creds c ∗ levAts L lv ∗ args c (argsOf m c))
def Φ₀ (c : Dev nD) : sProp 𝕄 := iprop(start m c ∗ bufs c)
def Φ₁ (c : Dev nD) : sProp 𝕄 :=
  iprop(args c (argsOf m c) ∗ bufs c ∗ copyVals c ∗ grouped fun p => semVal (pcell c p) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => result m
  Φ t := match t with
    | ⟨0, _⟩ => Φ₀ m c
    | ⟨_ + 1, _⟩ => Φ₁ m c
  q _ := fullShare
  owed t := match t with
    | ⟨0, _⟩ => owed 0 c
    | ⟨_ + 1, _⟩ => 0

/-- Every cell closed. -/
theorem close_all (P : Dev nD → Dev nD → Vec F S256x1024 .bf16) (O : Dev nD → Vec F S256x1024 .bf16) (K : Dev nD × PK → ℕ) (c : Dev nD) :
    iprop(recs P O K ∗ places c 1) ⊢ (iprop(|={Set.univ}=> grouped fun p => semVal (pcell c p) 0) : sProp 𝕄) := by
  unfold places
  exact BIBase.Entails.trans (sep_mono_right (grouped_cells (fun p => at_ c p 1)))
    (BIBase.Entails.trans (bigSep_with (R := recs P O K) fun p _ => close P O K c p)
      (BIBase.Entails.trans (bigSep_fupd _ _) (BI.fupd_mono (cells_grouped fun p => semVal (pcell c p) 0))))

/-- The body, its first step spelt out. -/
theorem body_op : printedBody (F := F) = Prog.op .deviceId shortBody := body_eq.trans rfl

set_option maxRecDepth 4000 in
def bodyPre (c : Dev nD) : sProp 𝕄 :=
  iprop((dats m ρ 0 c).Φ t0_0.castSucc ∗ (dats m ρ 0 c).owesAt () t0_0.castSucc ∗ (∃ d, owns (c : Thread nD τ) (stage0_0 0) fullShare ((dats m ρ 0 c).before (0 : Fin 1) t0_0 d)))
set_option maxRecDepth 4000 in
def bodyPost (c : Dev nD) : sProp 𝕄 :=
  iprop((dats m ρ 0 c).Φ t0_0.succ ∗ (dats m ρ 0 c).owesAt () t0_0.succ ∗ owns (c : Thread nD τ) (stage0_0 0) fullShare ((dats m ρ 0 c).after (0 : Fin 1) t0_0))

set_option maxRecDepth 4000 in
theorem sound_body (c : Dev nD) : bodyPre m ρ c ⊢ run c (printedBody (F := F)) fun _ => bodyPost m ρ c := by
  rw [body_op]
  unfold bodyPre
  rw [show (dats m ρ 0 c).Φ t0_0.castSucc = Φ₀ m c from rfl]
  unfold Φ₀ start joined Dat.owesAt Pipeline.owesWithin
  rw [run, wp_deviceId]
  iintro ⟨⟨⟨⟨%K, #HR, Hs, Hp, Ht⟩, Hc, #HL, Ha⟩, Hb⟩, ⟨%W, -, HO⟩, ⟨%d, Hout⟩⟩
  ihave Hout := (owns_any c cc0_stg0_0 _) $$ Hout
  iapply (wp_fupd)
  iapply (run_last c (run_short c (argsOf m) K)) $$ [HO Hs Hp Ht Hc Ha Hb Hout]
  · isplitr; · iexact HR
    isplitr; · iexact HL
    isplitl [HO]; · unfold owing; iexists W; iexact HO
    isplitl [Ha]; · iexact Ha
    isplitl [Hb]; · iexact Hb
    isplitl [Hout]; · iexact Hout
    isplitl [Hs]; · iexact Hs
    isplitl [Hc]; · iexact Hc
    isplitl [Hp] <;> iassumption
  unfold owing
  iintro %_ ⟨⟨%W', HO⟩, Ha, Hb, Hout, Hs, Hp⟩
  imod (close_all (partFor (argsOf m)) (chunkOf (argsOf m)) K c) $$ [Hp] with Hz
  · isplitr; · iexact HR
    iexact Hp
  imodintro
  unfold bodyPost
  rw [show (dats m ρ 0 c).Φ t0_0.succ = Φ₁ m c from rfl]
  unfold Φ₁ Dat.owesAt Pipeline.owesWithin
  isplitl [Ha Hb Hs Hz]
  · isplitl [Ha]; · iexact Ha
    isplitl [Hb]; · iexact Hb
    isplitl [Hs] <;> iassumption
  isplitl [HO]
  · iexists W'
    isplitr; · ipureintro; exact fun _ _ => Or.inl trivial
    iexact HO
  rw [show (dats m ρ 0 c).after (0 : Fin 1) t0_0 = stacked (chunkOf (argsOf m)) from result_eq m]
  iapply (Entails.of_eq (owns_whole (c : Thread nD τ) cc0_stg0_0 fullShare _).symm); iexact Hout

set_option maxRecDepth 4000 in
theorem call_eq : defs₀ (F := F) .tc cfg0.body (cfg0.bodyArgs t0_0 (cfg0.slots t0_0)) = printedBody := rfl

set_option maxRecDepth 4000 in
theorem body_obligation (c : Dev nD) : BodyObligation (dats (F := F) m ρ 0 c) (defs₀ (F := F)) 𝒱₀ () Set.univ := fun t => by
  obtain rfl := fin_N0 t
  rw [bigSep_W0, bigSep_W0, call_eq]
  dsimp only
  have h := sound_body m ρ c
  unfold bodyPre bodyPost run at h
  with_reducible exact h

/-! ## The launch -/

theorem ownSemFacts : Pipeline.OwnSemFacts cfg0.spec osem := by decide
theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (owed 0) c ∗ prngReg c (ρ c) ∗ joined (partFor (argsOf m)) (chunkOf (argsOf m)) c)
      ⊢ |={Set.univ}=> iprop(start m c ∗ emp) := by
  rw [Pipeline.unscopedRestP_none, unscopedRest0_eq]
  iintro ⟨Ha, Hlev, Hcr, -, HG⟩
  ihave Hc := (creds_intro (F := F) c) $$ Hcr
  imodintro
  unfold start args
  isplitl
  · isplitl [HG]; · iexact HG
    isplitl [Hc]; · iexact Hc
    isplitl [Hlev]; · iexact Hlev
    iexact Ha
  · iempintro

omit [FloatOps F] [Named F] in
theorem bufs_eq (c : Dev nD) : (Pipeline.scopedRest (Ix := Unit) (Name := ℕ) (U := UU) (Lvl := ℕ) (Val := Elt F) cfg0.spec c : sProp 𝕄) ⊣⊢ bufs c := by
  rw [scopedRest0_eq]
  unfold bufs workBufs
  constructor
  · iintro ⟨Y0, Y1, Y2, Y3, Y4, Y5, Y6, Hr⟩
    isplitr [Hr]
    · isplitl [Y0]; · iexact Y0
      isplitl [Y1]; · iexact Y1
      isplitl [Y2]; · iexact Y2
      isplitl [Y3]; · iexact Y3
      isplitl [Y4]; · iexact Y4
      isplitl [Y5] <;> iassumption
    iexact Hr
  · iintro ⟨⟨Y0, Y1, Y2, Y3, Y4, Y5, Y6⟩, Hr⟩
    isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    iexact Hr

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (bufs_eq c).1; iexact Hr

/-- What a device keeps to the end: its arguments, and its barrier at zero. -/
def kept (c : Dev nD) : sProp 𝕄 := iprop(args c (argsOf m c) ∗ unscopedSems0 c)

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl]
  unfold Φ₁ kept
  iintro ⟨Ha, Hb, Hs, Hz⟩
  ihave ⟨Ho, Hu⟩ := (sems_join (F := F) c) $$ [Hs Hz]
  · isplitl [Hs] <;> iassumption
  isplitl [Ha Hu]
  · isplitl [Ha] <;> iassumption
  isplitl [Ho]; · iexact Ho
  iapply (bufs_eq c).2; iexact Hb

theorem below_stage (w : Fin cfg0.W) (s : Fin ((cfg0.win w).nbuf)) : ∀ x ∈ debts.drop 0, lvS (.dma ((cfg0.win w).sem s)) < lvS (psem x.2.1) := by
  revert s; revert w; decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (below_stage w s)
    · exact mayWait c _ 9 fun x hx => absurd hx List.not_mem_nil

/-! ## The end -/

/-- A device's arguments are as they were. -/
def Same (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)

theorem read_args (c : Dev nD) (s' : Phys nD τ sig (Elt F)) :
    iprop(args c (argsOf m c) ∗ SI s') ⊢ (iprop(⌜Same m c s'.mem⌝ ∗ SI s') : sProp 𝕄) := by
  unfold args
  iintro ⟨⟨H0, H1, H2, H3, H4⟩, HSI⟩
  icombine HSI H0 gives %h0
  icombine HSI H1 gives %h1
  icombine HSI H2 gives %h2
  icombine HSI H3 gives %h3
  icombine HSI H4 gives %h4
  isplitr
  · ipureintro
    exact ⟨Buf.eq_of_forall_mem_univ h0, Buf.eq_of_forall_mem_univ h1, Buf.eq_of_forall_mem_univ h2,
      Buf.eq_of_forall_mem_univ h3, Buf.eq_of_forall_mem_univ h4⟩
  iexact HSI

def finalA (c : Dev nD) (w : Fin cfg0.W) : Buf (Elt F) ((cfg0.win w).arr.view.loc (c : Thread nD τ)) := (dats m ρ 0 c).arrAt w cfg0.N

theorem flushed_eq (c : Dev nD) (t : Fin cfg0.N) :
    (dats m ρ 0 c).flushed 0 t = ((cfg0.win 0).blk t).view.read (Elt F) (result m) := by
  obtain rfl := fin_N0 t
  have ha : (dats m ρ 0 c).after 0 t0_0 = result m := rfl
  unfold Pipeline.Dat.flushed
  rw [ha]
  have hz : (fun a => win0_0.index t0_0 a * main_v1.ty.shape.size a) = fun _ => 0 := funext fun a => by fin_cases a <;> decide
  exact (Memref.read_access_unit_zero (Elt F) main_v1 hz (fun a => by rw [congrFun hz a]; simp) (result m)).symm

theorem cover (i : S1x1024x1024.Idx) : ∃ t : Fin cfg0.N, (cfg0.win 0).flush t = true ∧ i ∈ ((cfg0.win 0).blk t).view.set := by
  have h0 : (i 0 : Nat) < 1 := (i 0).isLt
  have h1 : (i 1 : Nat) < 1024 := (i 1).isLt
  have h2 : (i 2 : Nat) < 1024 := (i 2).isLt
  refine ⟨t0_0, flush0_0 _, ?_⟩
  show i ∈ ((View.whole main_v1).slice (win0_0.rect t0_0)).set
  rw [View.set_slice_whole, Rect.mem_set_unit]
  have e : win0_0.index t0_0 0 * win0_0.size 0 = 0 ∧ win0_0.xsize (grid0.coords t0_0) 0 = 1
      ∧ win0_0.index t0_0 1 * win0_0.size 1 = 0 ∧ win0_0.xsize (grid0.coords t0_0) 1 = 1024
      ∧ win0_0.index t0_0 2 * win0_0.size 2 = 0 ∧ win0_0.xsize (grid0.coords t0_0) 2 = 1024 := by decide +kernel
  intro a
  match a with
  | ⟨0, _⟩ => show win0_0.index t0_0 0 * win0_0.size 0 ≤ (i 0 : Nat) ∧ (i 0 : Nat) < win0_0.index t0_0 0 * win0_0.size 0 + win0_0.xsize (grid0.coords t0_0) 0
              rw [e.1, e.2.1]; omega
  | ⟨1, _⟩ => show win0_0.index t0_0 1 * win0_0.size 1 ≤ (i 1 : Nat) ∧ (i 1 : Nat) < win0_0.index t0_0 1 * win0_0.size 1 + win0_0.xsize (grid0.coords t0_0) 1
              rw [e.2.2.1, e.2.2.2.1]; omega
  | ⟨2, _⟩ => show win0_0.index t0_0 2 * win0_0.size 2 ≤ (i 2 : Nat) ∧ (i 2 : Nat) < win0_0.index t0_0 2 * win0_0.size 2 + win0_0.xsize (grid0.coords t0_0) 2
              rw [e.2.2.2.2.1, e.2.2.2.2.2]; omega

theorem finalA_eq (c : Dev nD) : finalA m ρ c 0 = result m :=
  (dats m ρ 0 c).arrAt_eq_of_cover 0 (result m) (fun t _ => flushed_eq m ρ c t) cover

/-- What holds at the end: on every device the result, the arguments as they were, and every semaphore at zero. -/
def AtEnd (r : PUnit × MemSt nD τ sig (Elt F)) : Prop :=
  (∀ c : Dev nD, r.2.mem ((c : Thread nD τ).loc main_v1) = result m ∧ Same m c r.2) ∧ r.2.sem = fun _ => 0

set_option maxRecDepth 8000 in
/-- Every run of the four devices ends, and ends so. -/
theorem run_main : θ_run defs (onTc (τ := τ) (main (F := F))) (s₀ m ρ) (AtEnd m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w; exact Nat.succ_pos _) (harr := arr_whole0) (hstage := stage_whole0) (hshare := share_eq m ρ)
    (hdistinct := winFacts0.arr_inj)
    (O₀ := owed 0) (howed₀ := fun _ => rfl) (howedN := fun _ => rfl)
    (L := L) (lv := lv) (hL := L_of_ne) (hwaits := waits m ρ)
    (G := dealt (partFor (argsOf m)) (chunkOf (argsOf m))) (G' := joined (partFor (argsOf m)) (chunkOf (argsOf m))) (u₀ := u₀)
    (hu₀ := by
      unfold u₀
      iintro Hu
      ihave H := (ownU_pair _ _) $$ Hu
      icases H with ⟨HP, HX⟩
      ihave HX := (Entails.of_eq (show (BI.own (embR (initOf exCells exToks, (1 : Counters))) : sProp 𝕄) = BI.own (ER (initOf exCells exToks)) from rfl)) $$ HX
      imod (fund_exchange (partFor (argsOf m)) (chunkOf (argsOf m))) $$ HX with HG
      imodintro
      isplitl [HP] <;> iassumption)
    (hglob := glob (partFor (argsOf m)) (chunkOf (argsOf m)))
    (hA := fun _ _ => rfl) (hpf := fun _ k => k.elim0)
    (X := start m) (Y := kept m) (Z := fun _ => iprop(emp))
    (hX := start_intro m ρ) (hin := phi0_intro m ρ) (hout := phi1_exit m ρ)
    (QY := fun c s => Same m c s ∧ ∀ sm : SemLoc sig, sm.isScoped .tc = false → s.sem ((c.tc : Thread nD τ), sm) = 0)
    (hY := fun c s' => by
      unfold kept
      iintro ⟨⟨Ha, Hu⟩, -, HSI⟩
      ihave ⟨%ha, HSI⟩ := (read_args m c s') $$ [Ha HSI]
      · isplitl [Ha] <;> iassumption
      imod (Pipeline.unscopedSems0_read (X := unscopedSems0 c) (c := c) fupd_intro s') $$ [Hu HSI] with ⟨%hz, HSI⟩
      · isplitl [Hu] <;> iassumption
      imodintro
      isplitr; · ipureintro; exact ⟨ha, hz⟩
      iexact HSI)
    (hQ := fun _ h hs => ⟨fun c => ⟨((h c).1 0).trans (finalA_eq m ρ c), (h c).2.2.1⟩, sem_eq_zero hs fun c => (h c).2.2.2⟩)

end Cert.KernelProof
-- ==== Proof.AsPrinted.lean ====
/- The program as printed, with its own mask constant, is the idealized one read at bit patterns. -/
module

public import proofs.«01_k».proof.Kernel
public import proofs.«01_k».proof.Proof.Gen.Kernel
public import proofs.«01_k».proof.Proof.Launch
public import Idealize.ShloMosaic.PureOps.BitExact

@[expose] public section

noncomputable section

namespace Cert.KernelProof

open Idealize.ShloMosaic Idealize.SL.Sem

/-- At bit patterns a named constant is the constant it was printed with. -/
local instance namedBits : Named Bits where
  named _ _ bits := Scalar.ofBits bits

theorem defs_same : (Cert.Kernel.defs (F := Bits) : Defs Cert.KernelIdeal.nD Cert.KernelIdeal.τ Cert.KernelIdeal.sig (Elt Bits) _) = Cert.KernelIdeal.defs (F := Bits) := by
  sl_kernel_rfl

/-- The printed program's run ends with its arguments as they were and every semaphore at zero. -/
theorem printed_frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ fun r =>
      (∀ c : Dev Cert.Kernel.nD, Same (F := Bits) m c r.2) ∧ r.2.sem = fun _ => 0 := by
  have h := (θ_run _ _ _).mono (fun _ (h : AtEnd (F := Bits) m _) => (⟨fun c => (h.1 c).2, h.2⟩ : (∀ c, Same m c _) ∧ _)) (run_main (F := Bits) m g)
  rw [← defs_same] at h
  exact h

end Cert.KernelProof
-- ==== Proof.Finite.lean ====
/- What the precondition says: the elements of `x`, of `Wq` and of the keys are real numbers. -/
module

public import proofs.«01_k».proof.Pre_finite_KernelIdeal
public import proofs.«01_k».proof.Pre_finite_ReferenceIdeal
public import Idealize.ShloMosaic.Lib.Pointwise

@[expose] public section

noncomputable section

namespace Cert.FiniteProof

open Idealize.ShloMosaic

/-- The kernel's precondition's shapes. -/
theorem kernelFacts : Cert.Pre_finite_KernelIdeal.Facts := ⟨by decide, by decide, by decide⟩
/-- The reference's precondition's shapes. -/
theorem referenceFacts : Cert.Pre_finite_ReferenceIdeal.Facts := ⟨by decide, by decide, by decide⟩

theorem ofBits_inf : Ideal.ofBits .f32 0x7F800000#32 = ⊤ := by simp [Ideal.ofBits, Ideal.ieee]

/-- The factor of the scores is a real number. -/
theorem scale_real : ∃ σ : ℝ, Ideal.ofBits .f32 0x3DB504F3#32 = (σ : EReal) := by
  simp only [Ideal.ofBits, Ideal.ieee]
  exact ⟨_, rfl⟩

/-- An extended real whose absolute value is less than infinity is a real number. -/
theorem real_of_abs {a : EReal} (h : max a (-a) < ⊤) : ∃ r : ℝ, a = (r : EReal) := by
  induction a using EReal.rec with
  | bot => simp at h
  | coe r => exact ⟨r, rfl⟩
  | top => simp at h

variable {s : Shape} (x : FVec Ideal s .f32)

/-- What one comparison of the precondition says. -/
theorem real_of_less (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1)
    (y : s.Idx) : ∃ r : ℝ, x y = (r : EReal) := by
  have hy := congrFun h y
  have hc : BitVec.ofBool (decide (max (x y) (-(x y)) < Ideal.ofBits .f32 0x7F800000#32)) = 1#1 := hy
  rw [ofBits_inf] at hc
  refine real_of_abs ?_
  by_contra hn
  rw [decide_eq_false hn] at hc
  exact absurd hc (by decide)

end Cert.FiniteProof
-- ==== Proof.Softmax.lean ====
/- Softmax over a row of keys of which some are masked out: one division after the weighted sum, or one division for
   each weight after the row's maximum is taken off. Sums over windows of keys. -/
module

public import Idealize.ShloMosaic.PureOps.Ideal.Laws

@[expose] public section

noncomputable section

namespace Cert.KernelProof

open Idealize.ShloMosaic
open scoped BigOperators

/-! ## Sums -/

/-- A sum of reals read as extended reals. -/
theorem coe_sum {ι : Type} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- A factor that is a real and not negative goes into a sum. -/
theorem sum_mul_coe {ι : Type} (S : Finset ι) (f : ι → EReal) {c : ℝ} (hc : 0 ≤ c) :
    (∑ j ∈ S, f j) * (c : EReal) = ∑ j ∈ S, f j * (c : EReal) := by
  classical
  induction S using Finset.induction_on with
  | empty => simp
  | insert a S ha ih =>
    rw [Finset.sum_insert ha, Finset.sum_insert ha,
      EReal.right_distrib_of_nonneg_of_ne_top (by exact_mod_cast hc) (EReal.coe_ne_top c), ih]

/-- The sum over a window of the positions is the sum over all positions, with the others left out. -/
theorem sum_window {M : Type} [AddCommMonoid M] {n N : ℕ} (b : ℕ) (hb : b + n ≤ N) (f : Fin N → M) :
    (∑ x : Fin n, f ⟨b + x.val, by have := x.isLt; omega⟩)
      = ∑ j : Fin N, if b ≤ j.val ∧ j.val < b + n then f j else 0 := by
  rw [← Finset.sum_filter]
  refine Finset.sum_bij' (fun x _ => (⟨b + x.val, by have := x.isLt; omega⟩ : Fin N))
    (fun j hj => (⟨j.val - b, by have := (Finset.mem_filter.mp hj).2; omega⟩ : Fin n)) ?_ ?_ ?_ ?_ ?_
  · intro x _
    exact Finset.mem_filter.mpr ⟨Finset.mem_univ _, by have := x.isLt; simp only; omega⟩
  · intro j _; exact Finset.mem_univ _
  · intro x _; apply Fin.ext; simp
  · intro j hj; apply Fin.ext
    have := (Finset.mem_filter.mp hj).2
    simp only; omega
  · intro x _; rfl

/-- A sum over a window of terms that are given outside of it as well, as zero. -/
theorem sum_window_of_zero {M : Type} [AddCommMonoid M] {n N : ℕ} (b : ℕ) (hb : b + n ≤ N) (f : Fin N → M)
    (h0 : ∀ j : Fin N, ¬ (b ≤ j.val ∧ j.val < b + n) → f j = 0) :
    (∑ x : Fin n, f ⟨b + x.val, by have := x.isLt; omega⟩) = ∑ j : Fin N, f j := by
  rw [sum_window b hb f]
  refine Finset.sum_congr rfl fun j _ => ?_
  split
  · rfl
  · exact (h0 j ‹_›).symm

/-! ## The two spellings of a masked softmax -/

section
variable {n : ℕ} (P : Fin n → Prop) [DecidablePred P] (s : Fin n → ℝ)

/-- A masked row of scores. -/
def maskedRow (j : Fin n) : EReal := if P j then (s j : EReal) else ⊥

/-- The row's maximum. -/
def rowMax : EReal := Finset.univ.fold max ⊥ (maskedRow P s)

theorem rowMax_real (hP : ∃ j, P j) : ∃ μ : ℝ, rowMax P s = (μ : EReal) := by
  obtain ⟨j, hj⟩ := hP
  have hle : (s j : EReal) ≤ rowMax P s :=
    (Finset.le_fold_max (s j : EReal)).mpr (Or.inr ⟨j, Finset.mem_univ _, by simp [maskedRow, hj]⟩)
  have hlt : rowMax P s < ⊤ := by
    refine (Finset.fold_max_lt (⊤ : EReal)).mpr ⟨by simp, fun i _ => ?_⟩
    unfold maskedRow; split
    · exact EReal.coe_lt_top _
    · simp
  refine ⟨(rowMax P s).toReal, (EReal.coe_toReal hlt.ne ?_).symm⟩
  intro hbot
  rw [hbot] at hle
  exact absurd (le_bot_iff.mp hle) (EReal.coe_ne_bot _)

/-- A weight with the maximum taken off. -/
theorem exp_shifted (μ : ℝ) (j : Fin n) :
    Ideal.exp (maskedRow P s j - (μ : EReal)) = (((if P j then Real.exp (s j) else 0) * Real.exp (-μ) : ℝ) : EReal) := by
  unfold maskedRow
  split
  · rw [← EReal.coe_sub, Ideal.exp_coe, ← Real.exp_add, sub_eq_add_neg]
  · rw [EReal.bot_sub, Ideal.exp_bot, zero_mul, EReal.coe_zero]

/-- A weight as it is. -/
theorem exp_masked (j : Fin n) :
    Ideal.exp (maskedRow P s j) = ((if P j then Real.exp (s j) else 0 : ℝ) : EReal) := by
  unfold maskedRow
  split
  · rw [Ideal.exp_coe]
  · rw [Ideal.exp_bot, EReal.coe_zero]

/-- The weighted sum of any values divided once is the sum weighted by the normalised weights. -/
theorem softmax_eq (hP : ∃ j, P j) (v : Fin n → EReal) :
    (∑ j, Ideal.exp (maskedRow P s j) * v j) * Ideal.div 1 (∑ j, Ideal.exp (maskedRow P s j))
      = ∑ j, v j * Ideal.div (Ideal.exp (maskedRow P s j - rowMax P s))
          (∑ j, Ideal.exp (maskedRow P s j - rowMax P s)) := by
  obtain ⟨μ, hμ⟩ := rowMax_real P s hP
  simp only [hμ, exp_shifted, exp_masked, ← coe_sum, ← Finset.sum_mul]
  have hpos : 0 < ∑ j, (if P j then Real.exp (s j) else 0) := by
    obtain ⟨j, hj⟩ := hP
    refine Finset.sum_pos' (fun i _ => ?_) ⟨j, Finset.mem_univ _, ?_⟩
    · split
      · exact (Real.exp_pos _).le
      · exact le_rfl
    · rw [if_pos hj]; exact Real.exp_pos _
  have hm := Real.exp_pos (-μ)
  rw [Ideal.div_coe hpos.ne', one_mul, sum_mul_coe _ _ (by positivity)]
  refine Finset.sum_congr rfl fun j _ => ?_
  rw [Ideal.div_coe (mul_pos hpos hm).ne', mul_comm _ (v j), mul_assoc, ← EReal.coe_mul, ← EReal.coe_mul]
  congr 2
  field_simp

end

end Cert.KernelProof
-- ==== Proof.Mask.lean ====
/- The keys that a query row attends to, and the masks' bits as statements about positions. -/
module

public import Idealize.ShloMosaic.PureOps

@[expose] public section

namespace Cert.KernelProof

open Idealize.ShloMosaic

/-- The keys that a query row attends to: those at most 128 away and the first 32; the first 32 rows attend to all. -/
def Near (i j : ℕ) : Prop := (i ≤ j + 128 ∧ j ≤ i + 128) ∨ j < 32 ∨ i < 32

instance (i j : ℕ) : Decidable (Near i j) := by unfold Near; infer_instance

/-- A sum of two words that hold naturals. -/
theorem addi_word (a b : ℕ) : IntOp.addi (BitVec.ofNat 32 a) (BitVec.ofNat 32 b) = BitVec.ofNat 32 (a + b) :=
  (BitVec.ofNat_add a b).symm

theorem toInt_word {a : ℕ} (ha : a < 2 ^ 20) : (BitVec.ofNat 32 a).toInt = (a : ℤ) := by
  rw [BitVec.toInt_eq_toNat_cond, BitVec.toNat_ofNat]; split <;> omega

/-- A word that holds a small natural against a literal. -/
theorem slt_word {a b : ℕ} (ha : a < 2 ^ 20) (hb : b < 2 ^ 20) :
    IntOp.cmpi .slt (BitVec.ofNat 32 a) (BitVec.ofNat 32 b) = 1#1 ↔ a < b := by
  simp only [IntOp.cmpi, BitVec.slt, toInt_word ha, toInt_word hb]
  by_cases h : a < b <;> simp [h]

theorem absi_sub_word {a b : ℕ} (ha : a < 2 ^ 20) (hb : b < 2 ^ 20) :
    IntOp.absi (IntOp.subi (BitVec.ofNat 32 a) (BitVec.ofNat 32 b)) = BitVec.ofNat 32 (max a b - min a b) := by
  have hs : (BitVec.ofNat 32 a - BitVec.ofNat 32 b).toNat = if b ≤ a then a - b else 2 ^ 32 + a - b := by
    rw [BitVec.toNat_sub, BitVec.toNat_ofNat, BitVec.toNat_ofNat]; split <;> omega
  unfold IntOp.absi IntOp.subi
  rw [BitVec.msb_eq_decide, hs]
  by_cases h : b ≤ a
  · rw [if_pos h, if_neg (by simp; omega)]
    apply BitVec.eq_of_toNat_eq
    rw [hs, if_pos h, BitVec.toNat_ofNat]; omega
  · rw [if_neg h, if_pos (by simp; omega)]
    apply BitVec.eq_of_toNat_eq
    rw [BitVec.toNat_neg, hs, if_neg h, BitVec.toNat_ofNat]; omega

/-- Two words that hold small naturals at most 128 apart. -/
theorem sle_word {a b : ℕ} (ha : a < 2 ^ 20) (hb : b < 2 ^ 20) :
    IntOp.cmpi .sle (IntOp.absi (IntOp.subi (BitVec.ofNat 32 a) (BitVec.ofNat 32 b))) 128#32 = 1#1
      ↔ a ≤ b + 128 ∧ b ≤ a + 128 := by
  rw [absi_sub_word ha hb]
  have h128 : (128#32).toInt = 128 := by decide
  simp only [IntOp.cmpi, BitVec.sle, toInt_word (show max a b - min a b < 2 ^ 20 by omega), h128]
  by_cases h : a ≤ b + 128 ∧ b ≤ a + 128
  · simp only [h, and_self, iff_true]
    rw [decide_eq_true (by omega)]; rfl
  · rw [decide_eq_false (by omega)]
    simp only [h, iff_false]; decide

theorem ori_bit (x y : BitVec 1) : IntOp.ori x y = 1#1 ↔ x = 1#1 ∨ y = 1#1 := by
  revert x y; decide

theorem andi_bit (x y : BitVec 1) : IntOp.andi x y = 1#1 ↔ x = 1#1 ∧ y = 1#1 := by
  revert x y; decide

end Cert.KernelProof
-- ==== Proof.Values.lean ====
/- What one head's attention is at an element, over the extended reals: for every chunk the sum over all keys that the
   row attends to. -/
module

public import proofs.«01_k».proof.Proof.Attend
public import proofs.«01_k».proof.Proof.Softmax
public import proofs.«01_k».proof.Proof.Mask
public import Idealize.ShloMosaic.Lib.Pointwise

@[expose] public section

noncomputable section

namespace Cert.KernelProof

open Cert.KernelIdeal Cert.KernelIdeal.Gen
open Idealize.ShloMosaic
open scoped BigOperators

/-! ## Rectangles and masks at an index -/

/-- Where a rectangle of a matrix puts an element. -/
theorem emb_ix2 {s0 s1 n0 n1 : ℕ} {off : Fin 2 → ℕ} {inb} (a b : ℕ) (h0 : off 0 = a) (h1 : off 1 = b)
    (x : Fin n0) (y : Fin n1) (hx : a + x.val < s0) (hy : b + y.val < s1) :
    (Rect.unit (s := ⟨2, ![s0, s1]⟩) off ![n0, n1] inb).emb (ix2 x y) = ix2 ⟨a + x.val, hx⟩ ⟨b + y.val, hy⟩ := by
  subst h0 h1
  funext i; apply Fin.ext
  match i with
  | ⟨0, _⟩ => exact congrArg (off 0 + ·) (Nat.one_mul _)
  | ⟨1, _⟩ => exact congrArg (off 1 + ·) (Nat.one_mul _)

/-- Where a rectangle of one head's rows puts an element. -/
theorem emb_ix3 {s0 s1 s2 n1 : ℕ} {off : Fin 3 → ℕ} {inb} (h : Fin s0) (a : ℕ) (h0 : off 0 = h.val) (h1 : off 1 = a)
    (h2 : off 2 = 0) (x : Fin n1) (y : Fin s2) (hx : a + x.val < s1) :
    (Rect.unit (s := ⟨3, ![s0, s1, s2]⟩) off ![1, n1, s2] inb).emb (ix3 0 x y) = ix3 h ⟨a + x.val, hx⟩ y := by
  subst h1
  funext i; apply Fin.ext
  match i with
  | ⟨0, _⟩ => show off 0 + 1 * 0 = h.val; omega
  | ⟨1, _⟩ => exact congrArg (off 1 + ·) (Nat.one_mul _)
  | ⟨2, _⟩ => show off 2 + 1 * y.val = y.val; omega

theorem winMask_ix (r : Fin 224) (x : Fin 512) : winMask (ix2 r x) = 1#1 ↔ Near (32 + r.val) (0 + x.val) := by
  pointwise [winMask]
  rw [ori_bit, addi_word, addi_word, addi_word, sle_word (by omega) (by omega), slt_word (by omega) (by omega)]
  unfold Near; omega

theorem bandMask_ix {w : BitVec 32} {o b : ℕ} (hw : w = BitVec.ofNat 32 o) (ho : 32 ≤ o ∧ o < 1024)
    (hb : base w = BitVec.ofNat 32 b) (hb' : b < 1024) (r : Fin 256) (x : Fin 512) :
    bandMask w (ix2 r x) = 1#1 ↔ Near (o + r.val) (b + x.val) := by
  pointwise [bandMask]
  rw [hb, hw, ori_bit, addi_word, addi_word, addi_word, sle_word (by omega) (by omega), slt_word (by omega) (by omega)]
  unfold Near; omega

theorem headMask_ix {w : BitVec 32} (hb : Scalar.cmpi .ne (base w) 0#32 = 1#1) (r : Fin 256) (x : Fin 128) :
    headMask w (ix2 r x) = 1#1 ↔ 0 + x.val < 32 := by
  pointwise [headMask]
  rw [hb, andi_bit, slt_word (by omega) (by omega)]
  simp

theorem mask_named : (Named.named κ "mask" 0xCE6E6B28#32 : Ideal .f32) = (⊥ : EReal) := rfl

/-! ## One head at an element -/

/-- Query row `i` of a head's score against key `j`. -/
def scoreOf (Q : Vec Ideal S1024x1024 .bf16) (K : Vec Ideal S8x1024x128 .bf16) (h : Fin 8) (i j : Fin 1024) : EReal :=
  ∑ e : Fin 128, Q (ix2 i ⟨128 * h.val + e.val, by omega⟩) * K (ix3 h j e)

/-- A key's weight before it is normalised. -/
def weightOf (i : ℕ) (s : Fin 1024 → EReal) (j : Fin 1024) : EReal := Ideal.exp (if Near i j.val then s j else ⊥)

/-- The values weighted and divided once. -/
def headOut (i : ℕ) (s v : Fin 1024 → EReal) : EReal :=
  (∑ j, weightOf i s j * v j) * Ideal.div 1 (∑ j, weightOf i s j)

/-- A window's masked weights, each times a value, summed: the sum over all keys that the mask and the window let in. -/
theorem sum_masked {n : ℕ} (b : ℕ) (hb : b + n ≤ 1024) (p : ℕ → Prop) [DecidablePred p] (s v : Fin 1024 → EReal)
    (m : Fin n → BitVec 1) (S W : Fin n → EReal) (hm : ∀ x : Fin n, m x = 1#1 ↔ p (b + x.val))
    (hp : ∀ j, j < 1024 → p j → b ≤ j ∧ j < b + n)
    (hS : ∀ x : Fin n, S x = s ⟨b + x.val, by omega⟩) (hW : ∀ x : Fin n, W x = v ⟨b + x.val, by omega⟩) :
    (∑ x, Ideal.exp (Scalar.select (m x) (S x) ⊥) * W x)
      = ∑ j : Fin 1024, Ideal.exp (if p j.val then s j else ⊥) * v j := by
  rw [← sum_window_of_zero b hb (fun j => Ideal.exp (if p j.val then s j else ⊥) * v j)
    (fun j hj => by rw [if_neg fun h => hj (hp j.val j.isLt h), Ideal.exp_bot, zero_mul])]
  refine Finset.sum_congr rfl fun x _ => ?_
  rw [hS, hW]
  by_cases h : p (b + x.val)
  · rw [Scalar.select_of_eq_one ((hm x).mpr h), if_pos h]
  · rw [Scalar.select_of_ne_one (fun h' => h ((hm x).mp h')), if_neg h]

/-- The same without values. -/
theorem sum_masked_one {n : ℕ} (b : ℕ) (hb : b + n ≤ 1024) (p : ℕ → Prop) [DecidablePred p] (s : Fin 1024 → EReal)
    (m : Fin n → BitVec 1) (S : Fin n → EReal) (hm : ∀ x : Fin n, m x = 1#1 ↔ p (b + x.val))
    (hp : ∀ j, j < 1024 → p j → b ≤ j ∧ j < b + n) (hS : ∀ x : Fin n, S x = s ⟨b + x.val, by omega⟩) :
    (∑ x, Ideal.exp (Scalar.select (m x) (S x) ⊥)) = ∑ j : Fin 1024, Ideal.exp (if p j.val then s j else ⊥) := by
  simpa only [mul_one] using sum_masked b hb p s (fun _ => 1) m S (fun _ => 1) hm hp hS (fun _ => rfl)

/-- Keys in two disjoint sets, summed apart. -/
theorem sum_two (p₁ p₂ p : ℕ → Prop) [DecidablePred p₁] [DecidablePred p₂] [DecidablePred p] (s v : Fin 1024 → EReal)
    (hor : ∀ j, j < 1024 → (p j ↔ p₁ j ∨ p₂ j)) (hand : ∀ j, ¬ (p₁ j ∧ p₂ j)) :
    (∑ j : Fin 1024, Ideal.exp (if p₁ j.val then s j else ⊥) * v j)
        + (∑ j : Fin 1024, Ideal.exp (if p₂ j.val then s j else ⊥) * v j)
      = ∑ j : Fin 1024, Ideal.exp (if p j.val then s j else ⊥) * v j := by
  rw [← Finset.sum_add_distrib]
  refine Finset.sum_congr rfl fun j _ => ?_
  have h := hor j.val j.isLt
  have h' := hand j.val
  by_cases h1 : p₁ j.val <;> by_cases h2 : p₂ j.val <;> simp_all

/-- The same without values. -/
theorem sum_two_one (p₁ p₂ p : ℕ → Prop) [DecidablePred p₁] [DecidablePred p₂] [DecidablePred p] (s : Fin 1024 → EReal)
    (hor : ∀ j, j < 1024 → (p j ↔ p₁ j ∨ p₂ j)) (hand : ∀ j, ¬ (p₁ j ∧ p₂ j)) :
    (∑ j : Fin 1024, Ideal.exp (if p₁ j.val then s j else ⊥)) + (∑ j : Fin 1024, Ideal.exp (if p₂ j.val then s j else ⊥))
      = ∑ j : Fin 1024, Ideal.exp (if p j.val then s j else ⊥) := by
  simpa only [mul_one] using sum_two p₁ p₂ p s (fun _ => 1) hor hand

set_option maxRecDepth 16384 in
theorem globalVal_of (q : Vec Ideal S32x128 .bf16) (k v : Vec Ideal S1x1024x128 .bf16) (r : Fin 32) (d : Fin 128)
    (s w : Fin 1024 → EReal) (hs : ∀ j, (∑ e : Fin 128, q (ix2 r e) * k (ix3 0 j e)) = s j)
    (hv : ∀ j, v (ix3 0 j d) = w j) (i : ℕ) (hi : i = r.val) :
    globalVal q k v (ix2 r d) = headOut i s w := by
  have hw : ∀ j : Fin 1024, weightOf i s j = Ideal.exp (s j) := fun j => by
    unfold weightOf; rw [if_pos (show Near i j.val from Or.inr (Or.inr (by omega)))]
  simp only [headOut, hw, ← hs, ← hv]
  pointwise [globalVal, globalExp, recip]

set_option maxRecDepth 16384 in
theorem winVal_of (q : Vec Ideal S224x128 .bf16) (k v : Vec Ideal S1x512x128 .bf16) (r : Fin 224) (d : Fin 128)
    (s w : Fin 1024 → EReal) (hs : ∀ x : Fin 512, (∑ e : Fin 128, q (ix2 r e) * k (ix3 0 x e)) = s ⟨0 + x.val, by omega⟩)
    (hv : ∀ x : Fin 512, v (ix3 0 x d) = w ⟨0 + x.val, by omega⟩) (i : ℕ) (hi : i = 32 + r.val) :
    winVal q k v (ix2 r d) = headOut i s w := by
  have hm : ∀ x : Fin 512, winMask (ix2 r x) = 1#1 ↔ Near i (0 + x.val) := fun x => hi ▸ winMask_ix r x
  have hp : ∀ j, j < 1024 → Near i j → 0 ≤ j ∧ j < 0 + 512 := fun j _ h => by unfold Near at h; omega
  simp only [headOut, weightOf]
  rw [← sum_masked 0 (by omega) (Near i) s w (fun x => winMask (ix2 r x)) _ _ hm hp hs hv,
    ← sum_masked_one 0 (by omega) (Near i) s (fun x => winMask (ix2 r x)) _ hm hp hs]
  pointwise [winVal, winExp, recip]
  rfl

set_option maxRecDepth 16384 in
theorem laterVal_of (w : BitVec 32) (q : Vec Ideal S256x128 .bf16) (k : Vec Ideal S1x512x128 .bf16)
    (kg : Vec Ideal S1x128x128 .bf16) (v : Vec Ideal S1x512x128 .bf16) (vg : Vec Ideal S1x128x128 .bf16)
    (r : Fin 256) (d : Fin 128) (o b : ℕ) (ho : w = BitVec.ofNat 32 o) (hb : base w = BitVec.ofNat 32 b)
    (hob : 256 ≤ o ∧ 128 ≤ b ∧ b + 128 ≤ o ∧ b + 512 ≤ 1024 ∧ (o + 384 ≤ b + 512 ∨ b + 512 = 1024 ∧ o + 256 ≤ 1024))
    (s u : Fin 1024 → EReal)
    (hs : ∀ x : Fin 512, (∑ e : Fin 128, q (ix2 r e) * k (ix3 0 x e)) = s ⟨b + x.val, by omega⟩)
    (hsg : ∀ x : Fin 128, (∑ e : Fin 128, q (ix2 r e) * kg (ix3 0 x e)) = s ⟨0 + x.val, by omega⟩)
    (hv : ∀ x : Fin 512, v (ix3 0 x d) = u ⟨b + x.val, by omega⟩)
    (hvg : ∀ x : Fin 128, vg (ix3 0 x d) = u ⟨0 + x.val, by omega⟩) :
    laterVal w q k kg v vg (ix2 r d) = headOut (o + r.val) s u := by
  have hm : ∀ x : Fin 512, bandMask w (ix2 r x) = 1#1
      ↔ (fun j => Near (o + r.val) j ∧ b ≤ j ∧ j < b + 512) (b + x.val) := fun x =>
    (bandMask_ix ho (by omega) hb (by omega) r x).trans ⟨fun h => ⟨h, by omega, by omega⟩, fun h => h.1⟩
  have hbn : Scalar.cmpi .ne (base w) 0#32 = 1#1 := by
    have h0 : (BitVec.ofNat 32 b != 0#32) = true := by
      rw [bne_iff_ne]; intro h
      have := congrArg BitVec.toNat h
      rw [BitVec.toNat_ofNat, BitVec.toNat_ofNat] at this; omega
    rw [hb]; show BitVec.ofBool (BitVec.ofNat 32 b != 0#32) = 1#1
    rw [h0]; rfl
  have hg : ∀ x : Fin 128, headMask w (ix2 r x) = 1#1 ↔ (fun j => j < 32) (0 + x.val) := headMask_ix hbn r
  have hp : ∀ j, j < 1024 → (fun j => Near (o + r.val) j ∧ b ≤ j ∧ j < b + 512) j → b ≤ j ∧ j < b + 512 :=
    fun j _ h => h.2
  have hpg : ∀ j, j < 1024 → (fun j => j < 32) j → 0 ≤ j ∧ j < 0 + 128 := fun j _ h => by simp only at h; omega
  have hor : ∀ j, j < 1024 → (Near (o + r.val) j
      ↔ (fun j => Near (o + r.val) j ∧ b ≤ j ∧ j < b + 512) j ∨ (fun j => j < 32) j) := fun j hj => by
    have := r.isLt
    unfold Near; simp only; omega
  have hand : ∀ j, ¬ ((fun j => Near (o + r.val) j ∧ b ≤ j ∧ j < b + 512) j ∧ (fun j => j < 32) j) := fun j h => by
    simp only at h; omega
  simp only [headOut, weightOf]
  rw [← sum_two _ _ (Near (o + r.val)) s u hor hand, ← sum_two_one _ _ (Near (o + r.val)) s hor hand,
    ← sum_masked b (by omega) _ s u (fun x => bandMask w (ix2 r x)) _ _ hm hp hs hv,
    ← sum_masked 0 (by omega) _ s u (fun x => headMask w (ix2 r x)) _ _ hg hpg hsg hvg,
    ← sum_masked_one b (by omega) _ s (fun x => bandMask w (ix2 r x)) _ hm hp hs,
    ← sum_masked_one 0 (by omega) _ s (fun x => headMask w (ix2 r x)) _ hg hpg hsg]
  pointwise [laterVal, bandExp, headExp, recip]
  rfl

/-! ## A chunk at an element -/

variable (Q : Vec Ideal S1024x1024 .bf16) (K V : Vec Ideal S8x1024x128 .bf16)

/-- A rectangle of the queries against a rectangle of the keys. -/
theorem score_part {n m : ℕ} {oq : Fin 2 → ℕ} {ok : Fin 3 → ℕ} {iq ik} (h : Fin 8) (a b : ℕ) (q0 : oq 0 = a)
    (q1 : oq 1 = 128 * h.val) (k0 : ok 0 = h.val) (k1 : ok 1 = b) (k2 : ok 2 = 0) (r : Fin n) (x : Fin m)
    (hr : a + r.val < 1024) (hx : b + x.val < 1024) :
    (∑ e : Fin 128, part Q (Rect.unit (s := S1024x1024) oq ![n, 128] iq) (ix2 r e)
        * part K (Rect.unit (s := S8x1024x128) ok ![1, m, 128] ik) (ix3 0 x e))
      = scoreOf Q K h ⟨a + r.val, hr⟩ ⟨b + x.val, hx⟩ :=
  Finset.sum_congr rfl fun e _ => congrArg₂ (· * ·)
    (congrArg Q (emb_ix2 a (128 * h.val) q0 q1 r e hr (by omega))) (congrArg K (emb_ix3 h b k0 k1 k2 x e hx))

/-- A rectangle of the values. -/
theorem value_part {m : ℕ} {ok : Fin 3 → ℕ} {ik} (h : Fin 8) (b : ℕ) (k0 : ok 0 = h.val) (k1 : ok 1 = b) (k2 : ok 2 = 0)
    (x : Fin m) (d : Fin 128) (hx : b + x.val < 1024) :
    part V (Rect.unit (s := S8x1024x128) ok ![1, m, 128] ik) (ix3 0 x d) = V (ix3 h ⟨b + x.val, hx⟩ d) :=
  congrArg V (emb_ix3 h b k0 k1 k2 x d hx)

theorem laterWords {w : BitVec 32} (hw : ChunkWord w) (hl : isLater w = 1#1) : ∃ o b : ℕ, w = BitVec.ofNat 32 o
    ∧ base w = BitVec.ofNat 32 b ∧ (256 ≤ o ∧ 128 ≤ b ∧ b + 128 ≤ o ∧ b + 512 ≤ 1024
      ∧ (o + 384 ≤ b + 512 ∨ b + 512 = 1024 ∧ o + 256 ≤ 1024))
    ∧ (Scalar.indexCast (Scalar.addi w 0#32) : Index).toNat = o ∧ (Scalar.indexCast (base w) : Index).toNat = b
    ∧ w.toNat = o := by
  rcases hw with rfl | rfl | rfl | rfl
  · exact absurd hl (by decide)
  · exact ⟨256, 128, by decide⟩
  · exact ⟨512, 384, by decide⟩
  · exact ⟨768, 512, by decide⟩

/-- A chunk's context at an element. -/
theorem chunkCtx_ix (w : BitVec 32) (hw : ChunkWord w) (r : Fin 256) (c : Fin 1024) (hr : w.toNat + r.val < 1024) :
    chunkCtx w hw Q K V (ix2 r c)
      = headOut (w.toNat + r.val) (scoreOf Q K ⟨c.val / 128, by omega⟩ ⟨w.toNat + r.val, hr⟩)
          (fun j => V (ix3 (⟨c.val / 128, by omega⟩ : Fin 8) j ⟨c.val % 128, by omega⟩)) := by
  unfold chunkCtx
  split
  case isTrue hl =>
    obtain ⟨o, b, ho, hb, hob, h1, h2, h3⟩ := laterWords hw hl
    simp only [h3]
    unfold laterCtx
    refine (congrArg (laterVal w _ _ _ _ _) (ix2_eq_valueIdx r (⟨c.val % 128, by omega⟩ : Fin 128)).symm).trans ?_
    refine laterVal_of w _ _ _ _ _ r ⟨c.val % 128, by omega⟩ o b ho hb hob _ _ ?_ ?_ ?_ ?_
    · exact fun x => score_part Q K _ o b h1 rfl rfl h2 rfl r x _ _
    · exact fun x => score_part Q K _ o 0 h1 rfl rfl rfl rfl r x _ _
    · exact fun x => value_part V _ b rfl h2 rfl x _ _
    · exact fun x => value_part V _ 0 rfl rfl rfl x _ _
  case isFalse hl =>
    have h0 : w = 0#32 := by
      rcases hw with rfl | rfl | rfl | rfl
      · rfl
      all_goals exact absurd (by decide) hl
    subst h0
    unfold firstCtx
    split
    case isTrue h =>
      refine (congrArg (globalVal _ _ _)
        (ix2_eq_valueIdx (⟨r.val, h⟩ : Fin 32) (⟨c.val % 128, by omega⟩ : Fin 128)).symm).trans ?_
      refine globalVal_of _ _ _ ⟨r.val, h⟩ ⟨c.val % 128, by omega⟩ _ _ ?_ ?_ _ (Nat.zero_add _)
      · intro j
        refine (score_part Q K _ 0 0 rfl rfl rfl rfl rfl ⟨r.val, h⟩ j (by simp only; omega) (by omega)).trans ?_
        congr 1
        exact Fin.ext (Nat.zero_add _)
      · intro j
        refine (value_part V _ 0 rfl rfl rfl j _ (by omega)).trans ?_
        congr 2
        exact Fin.ext (Nat.zero_add _)
    case isFalse h =>
      have h' : ¬ r.val < 32 := h
      have hh : 32 + (r.val - 32) = (0#32).toNat + r.val := by simp; omega
      refine (congrArg (winVal _ _ _)
        (ix2_eq_valueIdx (⟨r.val - 32, by omega⟩ : Fin 224) (⟨c.val % 128, by omega⟩ : Fin 128)).symm).trans ?_
      refine winVal_of _ _ _ ⟨r.val - 32, by omega⟩ ⟨c.val % 128, by omega⟩ _ _ ?_ ?_ _ hh.symm
      · intro x
        refine (score_part Q K _ 32 0 rfl rfl rfl rfl rfl ⟨r.val - 32, by omega⟩ x (by simp only; omega) (by omega)).trans ?_
        congr 1
        exact Fin.ext hh
      · exact fun x => value_part V _ 0 rfl rfl rfl x _ _

end Cert.KernelProof
-- ==== Proof.Inputs.lean ====
/- What a device works with, at an element of its arguments. -/
module

public import proofs.«01_k».proof.Proof.Body
public import Idealize.ShloMosaic.Lib.Pointwise

@[expose] public section

noncomputable section

namespace Cert.KernelProof

open Cert.KernelIdeal Cert.KernelIdeal.Gen
open Idealize.ShloMosaic
open scoped BigOperators

variable (c : Dev nD) (a : Args Ideal)

theorem wqF_ix (i j : Fin 1024) :
    wqF c a (ix2 i j) = a.wq (ix2 i ⟨1024 * c.val + j.val, by have : c.val < 4 := c.isLt; omega⟩) := by
  have h : k0_off1 c = ![0, 1024 * c.val] := by revert c; decide
  refine congrArg a.wq (show (Rect.unit (s := S1024x4096) (k0_off1 c) S1024x1024.size (k0_off1_inb c)).emb (ix2 i j) = _ from ?_)
  funext ax; apply Fin.ext
  match ax with
  | ⟨0, _⟩ => rw [Rect.emb_apply]; show k0_off1 c 0 + 1 * i.val = i.val; rw [h]; simp
  | ⟨1, _⟩ => show k0_off1 c 1 + 1 * j.val = 1024 * c.val + j.val; rw [h]; simp

theorem woF_ix (i j : Fin 1024) :
    woF c a (ix2 i j) = a.wo (ix2 ⟨1024 * c.val + i.val, by have : c.val < 4 := c.isLt; omega⟩ j) := by
  have h : k0_off2 c = ![1024 * c.val, 0] := by revert c; decide
  refine congrArg a.wo (show (Rect.unit (s := S4096x1024) (k0_off2 c) S1024x1024.size (k0_off2_inb c)).emb (ix2 i j) = _ from ?_)
  funext ax; apply Fin.ext
  match ax with
  | ⟨0, _⟩ => show k0_off2 c 0 + 1 * i.val = 1024 * c.val + i.val; rw [h]; simp
  | ⟨1, _⟩ => show k0_off2 c 1 + 1 * j.val = j.val; rw [h]; simp

theorem xF_ix (i j : Fin 1024) : xF a (ix2 i j) = a.x (ix3 0 i j) := by
  have h : xF a = shapeCast S1024x1024 (s := S1x1024x1024) (fun y : S1x1024x1024.Idx => a.x
      ((Rect.unit (s := S1x1024x1024) ![0, 0, 0] S1x1024x1024.size inb_S1x1024x1024_S1x1024x1024_0_0_0).emb y))
      (Shape.Squeezes.numel_eq squeezes_S1x1024x1024_S1024x1024).symm := rfl
  rw [h]
  pointwise
  refine congrArg a.x ?_
  funext ax; apply Fin.ext
  match ax with
  | ⟨0, _⟩ => rfl
  | ⟨1, _⟩ => show 0 + 1 * i.val = i.val; omega
  | ⟨2, _⟩ => show 0 + 1 * j.val = j.val; omega

/-- The rows of one head as a matrix. -/
theorem head_ix (g : Vec Ideal S1x1024x1x128 .f32) (hc : S1x1024x1x128.ShapeCasts S1024x128)
    (i : Fin 1024) (j : Fin 128) : shapeCast S1024x128 g hc (ix2 i j) = g (ix4 0 i 0 j) := by
  pointwise

theorem emb_head (h : Fin 8) (i : Fin 1024) (j : Fin 128) :
    (Rect.unit (s := S1x1024x8x128) ![0, 0, h.val, 0] S1x1024x1x128.size (inb_kx h)).emb (ix4 0 i 0 j) = ix4 0 i h j := by
  funext ax; apply Fin.ext
  match ax with
  | ⟨0, _⟩ => rfl
  | ⟨1, _⟩ => show 0 + 1 * i.val = i.val; omega
  | ⟨2, _⟩ => show h.val + 1 * 0 = h.val; omega
  | ⟨3, _⟩ => show 0 + 1 * j.val = j.val; omega

/-- An array of heads seen through one of them. -/
theorem read_head (m : Memref sig .tc .hbm S1x1024x8x128 .f32) (f : m.view.ty.Contents (Elt Ideal)) (h : Fin 8)
    (i : Fin 1024) (j : Fin 128) :
    (headX m h).view.read (Elt Ideal) f (ix2 i j) = m.view.read (Elt Ideal) f (ix4 0 i h j) := by
  have hc : S1x1024x1x128.ShapeCasts S1024x128 := (Shape.Squeezes.numel_eq squeezes_S1x1024x1x128_S1024x128).symm
  have e := Memref.read_squeeze_slice (Val := Elt Ideal) m (Rect.unit (s := S1x1024x8x128) ![0, 0, h.val, 0]
    S1x1024x1x128.size (inb_kx h)) (fun _ => rfl) squeezes_S1x1024x1x128_S1024x128 hc f
  refine (congrFun e (ix2 i j)).trans ?_
  refine (head_ix (m.view.readAt (Elt Ideal) (Rect.unit (s := S1x1024x8x128) ![0, 0, h.val, 0]
    S1x1024x1x128.size (inb_kx h)).toLoadRect f) hc i j).trans ?_
  exact congrArg (m.view.read (Elt Ideal) f) (emb_head h i j)

theorem keyF_ix (h : Fin 8) (i : Fin 1024) (j : Fin 128) : keyF a h (ix2 i j) = a.k (ix4 0 i h j) :=
  read_head bKx a.k h i j

theorem valF_ix (h : Fin 8) (i : Fin 1024) (j : Fin 128) : valF a h (ix2 i j) = a.v (ix4 0 i h j) :=
  read_head bVx a.v h i j

/-! ## Queries, keys, values and output weights -/

theorem Qof_ix (i j : Fin 1024) :
    Qof c a (ix2 i j) = (∑ t : Fin 1024, a.x (ix3 0 i t)
        * a.wq (ix2 t ⟨1024 * c.val + j.val, by have : c.val < 4 := c.isLt; omega⟩)) * Ideal.ofBits .f32 0x3DB504F3#32 := by
  simp only [← xF_ix, ← wqF_ix]
  pointwise [Qof, queryVal, narrowed]

theorem Kof_ix (h : Fin 8) (i : Fin 1024) (j : Fin 128) : Kof a (ix3 h i j) = a.k (ix4 0 i h j) :=
  (congrArg (keyF a h) (ix2_eq_valueIdx i j).symm).trans (keyF_ix a h i j)

theorem Vof_ix (h : Fin 8) (i : Fin 1024) (j : Fin 128) : Vof a (ix3 h i j) = a.v (ix4 0 i h j) :=
  (congrArg (valF a h) (ix2_eq_valueIdx i j).symm).trans (valF_ix a h i j)

theorem Wof_ix (i j : Fin 1024) :
    Wof c a (ix2 i j) = a.wo (ix2 ⟨1024 * c.val + i.val, by have : c.val < 4 := c.isLt; omega⟩ j) := by
  refine Eq.trans ?_ (woF_ix c a i j)
  pointwise [Wof, narrowed]

end Cert.KernelProof
-- ==== Proof.Output.lean ====
/- The kernel's result at an element: over the devices, each device's contexts against its rows of the output weights. -/
module

public import proofs.«01_k».proof.Proof.Values
public import proofs.«01_k».proof.Proof.Inputs
public import proofs.«01_k».proof.Proof.Launch

@[expose] public section

noncomputable section

namespace Cert.KernelProof

open Cert.KernelIdeal Cert.KernelIdeal.Gen
open Idealize.ShloMosaic
open scoped BigOperators

variable (A : Dev nD → Args Ideal)

/-- Row `i` of device `p`'s contexts. -/
def devOut (p : Dev nD) (i c : Fin 1024) : EReal :=
  headOut i.val (scoreOf (Qof p (A p)) (Kof (A p)) ⟨c.val / 128, by omega⟩ i)
    (fun j => Vof (A p) (ix3 (⟨c.val / 128, by omega⟩ : Fin 8) j ⟨c.val % 128, by omega⟩))

/-- What device `p` adds to row `i` of the result. -/
def outPart (p : Dev nD) (i n : Fin 1024) : EReal :=
  ∑ c : Fin 1024, devOut A p i c * (A p).wo (ix2 ⟨1024 * p.val + c.val, by have : p.val < 4 := p.isLt; omega⟩ n)

theorem wordOwn_toNat (t : Dev nD) : (wordOwn t).toNat = 256 * t.val := by revert t; decide

theorem devOut_at (p : Dev nD) (i : Fin 1024) {n : ℕ} (hn : n = i.val) (hn' : n < 1024) (c : Fin 1024) :
    headOut n (scoreOf (Qof p (A p)) (Kof (A p)) ⟨c.val / 128, by omega⟩ ⟨n, hn'⟩)
      (fun j => Vof (A p) (ix3 (⟨c.val / 128, by omega⟩ : Fin 8) j ⟨c.val % 128, by omega⟩)) = devOut A p i c := by
  subst hn; rfl

theorem ctxOf_ix (p t : Dev nD) (r : Fin 256) (i c : Fin 1024) (hi : 256 * t.val + r.val = i.val) :
    ctxOf A p t (ix2 r c) = devOut A p i c := by
  have e : (wordOwn t).toNat + r.val = i.val := by rw [wordOwn_toNat]; exact hi
  have hr : (wordOwn t).toNat + r.val < 1024 := by omega
  exact (chunkCtx_ix (Qof p (A p)) (Kof (A p)) (Vof (A p)) (wordOwn t) (chunkWord_own t) r c hr).trans
    (devOut_at A p i e hr c)

theorem partVal_ix (x : Vec Ideal S256x1024 .bf16) (w : Vec Ideal S1024x1024 .bf16) (r : Fin 256) (n : Fin 1024) :
    partVal x w (ix2 r n) = ∑ c : Fin 1024, x (ix2 r c) * w (ix2 c n) := by
  pointwise [partVal]

theorem partVal_dev (p t : Dev nD) (r : Fin 256) (i n : Fin 1024) (hi : 256 * t.val + r.val = i.val) :
    partVal (ctxOf A p t) (Wof p (A p)) (ix2 r n) = outPart A p i n := by
  rw [partVal_ix]
  exact Finset.sum_congr rfl fun c _ => by rw [ctxOf_ix A p t r i c hi, Wof_ix]

theorem added_ix (a b : FVec Ideal S256x1024 .f32) (r : Fin 256) (n : Fin 1024) :
    added (F := Ideal) a (truncf (F := Ideal) .bf16 b bitsLt_bf16_f32) (ix2 r n) = (a (ix2 r n) + b (ix2 r n) : EReal) := by
  pointwise [added]

/-- Whose parts a device adds, in order. -/
theorem rounds : ∀ t : Dev nD,
    (t = 0 ∧ far 2 t = 3 ∧ far 1 t = 2 ∧ far 0 t = 1) ∨ (t = 1 ∧ far 2 t = 0 ∧ far 1 t = 3 ∧ far 0 t = 2)
      ∨ (t = 2 ∧ far 2 t = 1 ∧ far 1 t = 0 ∧ far 0 t = 3) ∨ (t = 3 ∧ far 2 t = 2 ∧ far 1 t = 1 ∧ far 0 t = 0) := by
  decide

/-- In whatever order a device adds them, the four parts have one sum. -/
theorem sum_round (t : Dev nD) (f : Dev nD → EReal) : f t + f (far 2 t) + f (far 1 t) + f (far 0 t) = ∑ p, f p := by
  have h : ∑ p, f p = f 0 + f 1 + f 2 + f 3 := Fin.sum_univ_four f
  rw [h]
  rcases rounds t with ⟨h0, h1, h2, h3⟩ | ⟨h0, h1, h2, h3⟩ | ⟨h0, h1, h2, h3⟩ | ⟨h0, h1, h2, h3⟩ <;>
    rw [h3, h2, h1, h0] <;> ac_rfl

theorem sumFor_ix (t : Dev nD) (r : Fin 256) (i n : Fin 1024) (hi : 256 * t.val + r.val = i.val) :
    sumFor A t (ix2 r n) = ∑ p, outPart A p i n := by
  refine Eq.trans ?_ (sum_round t fun p => outPart A p i n)
  unfold sumFor partFor sentVal
  rw [added_ix, added_ix, added_ix]
  simp only [partVal_dev A _ t r i n hi]

theorem stacked_ix (i n : Fin 1024) : stacked (chunkOf A) (ix3 0 i n) = ∑ p, outPart A p i n := by
  have ht : i.val / 256 < 4 := by omega
  have hi : 256 * (⟨i.val / 256, ht⟩ : Dev nD).val + (⟨i.val % 256, by omega⟩ : Fin 256).val = i.val := by
    show 256 * (i.val / 256) + i.val % 256 = i.val; omega
  refine Eq.trans ?_ (sumFor_ix A ⟨i.val / 256, ht⟩ ⟨i.val % 256, by omega⟩ i n hi)
  exact congrArg (sumFor A ⟨i.val / 256, ht⟩) (ix2_eq_valueIdx (⟨i.val % 256, by omega⟩ : Fin 256) n).symm

/-- A sum over all columns, device by device. -/
theorem sum_columns (f : Fin 4096 → EReal) :
    ∑ c, f c = ∑ p : Fin 4, ∑ c : Fin 1024, f ⟨1024 * p.val + c.val, by omega⟩ := by
  rw [← Fintype.sum_prod_type']
  refine (Fintype.sum_equiv (finProdFinEquiv (m := 4) (n := 1024)) _ _ fun x => ?_).symm
  refine congrArg f (Fin.ext ?_)
  show 1024 * x.1.val + x.2.val = x.2.val + 1024 * x.1.val
  omega

end Cert.KernelProof
-- ==== Proof.Reference.lean ====
/- The reference at an element, over the extended reals. -/
module

public import proofs.«01_k».proof.Proof.Gen.ReferenceIdeal.Run
public import proofs.«01_k».proof.Proof.Mask
public import Idealize.ShloMosaic.Lib.Pointwise
public import Idealize.ShloMosaic.Lib.Routing.OpsOrder

@[expose] public section

noncomputable section

namespace Cert.ReferenceProof

open Cert.KernelProof
open Cert.ReferenceIdeal Cert.ReferenceIdeal.Gen
open Idealize.ShloMosaic Idealize.ShloMosaic.TcCoe
open scoped BigOperators

/-! ## The reference's values, in order -/

section
variable (x : FVec Ideal S1x1024x1024 .f32) (wq : FVec Ideal S1024x4096 .f32) (k v : FVec Ideal S1x1024x32x128 .f32)
  (wo : FVec Ideal S4096x1024 .f32)

/-- The mask. -/
def mask : IVec S1024x1024 1 :=
  ori (cmpi .sle (absi (subi (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))) (broadcastInDim S1024x1024 ![] bcast_S_S1024x1024 (constantI S_ 32 128#32))) (ori (broadcastInDim S1024x1024 ![0, 1] bcast_S1x1024_S1024x1024_0_1 (cmpi .slt (broadcastInDim S1x1024 ![1] bcast_S1024_S1x1024_1 (iotaInDim S1024 32 0)) (broadcastInDim S1x1024 ![] bcast_S_S1x1024 (constantI S_ 32 32#32)))) (broadcastInDim S1024x1024 ![0, 1] bcast_S1024x1_S1024x1024_0_1 (cmpi .slt (broadcastInDim S1024x1 ![0] bcast_S1024_S1024x1_0 (iotaInDim S1024 32 0)) (broadcastInDim S1024x1 ![] bcast_S_S1024x1 (constantI S_ 32 32#32)))))

/-- The rows of the mask that let some key in. -/
def keep : IVec S1024 1 := Host.reduce IntOp.ori mask (constantI S_ 1 0#1) reducesTo_S1024x1024_S1024_d1 h_S_

/-- The queries by head. -/
def query : FVec Ideal S1x1024x32x128 .f32 :=
  shapeCast _ (Host.dotGeneral dot_S1x1024x1024_S1024x4096_S1x1024x4096_2_0_01_1_n_n none x wq) shapeCasts_S1x1024x4096_S1x1024x32x128

/-- The scores. -/
def scores (q : FVec Ideal S1x1024x32x128 .f32) : FVec Ideal S1x32x1024x1024 .f32 :=
  mulf (Host.dotGeneral dot_S1x1024x32x128_S1x1024x32x128_S1x32x1024x1024_3_3_1_1_02_02 none q k) (broadcastInDim S1x32x1024x1024 ![] bcast_S_S1x32x1024x1024 (constant S_ .f32 0x3DB504F3#32))

/-- The scores with the mask. -/
def masked (s : FVec Ideal S1x32x1024x1024 .f32) : FVec Ideal S1x32x1024x1024 .f32 :=
  select (broadcastInDim S1x32x1024x1024 ![0, 1, 2, 3] bcast_S1x1x1024x1024_S1x32x1024x1024_0_1_2_3 (broadcastInDim S1x1x1024x1024 ![2, 3] bcast_S1024x1024_S1x1x1024x1024_2_3 mask)) s (broadcastInDim S1x32x1024x1024 ![] bcast_S_S1x32x1024x1024 (id (constant S_ .f32 0xFF800000#32)))

/-- The largest of each row. -/
def largest (s : FVec Ideal S1x32x1024x1024 .f32) : FVec Ideal S1x32x1024 .f32 :=
  Host.reduce FloatOps.maximumf s (constant S_ .f32 0xFF800000#32) reducesTo_S1x32x1024x1024_S1x32x1024_d3 h_S_

/-- The weights before they are normalised. -/
def weights (s : FVec Ideal S1x32x1024x1024 .f32) : FVec Ideal S1x32x1024x1024 .f32 :=
  Host.exp (subf s (broadcastInDim S1x32x1024x1024 ![0, 1, 2, 3] bcast_S1x32x1024x1_S1x32x1024x1024_0_1_2_3 (broadcastInDim S1x32x1024x1 ![0, 1, 2] bcast_S1x32x1024_S1x32x1024x1_0_1_2 (largest s))))

/-- The sums of the weights. -/
def sums (e : FVec Ideal S1x32x1024x1024 .f32) : FVec Ideal S1x32x1024x1 .f32 :=
  select (broadcastInDim S1x32x1024x1 ![0, 1, 2, 3] bcast_S1x1x1024x1_S1x32x1024x1_0_1_2_3 (broadcastInDim S1x1x1024x1 ![2] bcast_S1024_S1x1x1024x1_2 keep))
    (broadcastInDim S1x32x1024x1 ![0, 1, 2] bcast_S1x32x1024_S1x32x1024x1_0_1_2 (Host.reduceAdd e (constant S_ .f32 0x00000000#32) reducesTo_S1x32x1024x1024_S1x32x1024_d3 h_S_))
    (broadcastInDim S1x32x1024x1 ![] bcast_S_S1x32x1024x1 (id (constant S_ .f32 0x3F800000#32)))

/-- The normalised weights. -/
def normed (e : FVec Ideal S1x32x1024x1024 .f32) : FVec Ideal S1x32x1024x1024 .f32 :=
  select (broadcastInDim S1x32x1024x1024 ![0, 1, 2, 3] bcast_S1x1x1024x1_S1x32x1024x1024_0_1_2_3 (broadcastInDim S1x1x1024x1 ![2] bcast_S1024_S1x1x1024x1_2 keep))
    (Host.divf e (broadcastInDim S1x32x1024x1024 ![0, 1, 2, 3] bcast_S1x32x1024x1_S1x32x1024x1024_0_1_2_3 (sums e)))
    (broadcastInDim S1x32x1024x1024 ![] bcast_S_S1x32x1024x1024 (id (constant S_ .f32 0x00000000#32)))

/-- The contexts. -/
def context (w : FVec Ideal S1x32x1024x1024 .f32) : FVec Ideal S1x1024x4096 .f32 :=
  shapeCast _ (transpose S1x1024x32x128 [0, 3, 1, 2] (Host.dotGeneral dot_S1x1024x32x128_S1x32x1024x1024_S1x32x128x1024_1_3_3_2_02_01 none v w) transposes_S1x32x128x1024_S1x1024x32x128_0_3_1_2) shapeCasts_S1x1024x32x128_S1x1024x4096

/-- The result. -/
def answer : FVec Ideal S1x1024x1024 .bf16 :=
  truncf .bf16 (Host.dotGeneral dot_S1x1024x4096_S4096x1024_S1x1024x1024_2_0_01_1_n_n none
    (context v (normed (weights (masked (scores k (query x wq)))))) wo) bitsLt_bf16_f32

end

set_option maxRecDepth 8192 in
theorem res_eq (m : (ℓ : Loc nD τ sig) → Buf (Elt Ideal) ℓ) (c : Dev nD) :
    Value.res_main_v43 m c = answer (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) :=
  rfl

theorem ofBits_neg_inf : Ideal.ofBits .f32 0xFF800000#32 = ⊥ := by simp [Ideal.ofBits, Ideal.ieee]

theorem mask_ix (i j : Fin 1024) : mask (ix2 i j) = 1#1 ↔ Near i.val j.val := by
  pointwise [mask]
  rw [ori_bit, ori_bit, sle_word (by omega) (by omega), slt_word (by omega) (by omega), slt_word (by omega) (by omega)]
  rfl

theorem keep_ix (i : Fin 1024) : keep (ix1 i) = 1#1 := by
  pointwise [keep]
  rw [Routing.fold_ori]
  exact ⟨i, Finset.mem_univ _, (mask_ix i i).mpr (Or.inl ⟨by omega, by omega⟩)⟩

variable (x : FVec Ideal S1x1024x1024 .f32) (wq : FVec Ideal S1024x4096 .f32) (k v : FVec Ideal S1x1024x32x128 .f32)
  (wo : FVec Ideal S4096x1024 .f32)

theorem query_ix (i : Fin 1024) (h : Fin 32) (d : Fin 128) :
    query x wq (ix4 0 i h d) = ∑ t : Fin 1024, x (ix3 0 i t) * wq (ix2 t ⟨h.val * 128 + d.val, by omega⟩) := by
  pointwise [query]

theorem scores_ix (q : FVec Ideal S1x1024x32x128 .f32) (h : Fin 32) (i j : Fin 1024) :
    scores k q (ix4 0 h i j) = (∑ d : Fin 128, q (ix4 0 i h d) * k (ix4 0 j h d)) * Ideal.ofBits .f32 0x3DB504F3#32 := by
  pointwise [scores]

theorem masked_ix (s : FVec Ideal S1x32x1024x1024 .f32) (h : Fin 32) (i j : Fin 1024) :
    masked s (ix4 0 h i j) = if Near i j then s (ix4 0 h i j) else ⊥ := by
  pointwise [masked]
  by_cases hn : Near i.val j.val
  · rw [Scalar.select_of_eq_one ((mask_ix i j).mpr hn), if_pos hn]
  · rw [Scalar.select_of_ne_one (fun h' => hn ((mask_ix i j).mp h')), if_neg hn]
    exact ofBits_neg_inf

theorem largest_ix (s : FVec Ideal S1x32x1024x1024 .f32) (h : Fin 32) (i : Fin 1024) :
    largest s (ix3 0 h i) = Finset.univ.fold max ⊥ (fun j => s (ix4 0 h i j)) := by
  pointwise [largest]
  rw [ofBits_neg_inf]

theorem weights_ix (s : FVec Ideal S1x32x1024x1024 .f32) (h : Fin 32) (i j : Fin 1024) :
    weights s (ix4 0 h i j) = Ideal.exp (s (ix4 0 h i j) - largest s (ix3 0 h i)) := by
  pointwise [weights]

theorem sums_ix (s : FVec Ideal S1x32x1024x1024 .f32) (h : Fin 32) (i : Fin 1024) :
    sums s (ix4 0 h i 0) = ∑ j : Fin 1024, s (ix4 0 h i j) := by
  pointwise [sums]
  rw [keep_ix, Scalar.select_of_eq_one (show (1#1 : BitVec 1) = 1 from rfl)]

theorem normed_ix (e : FVec Ideal S1x32x1024x1024 .f32) (h : Fin 32) (i j : Fin 1024) :
    normed e (ix4 0 h i j) = Ideal.div (e (ix4 0 h i j)) (∑ j : Fin 1024, e (ix4 0 h i j)) := by
  pointwise [normed]
  rw [keep_ix, Scalar.select_of_eq_one (show (1#1 : BitVec 1) = 1 from rfl), sums_ix]

theorem context_ix (w : FVec Ideal S1x32x1024x1024 .f32) (i : Fin 1024) (c : Fin 4096) :
    context v w (ix3 0 i c) = ∑ j : Fin 1024, v (ix4 0 j ⟨c.val / 128, by omega⟩ ⟨c.val % 128, by omega⟩)
      * w (ix4 0 ⟨c.val / 128, by omega⟩ i j) := by
  pointwise [context]

theorem answer_ix (i : Fin 1024) (n : Fin 1024) :
    answer x wq k v wo (ix3 0 i n) = ∑ c : Fin 4096, context v (normed (weights (masked (scores k (query x wq))))) (ix3 0 i c)
      * wo (ix2 c n) := by
  pointwise [answer]

end Cert.ReferenceProof
-- ==== Proof.Agree.lean ====
/- The kernel's result is the reference's: both are one head's attention after another, and the sums over the columns are
   one sum. -/
module

public import proofs.«01_k».proof.Proof.Output
public import proofs.«01_k».proof.Proof.Reference
public import proofs.«01_k».proof.Proof.Finite

@[expose] public section

noncomputable section

namespace Cert.KernelProof

open Cert.KernelIdeal Cert.KernelIdeal.Gen
open Idealize.ShloMosaic
open scoped BigOperators

/-! ## One head of one row -/

theorem headOut_real (i : Fin 1024) (s : Fin 1024 → EReal) (r : Fin 1024 → ℝ) (hs : ∀ j, s j = (r j : EReal))
    (v : Fin 1024 → EReal) :
    headOut i.val s v = ∑ j, v j * Ideal.div (Ideal.exp (maskedRow (fun j : Fin 1024 => Near i.val j.val) r j
        - rowMax (fun j : Fin 1024 => Near i.val j.val) r))
      (∑ j, Ideal.exp (maskedRow (fun j : Fin 1024 => Near i.val j.val) r j
        - rowMax (fun j : Fin 1024 => Near i.val j.val) r)) := by
  obtain rfl : s = fun j => (r j : EReal) := funext hs
  exact softmax_eq (fun j : Fin 1024 => Near i.val j.val) r ⟨i, Or.inl ⟨by omega, by omega⟩⟩ v

/-- A score is a real number, and the factor may be taken out of it. -/
theorem score_real {x : Fin 1024 → EReal} {w : Fin 128 → Fin 1024 → EReal} {k : Fin 128 → EReal} {σ : EReal}
    (hx : ∀ t, ∃ r : ℝ, x t = (r : EReal)) (hw : ∀ e t, ∃ r : ℝ, w e t = (r : EReal))
    (hk : ∀ e, ∃ r : ℝ, k e = (r : EReal)) (hσ : ∃ r : ℝ, σ = (r : EReal)) :
    ∃ r : ℝ, (∑ e, (∑ t, x t * w e t) * σ * k e) = (r : EReal) ∧ (∑ e, (∑ t, x t * w e t) * k e) * σ = (r : EReal) := by
  choose X hX using hx
  choose W hW using hw
  choose K hK using hk
  obtain ⟨S, rfl⟩ := hσ
  simp only [hX, hW, hK, ← EReal.coe_mul, ← coe_sum]
  refine ⟨_, rfl, congrArg _ ?_⟩
  rw [Finset.sum_mul]
  exact Finset.sum_congr rfl fun e _ => by ring

/-! ## The two programs on the same arrays -/

/-- A device's part of an array cut by head. -/
theorem block_ix (f : FVec Ideal Cert.ReferenceIdeal.S1x1024x32x128 .f32) (p : Fin 4)
    (hT : Layout.Tiles ⟨4, ![1, 1024, 8, 128]⟩ ⟨4, ![1, 1024, 32, 128]⟩ 2 4) (j : Fin 1024) (h : Fin 8) (e : Fin 128)
    (H : Fin 32) (hH : H.val = 8 * p.val + h.val) :
    Layout.block ⟨4, ![1, 1024, 8, 128]⟩ ⟨4, ![1, 1024, 32, 128]⟩ 2 4 p f hT (ix4 0 j h e) = f (ix4 0 j H e) := by
  rw [Layout.block_apply]
  refine congrArg f ?_
  funext ax; apply Fin.ext
  match ax with
  | ⟨0, _⟩ => rfl
  | ⟨1, _⟩ => rfl
  | ⟨2, _⟩ => show p.val * 8 + h.val = H.val; omega
  | ⟨3, _⟩ => rfl

variable (A : Dev nD → Args Ideal) (x : FVec Ideal Cert.ReferenceIdeal.S1x1024x1024 .f32)
  (wq : FVec Ideal Cert.ReferenceIdeal.S1024x4096 .f32) (k v : FVec Ideal Cert.ReferenceIdeal.S1x1024x32x128 .f32)
  (wo : FVec Ideal Cert.ReferenceIdeal.S4096x1024 .f32)

/-- The devices' arguments are parts of the reference's. -/
structure Dealt : Prop where
  x_eq : ∀ p, (A p).x = x
  wq_eq : ∀ p, (A p).wq = wq
  k_eq : ∀ (p : Dev nD) (j : Fin 1024) (h : Fin 8) (e : Fin 128) (H : Fin 32), H.val = 8 * p.val + h.val →
    (A p).k (ix4 0 j h e) = k (ix4 0 j H e)
  v_eq : ∀ (p : Dev nD) (j : Fin 1024) (h : Fin 8) (e : Fin 128) (H : Fin 32), H.val = 8 * p.val + h.val →
    (A p).v (ix4 0 j h e) = v (ix4 0 j H e)
  wo_eq : ∀ p, (A p).wo = wo

/-- The arguments that enter the scores are real numbers. -/
structure Finite : Prop where
  x_real : ∀ p y, ∃ r : ℝ, (A p).x y = (r : EReal)
  wq_real : ∀ p y, ∃ r : ℝ, (A p).wq y = (r : EReal)
  k_real : ∀ p y, ∃ r : ℝ, (A p).k y = (r : EReal)

variable {A x wq k v wo} (D : Dealt A x wq k v wo) (R : Finite A)
include D R

theorem scores_agree (p : Dev nD) (h : Fin 8) (H : Fin 32) (hH : H.val = 8 * p.val + h.val) (i j : Fin 1024) :
    ∃ r : ℝ, scoreOf (Qof p (A p)) (Kof (A p)) h i j = (r : EReal)
      ∧ ReferenceProof.scores k (ReferenceProof.query x wq) (ix4 0 H i j) = (r : EReal) := by
  have hp : p.val < 4 := p.isLt
  obtain ⟨r, h1, h2⟩ := score_real (x := fun t => (A p).x (ix3 0 i t))
    (w := fun (e : Fin 128) t => (A p).wq (ix2 t ⟨1024 * p.val + (128 * h.val + e.val), by omega⟩))
    (k := fun e => (A p).k (ix4 0 j h e)) (fun t => R.x_real p _) (fun e t => R.wq_real p _) (fun e => R.k_real p _)
    FiniteProof.scale_real
  refine ⟨r, Eq.trans ?_ h1, Eq.trans ?_ h2⟩
  · unfold scoreOf
    exact Finset.sum_congr rfl fun e _ => by rw [Qof_ix, Kof_ix]
  · rw [ReferenceProof.scores_ix]
    congr 1
    refine Finset.sum_congr rfl fun e _ => ?_
    rw [ReferenceProof.query_ix, D.k_eq p j h e H hH, D.x_eq, D.wq_eq]
    congr 1
    refine Finset.sum_congr rfl fun t _ => ?_
    refine congrArg (fun c => x (ix3 0 i t) * wq (ix2 t c)) (Fin.ext ?_)
    show H.val * 128 + e.val = 1024 * p.val + (128 * h.val + e.val)
    omega

theorem context_agree (p : Dev nD) (i c : Fin 1024) (C : Fin 4096) (hC : C.val = 1024 * p.val + c.val) :
    devOut A p i c = ReferenceProof.context v (ReferenceProof.normed (ReferenceProof.weights
      (ReferenceProof.masked (ReferenceProof.scores k (ReferenceProof.query x wq))))) (ix3 0 i C) := by
  have hH : C.val / 128 = 8 * p.val + c.val / 128 := by omega
  choose r hr hr' using scores_agree D R p ⟨c.val / 128, by omega⟩ ⟨C.val / 128, by omega⟩ hH i
  have hm : ∀ j, ReferenceProof.masked (ReferenceProof.scores k (ReferenceProof.query x wq))
      (ix4 0 ⟨C.val / 128, by omega⟩ i j) = maskedRow (fun j : Fin 1024 => Near i.val j.val) r j := fun j => by
    rw [ReferenceProof.masked_ix, hr' j]; rfl
  have hl : ReferenceProof.largest (ReferenceProof.masked (ReferenceProof.scores k (ReferenceProof.query x wq)))
      (ix3 0 ⟨C.val / 128, by omega⟩ i) = rowMax (fun j : Fin 1024 => Near i.val j.val) r := by
    rw [ReferenceProof.largest_ix]
    exact congrArg (Finset.univ.fold max ⊥) (funext hm)
  rw [ReferenceProof.context_ix]
  simp only [ReferenceProof.normed_ix, ReferenceProof.weights_ix, hm, hl]
  refine (headOut_real i _ r hr _).trans (Finset.sum_congr rfl fun j _ => ?_)
  rw [Vof_ix, D.v_eq p j _ _ ⟨C.val / 128, by omega⟩ hH]
  have hd : (⟨c.val % 128, by omega⟩ : Fin 128) = ⟨C.val % 128, by omega⟩ := Fin.ext (by show c.val % 128 = C.val % 128; omega)
  rw [hd]

theorem part_agree (i n : Fin 1024) :
    ∑ p, outPart A p i n = ReferenceProof.answer x wq k v wo (ix3 0 i n) := by
  rw [ReferenceProof.answer_ix, sum_columns]
  refine Finset.sum_congr rfl fun p _ => Finset.sum_congr rfl fun c _ => ?_
  have hp : p.val < 4 := p.isLt
  rw [context_agree D R p i c ⟨1024 * p.val + c.val, by omega⟩ rfl, D.wo_eq]

/-- The two results agree. -/
theorem result_agree : stacked (chunkOf A) = ReferenceProof.answer x wq k v wo := by
  funext y
  have hy : y = ix3 0 (y 1) (y 2) := by
    funext ax
    match ax with
    | ⟨0, _⟩ => exact Subsingleton.elim (α := Fin 1) _ _
    | ⟨1, _⟩ => rfl
    | ⟨2, _⟩ => rfl
  rw [hy]
  exact (stacked_ix A (y 1) (y 2)).trans (part_agree D R (y 1) (y 2))

end Cert.KernelProof
-- ==== Proof.lean ====
/- The claims, each from the run it rests on. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.AsPrinted
public import proofs.«01_k».proof.Proof.Finite
public import proofs.«01_k».proof.Proof.Agree
public import Idealize.ShloMosaic.Adequacy
public import Idealize.ShloMosaic.Init

@[expose] public section

noncomputable section

namespace Cert.Proof

open Idealize.ShloMosaic Idealize.SL.Sem

theorem frame_kernel : Cert.quiescent_Kernel := fun m g _ => Cert.KernelProof.printed_frame m g

theorem frame_kernelIdeal : Cert.quiescent_KernelIdeal := fun m g _ =>
  (θ_run _ _ _).mono (fun _ h => ⟨fun c => (h.1 c).2, h.2⟩) (Cert.KernelProof.run_main (F := Ideal) m g)

theorem frame_referenceIdeal : Cert.quiescent_ReferenceIdeal := fun m g _ =>
  (θ_run _ _ _).mono (fun _ h => ⟨fun c => (h c).2, funext fun s => nomatch s.2⟩) (Cert.ReferenceIdeal.Value.run (F := Ideal) m g)

theorem preserves_mask : Cert.preserves_Kernel_KernelIdeal :=
  IdealRules.named_const.statement Cert.KernelIdeal.κ "mask" .f32 0xCE6E6B28#32 ⊥ rfl

theorem frame_kernelIdeal_finite : Cert.quiescent_KernelIdeal_pre_finite_KernelIdeal
    (hPre_finite_KernelIdeal := Cert.FiniteProof.kernelFacts) := fun m g _ => frame_kernelIdeal m g trivial

theorem frame_referenceIdeal_finite : Cert.quiescent_ReferenceIdeal_pre_finite_ReferenceIdeal
    (hPre_finite_ReferenceIdeal := Cert.FiniteProof.referenceFacts) := fun m g _ => frame_referenceIdeal m g trivial

theorem kernel_is_reference : Cert.algebraic_KernelIdeal_ReferenceIdeal_pre_finite_KernelIdeal
    (hPre_finite_KernelIdeal := Cert.FiniteProof.kernelFacts) := by
  intro m g m' g' hPre hIn
  have R : Cert.KernelProof.Finite (Cert.KernelProof.argsOf m) :=
    ⟨fun p => Cert.FiniteProof.real_of_less _ _ (hPre p).1, fun p => Cert.FiniteProof.real_of_less _ _ (hPre p).2.1,
      fun p => Cert.FiniteProof.real_of_less _ _ (hPre p).2.2⟩
  have D := Cert.KernelProof.Dealt.mk (A := Cert.KernelProof.argsOf m) (fun p => (hIn p).1) (fun p => (hIn p).2.1)
    (fun p j h e H hH => (congrFun (hIn p).2.2.1 _).trans (Cert.KernelProof.block_ix _ p _ j h e H hH))
    (fun p j h e H hH => (congrFun (hIn p).2.2.2.1 _).trans (Cert.KernelProof.block_ix _ p _ j h e H hH))
    (fun p => (hIn p).2.2.2.2)
  have e := (Cert.KernelProof.result_eq m).trans (Cert.KernelProof.result_agree D R)
  refine ⟨Cert.ReferenceIdeal.Value.res_main_v43 m' 0, ?_, ?_⟩
  · refine (θ_run _ _ _).mono (fun _ h c => ⟨(h.1 c).1.trans ?_, (h.1 c).2⟩) (Cert.KernelProof.run_main (F := Ideal) m g)
    rw [Cert.ReferenceProof.res_eq]
    exact e
  · exact (θ_run _ _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts,
    Cert.FiniteProof.kernelFacts, Cert.FiniteProof.referenceFacts,
    frame_kernel, frame_kernelIdeal, frame_kernelIdeal_finite, frame_referenceIdeal, frame_referenceIdeal_finite,
    preserves_mask, kernel_is_reference⟩

end Cert.Proof

end
